-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_gates_open [hPre_gates_open : Cert.Pre_gates_open.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_gates_open.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_gates_open [hPre_gates_open : Cert.Pre_gates_open.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_gates_open.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_gates_open [hKernel4Ideal : Cert.Kernel4Ideal.Facts] [hPre_gates_open : Cert.Pre_gates_open.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_gates_open m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_gates_open [hReference4Ideal : Cert.Reference4Ideal.Facts] [hPre_gates_open : Cert.Pre_gates_open.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_gates_open m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)) (v3 : (c : Dev Cert.Kernel2Ideal.nD) → Buf (Elt Ideal) ((c.tc : Thread Cert.Kernel2Ideal.nD Cert.Kernel2Ideal.τ).loc Cert.Kernel2Ideal.main_v9_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_v9_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v29) = v2 c
          ∧ r.2.mem ((c.tc : Thread Cert.Reference2Ideal.nD Cert.Reference2Ideal.τ).loc Cert.Reference2Ideal.main_v18) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "log2e" .f32 0x3FB8AA3B#32 (((Real.log 2)⁻¹ : ℝ) : EReal)
  ∧ IdealRules.named_const.Statement Cert.Kernel4Ideal.κ "neg_log2e" .f32 0xBFB8AA3B#32 (((-1) * (Real.log 2)⁻¹ : ℝ) : EReal)

def algebraic_Kernel4Ideal_Reference4Ideal_pre_gates_open [hKernel4Ideal : Cert.Kernel4Ideal.Facts] [hReference4Ideal : Cert.Reference4Ideal.Facts] [hPre_gates_open : Cert.Pre_gates_open.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_gates_open m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_gates_open : Cert.Pre_gates_open.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_gates_open (hKernel4Ideal := hKernel4Ideal) (hPre_gates_open := hPre_gates_open)
    ∧ quiescent_Reference4Ideal (hReference4Ideal := hReference4Ideal)
    ∧ quiescent_Reference4Ideal_pre_gates_open (hReference4Ideal := hReference4Ideal) (hPre_gates_open := hPre_gates_open)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_gates_open (hKernel4Ideal := hKernel4Ideal) (hReference4Ideal := hReference4Ideal) (hPre_gates_open := hPre_gates_open)
-- ==== Pre_gates_open.lean ====
abbrev S8x4096x2048 : Shape := ⟨3, ![8, 4096, 2048]⟩
abbrev S512 : Shape := ⟨1, ![512]⟩
abbrev S128 : Shape := ⟨1, ![128]⟩
abbrev S_ : Shape := ⟨0, ![]⟩
abbrev S8x4096x512 : Shape := ⟨3, ![8, 4096, 512]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  slices_S8x4096x2048_S8x4096x512_0_0_512 : S8x4096x2048.Slices ![0, 0, 512] S8x4096x512
  bcast_S_S8x4096x512 : S_.BroadcastsInDim S8x4096x512 (![] : Fin 0 → Fin S8x4096x512.rank)
  reducesTo_S8x4096x512_S_d0_1_2 : S8x4096x512.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8x4096x2048 .f32) (main_arg1 : FVec F S512 .f32) (main_arg2 : FVec F S128 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x4096x512 .f32 := (extractStridedSlice S8x4096x512 ![0, 0, 512] · slices_S8x4096x2048_S8x4096x512_0_0_512) main_arg0
  let main_cst_0 : FVec F S_ .f32 := constant S_ .f32 0xC1100000#32
  let main_v5 : FVec F S8x4096x512 .f32 := broadcastInDim S8x4096x512 ![] bcast_S_S8x4096x512 main_cst_0
  let main_v6 : IVec S8x4096x512 1 := cmpf .oge main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_cst_2 : FVec F S_ .f32 := constant S_ .f32 0x00000000#32
  let main_v9 : FVec F S512 .f32 := broadcastInDim S512 ![] bcast_S_S512 main_cst_2
  let main_v10 : IVec S512 1 := cmpf .oge main_arg1 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v8 main_v11
  let main_cst_4 : FVec F S_ .f32 := constant S_ .f32 0x3F800000#32
  let main_v13 : FVec F S512 .f32 := broadcastInDim S512 ![] bcast_S_S512 main_cst_4
  let main_v14 : IVec S512 1 := cmpf .olt main_arg1 main_v13
  let main_c_5 : IVec S_ 1 := constantI S_ 1 1#1
  let main_v15 : IVec S_ 1 := (fun x v => Host.reduce IntOp.andi x v reducesTo_S512_S_d0 h_S_) main_v14 main_c_5
  fn_part1 (F := F) main_v12 main_v15
-- ==== Kernel.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 17
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S32768x1024, .f32⟩
  | .hbm, ⟨9, _⟩ => ⟨S32768x512, .bf16⟩
  | .hbm, ⟨10, _⟩ => ⟨S32768x512, .bf16⟩
  | .hbm, ⟨11, _⟩ => ⟨S1024x1024, .bf16⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x4096, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S8x4096x1024, .bf16⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S1x1x1024, .f32⟩
  | .hbm, ⟨48, _⟩ => ⟨S8x4096x1024, .f32⟩
  | .hbm, ⟨49, _⟩ => ⟨S8x4096x1024, .f32⟩
  | .hbm, ⟨50, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x3584 : Shape := ⟨2, ![1024, 3584]⟩
abbrev S32768x1024 : Shape := ⟨2, ![32768, 1024]⟩
abbrev S1x1024 : Shape := ⟨2, ![1, 1024]⟩
abbrev S1024x512 : Shape := ⟨2, ![1024, 512]⟩
abbrev S512x1024 : Shape := ⟨2, ![512, 1024]⟩
abbrev S1024x2048 : Shape := ⟨2, ![1024, 2048]⟩
abbrev S512x32768 : Shape := ⟨2, ![512, 32768]⟩
abbrev S32768x512 : Shape := ⟨2, ![32768, 512]⟩
abbrev S128x576x256 : Shape := ⟨3, ![128, 576, 256]⟩
abbrev S32768x2048 : Shape := ⟨2, ![32768, 2048]⟩
abbrev S1024x1024 : Shape := ⟨2, ![1024, 1024]⟩
abbrev S4x576x256 : Shape := ⟨3, ![4, 576, 256]⟩
abbrev S1024x1 : Shape := ⟨2, ![1024, 1]⟩
abbrev S16x256 : Shape := ⟨2, ![16, 256]⟩
abbrev S128x256 : Shape := ⟨2, ![128, 256]⟩
abbrev S1x128x256 : Shape := ⟨3, ![1, 128, 256]⟩
abbrev S1x16x256 : Shape := ⟨3, ![1, 16, 256]⟩

abbrev nBuf : Space → Nat
  | .hbm => 16
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3584, .f32⟩
  | .hbm, ⟨3, _⟩ => ⟨S32768x1024, .f32⟩
  | .hbm, ⟨4, _⟩ => ⟨S1024x3584, .bf16⟩
  | .hbm, ⟨5, _⟩ => ⟨S1x1024, .f32⟩
  | .hbm, ⟨6, _⟩ => ⟨S1024x512, .bf16⟩
  | .hbm, ⟨7, _⟩ => ⟨S512x1024, .bf16⟩
  | .hbm, ⟨8, _⟩ => ⟨S1024x512, .bf16⟩
  | .hbm, ⟨9, _⟩ => ⟨S1024x512, .bf16⟩
  | .hbm, ⟨10, _⟩ => ⟨S512x1024, .bf16⟩
  | .hbm, ⟨11, _⟩ => ⟨S1024x2048, .bf16⟩
  | .hbm, ⟨12, _⟩ => ⟨S512x32768, .bf16⟩
  | .hbm, ⟨13, _⟩ => ⟨S32768x512, .bf16⟩
  | .hbm, ⟨14, _⟩ => ⟨S128x576x256, .bf16⟩
  | .hbm, ⟨15, _⟩ => ⟨S32768x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S512x1024, .bf16⟩
  | .local _ .vmem, ⟨4, _⟩ => ⟨S1024x512, .bf16⟩
  | .local _ .vmem, ⟨5, _⟩ => ⟨S512x1024, .bf16⟩
  | .local _ .vmem, ⟨6, _⟩ => ⟨S1024x2048, .bf16⟩
  | .local _ .vmem, ⟨7, _⟩ => ⟨S512x1024, .bf16⟩
  | .local _ .vmem, ⟨8, _⟩ => ⟨S512x1024, .bf16⟩
  | .local _ .vmem, ⟨9, _⟩ => ⟨S1024x512, .bf16⟩
  | .local _ .vmem, ⟨10, _⟩ => ⟨S1024x512, .bf16⟩
  | .local _ .vmem, ⟨11, _⟩ => ⟨S4x576x256, .bf16⟩
  | .local _ .vmem, ⟨12, _⟩ => ⟨S4x576x256, .bf16⟩
  | .local _ .vmem, ⟨13, _⟩ => ⟨S1024x2048, .f32⟩
  | .local _ .vmem, ⟨14, _⟩ => ⟨S1024x2048, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x576x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x4096x1024 : Shape := ⟨3, ![8, 4096, 1024]⟩
abbrev S1024 : Shape := ⟨1, ![1024]⟩
abbrev S1024x3584 : Shape := ⟨2, ![1024, 3584]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3584 : Shape := ⟨3, ![8, 4096, 3584]⟩
abbrev S32768x3584 : Shape := ⟨2, ![32768, 3584]⟩
abbrev S32768x512 : Shape := ⟨2, ![32768, 512]⟩
abbrev S32768x2048 : Shape := ⟨2, ![32768, 2048]⟩
abbrev S128x256x4x128 : Shape := ⟨4, ![128, 256, 4, 128]⟩
abbrev S128x4x128x256 : Shape := ⟨4, ![128, 4, 128, 256]⟩
abbrev S128x4x16x256 : Shape := ⟨4, ![128, 4, 16, 256]⟩
abbrev S128x4x144x256 : Shape := ⟨4, ![128, 4, 144, 256]⟩
abbrev S512x32768 : Shape := ⟨2, ![512, 32768]⟩
abbrev S128x576x256 : Shape := ⟨3, ![128, 576, 256]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3584, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x3584, .f32⟩
  | .hbm, ⟨20, _⟩ => ⟨S32768x3584, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x2048, .f32⟩
  | .hbm, ⟨25, _⟩ => ⟨S128x256x4x128, .f32⟩
  | .hbm, ⟨26, _⟩ => ⟨S128x4x128x256, .f32⟩
  | .hbm, ⟨27, _⟩ => ⟨S_, .f32⟩
  | .hbm, ⟨28, _⟩ => ⟨S128x4x16x256, .f32⟩
  | .hbm, ⟨29, _⟩ => ⟨S128x4x144x256, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S512x32768, .f32⟩
  | .hbm, ⟨34, _⟩ => ⟨S512x32768, .bf16⟩
  | .hbm, ⟨35, _⟩ => ⟨S32768x512, .bf16⟩
  | .hbm, ⟨36, _⟩ => ⟨S128x576x256, .f32⟩
  | .hbm, ⟨37, _⟩ => ⟨S128x576x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 17
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S32768x1024, .f32⟩
  | .hbm, ⟨9, _⟩ => ⟨S32768x512, .bf16⟩
  | .hbm, ⟨10, _⟩ => ⟨S32768x512, .bf16⟩
  | .hbm, ⟨11, _⟩ => ⟨S1024x1024, .bf16⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x4096, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x4096x1024 : Shape := ⟨3, ![8, 4096, 1024]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S8x4096x1024, .bf16⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x1024, .f32⟩
  | .hbm, ⟨33, _⟩ => ⟨S8x4096x1024, .f32⟩
  | .hbm, ⟨34, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Kernel4.lean ====
abbrev S8x4096x2048 : Shape := ⟨3, ![8, 4096, 2048]⟩
abbrev S512 : Shape := ⟨1, ![512]⟩
abbrev S128 : Shape := ⟨1, ![128]⟩
abbrev S1x512 : Shape := ⟨2, ![1, 512]⟩
abbrev S1x128 : Shape := ⟨2, ![1, 128]⟩
abbrev S8x4096x512 : Shape := ⟨3, ![8, 4096, 512]⟩
abbrev S1x2048x512 : Shape := ⟨3, ![1, 2048, 512]⟩
abbrev S4x128x128 : Shape := ⟨3, ![4, 128, 128]⟩
abbrev S64x64 : Shape := ⟨2, ![64, 64]⟩
abbrev S64x192 : Shape := ⟨2, ![64, 192]⟩
abbrev S1x256 : Shape := ⟨2, ![1, 256]⟩
abbrev S1x64x256 : Shape := ⟨3, ![1, 64, 256]⟩
abbrev S64x256 : Shape := ⟨2, ![64, 256]⟩
abbrev S192x256 : Shape := ⟨2, ![192, 256]⟩
abbrev S16x256 : Shape := ⟨2, ![16, 256]⟩
abbrev S48x256 : Shape := ⟨2, ![48, 256]⟩
abbrev S32x256 : Shape := ⟨2, ![32, 256]⟩
abbrev S64x128 : Shape := ⟨2, ![64, 128]⟩
abbrev S128x128 : Shape := ⟨2, ![128, 128]⟩
abbrev S16x128 : Shape := ⟨2, ![16, 128]⟩
abbrev S16x64 : Shape := ⟨2, ![16, 64]⟩
abbrev S1x128x128 : Shape := ⟨3, ![1, 128, 128]⟩
abbrev S64 : Shape := ⟨1, ![64]⟩
abbrev S64x1 : Shape := ⟨2, ![64, 1]⟩
abbrev S1x64x128 : Shape := ⟨3, ![1, 64, 128]⟩

abbrev nBuf : Space → Nat
  | .hbm => 10
  | .vmem => 14
  | .smem => 0
  | _ => 0

abbrev bufTy : (tb : Table) → Fin (tcTables nBuf tb) → BufTy
  | .hbm, ⟨0, _⟩ => ⟨S8x4096x2048, .f32⟩
  | .hbm, ⟨1, _⟩ => ⟨S512, .f32⟩
  | .hbm, ⟨2, _⟩ => ⟨S128, .f32⟩
  | .hbm, ⟨3, _⟩ => ⟨S512, .f32⟩
  | .hbm, ⟨4, _⟩ => ⟨S1x512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1x128, .f32⟩
  | .hbm, ⟨9, _⟩ => ⟨S8x4096x512, .bf16⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x512, .f32⟩
  | .local _ .vmem, ⟨9, _⟩ => ⟨S1x512, .f32⟩
  | .local _ .vmem, ⟨10, _⟩ => ⟨S1x128, .f32⟩
  | .local _ .vmem, ⟨11, _⟩ => ⟨S1x2048x512, .bf16⟩
  | .local _ .vmem, ⟨12, _⟩ => ⟨S1x2048x512, .bf16⟩
  | .local _ .vmem, ⟨13, _⟩ => ⟨S4x128x128, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c512_i32 : BitVec 32 := 512#32
  let v4 : BitVec 32 := Scalar.muli arg11 c512_i32
  v4
def k0_off1 (k0_t1 : Fin k0_t1_loop.trips) (c0_i32_3 : BitVec 32) : Fin 3 → Nat :=
  let c0_8 : Index := 0#32
  let c0_i32_1 : BitVec 32 := 0#32
  let c1_i32 : BitVec 32 := 1#32
  let arg11 : BitVec 32 := Scf.iv c0_i32_1 c1_i32 k0_t1
  let c512_i32 : BitVec 32 := 512#32
  let v4 : BitVec 32 := Scalar.muli arg11 c512_i32
  let v5 : BitVec 32 := v4
  let v6 : BitVec 32 := Scalar.addi v5 c0_i32_3
  let v29 : Index := Scalar.indexCast v6
  let c0_9 : Index := 0#32
  ![0, v29.toNat, 0]
def k0_off2 (k0_t1 : Fin k0_t1_loop.trips) (c0_i32_3 : BitVec 32) : Fin 3 → Nat :=
  let c0_445 : Index := 0#32
  let c0_i32_1 : BitVec 32 := 0#32
  let c1_i32 : BitVec 32 := 1#32
  let arg11 : BitVec 32 := Scf.iv c0_i32_1 c1_i32 k0_t1
  let c512_i32 : BitVec 32 := 512#32
  let v4 : BitVec 32 := Scalar.muli arg11 c512_i32
  let v5 : BitVec 32 := v4
  let v6 : BitVec 32 := Scalar.addi v5 c0_i32_3
  let v2276 : Index := Scalar.indexCast v6
  let c0_446 : Index := 0#32
  ![0, v2276.toNat, 0]
def k0_off3 (k0_t1 : Fin k0_t1_loop.trips) (c0_i32_3 : BitVec 32) : Fin 3 → Nat :=
  let c0_453 : Index := 0#32
  let c0_i32_1 : BitVec 32 := 0#32
  let c1_i32 : BitVec 32 := 1#32
  let arg11 : BitVec 32 := Scf.iv c0_i32_1 c1_i32 k0_t1
  let c512_i32 : BitVec 32 := 512#32
  let v4 : BitVec 32 := Scalar.muli arg11 c512_i32
  let v5 : BitVec 32 := v4
  let v6 : BitVec 32 := Scalar.addi v5 c0_i32_3
  let v2300 : Index := Scalar.indexCast v6
  let c128 : Index := 128#32
  ![0, v2300.toNat, 128]
def k0_off4 (k0_t1 : Fin k0_t1_loop.trips) (c0_i32_594 : BitVec 32) : Fin 3 → Nat :=
  let c0_607 : Index := 0#32
  let c0_i32_1 : BitVec 32 := 0#32
  let c1_i32 : BitVec 32 := 1#32
  let arg11 : BitVec 32 := Scf.iv c0_i32_1 c1_i32 k0_t1
  let c512_i32 : BitVec 32 := 512#32
  let v4 : BitVec 32 := Scalar.muli arg11 c512_i32
  let v5 : BitVec 32 := v4
  let v2703 : BitVec 32 := Scalar.addi v5 c0_i32_594
  let v2726 : Index := Scalar.indexCast v2703
  let c256_608 : Index := 256#32
  ![0, v2726.toNat, 256]
def k0_off5 (k0_t1 : Fin k0_t1_loop.trips) (c0_i32_594 : BitVec 32) : Fin 3 → Nat :=
  let c0_1043 : Index := 0#32
  let c0_i32_1 : BitVec 32 := 0#32
  let c1_i32 : BitVec 32 := 1#32
  let arg11 : BitVec 32 := Scf.iv c0_i32_1 c1_i32 k0_t1
  let c512_i32 : BitVec 32 := 512#32
  let v4 : BitVec 32 := Scalar.muli arg11 c512_i32
  let v5 : BitVec 32 := v4
  let v2703 : BitVec 32 := Scalar.addi v5 c0_i32_594
  let v4973 : Index := Scalar.indexCast v2703
  let c256_1044 : Index := 256#32
  ![0, v4973.toNat, 256]
def k0_off6 (k0_t1 : Fin k0_t1_loop.trips) (c0_i32_594 : BitVec 32) : Fin 3 → Nat :=
  let c0_1051 : Index := 0#32
  let c0_i32_1 : BitVec 32 := 0#32
  let c1_i32 : BitVec 32 := 1#32
  let arg11 : BitVec 32 := Scf.iv c0_i32_1 c1_i32 k0_t1
  let c512_i32 : BitVec 32 := 512#32
  let v4 : BitVec 32 := Scalar.muli arg11 c512_i32
  let v5 : BitVec 32 := v4
  let v2703 : BitVec 32 := Scalar.addi v5 c0_i32_594
  let v4997 : Index := Scalar.indexCast v2703
  let c384 : Index := 384#32
  ![0, v4997.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel4Ideal.lean ====
variable {F : FTy → Type} [FloatOps F] [Named F]
def κ : String → Option EReal := fun
  | "log2e" => some (((Real.log 2)⁻¹ : ℝ) : EReal)
  | "neg_log2e" => some (((-1) * (Real.log 2)⁻¹ : ℝ) : EReal)
  | _ => none
-- ==== Reference4Ideal.lean ====
abbrev S8x4096x2048 : Shape := ⟨3, ![8, 4096, 2048]⟩
abbrev S512 : Shape := ⟨1, ![512]⟩
abbrev S128 : Shape := ⟨1, ![128]⟩
abbrev S8x4096x512 : Shape := ⟨3, ![8, 4096, 512]⟩
abbrev S_ : Shape := ⟨0, ![]⟩
abbrev S1x1x512 : Shape := ⟨3, ![1, 1, 512]⟩
abbrev S8x4096x4x128 : Shape := ⟨4, ![8, 4096, 4, 128]⟩
abbrev S8x4x4096x128 : Shape := ⟨4, ![8, 4, 4096, 128]⟩
abbrev S4096x4096 : Shape := ⟨2, ![4096, 4096]⟩
abbrev S4096x4096x1 : Shape := ⟨3, ![4096, 4096, 1]⟩
abbrev S8x4x4096x1x128 : Shape := ⟨5, ![8, 4, 4096, 1, 128]⟩
abbrev S8x4x1x4096x128 : Shape := ⟨5, ![8, 4, 1, 4096, 128]⟩
abbrev S8x4x4096x4096x128 : Shape := ⟨5, ![8, 4, 4096, 4096, 128]⟩
abbrev S8x4x4096x4096 : Shape := ⟨4, ![8, 4, 4096, 4096]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 107
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S512, .f32⟩
  | .hbm, ⟨2, _⟩ => ⟨S128, .f32⟩
  | .hbm, ⟨3, _⟩ => ⟨S8x4096x512, .f32⟩
  | .hbm, ⟨4, _⟩ => ⟨S8x4096x512, .f32⟩
  | .hbm, ⟨5, _⟩ => ⟨S8x4096x512, .f32⟩
  | .hbm, ⟨6, _⟩ => ⟨S8x4096x512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S8x4096x512, .f32⟩
  | .hbm, ⟨11, _⟩ => ⟨S8x4096x512, .f32⟩
  | .hbm, ⟨12, _⟩ => ⟨S_, .f32⟩
  | .hbm, ⟨13, _⟩ => ⟨S8x4096x512, .f32⟩
  | .hbm, ⟨14, _⟩ => ⟨S8x4096x512, .f32⟩
  | .hbm, ⟨15, _⟩ => ⟨S_, .f32⟩
  | .hbm, ⟨16, _⟩ => ⟨S8x4096x512, .f32⟩
  | .hbm, ⟨17, _⟩ => ⟨S8x4096x512, .f32⟩
  | .hbm, ⟨18, _⟩ => ⟨S1x1x512, .f32⟩
  | .hbm, ⟨19, _⟩ => ⟨S8x4096x512, .f32⟩
  | .hbm, ⟨20, _⟩ => ⟨S8x4096x512, .f32⟩
  | .hbm, ⟨21, _⟩ => ⟨S1x1x512, .f32⟩
  | .hbm, ⟨22, _⟩ => ⟨S8x4096x512, .f32⟩
  | .hbm, ⟨23, _⟩ => ⟨S8x4096x512, .f32⟩
  | .hbm, ⟨24, _⟩ => ⟨S8x4096x4x128, .f32⟩
  | .hbm, ⟨25, _⟩ => ⟨S8x4x4096x128, .f32⟩
  | .hbm, ⟨26, _⟩ => ⟨S8x4096x512, .f32⟩
  | .hbm, ⟨27, _⟩ => ⟨S8x4096x512, .f32⟩
  | .hbm, ⟨28, _⟩ => ⟨S_, .f32⟩
  | .hbm, ⟨29, _⟩ => ⟨S8x4096x512, .f32⟩
  | .hbm, ⟨30, _⟩ => ⟨S8x4096x512, .f32⟩
  | .hbm, ⟨31, _⟩ => ⟨S_, .f32⟩
  | .hbm, ⟨32, _⟩ => ⟨S8x4096x512, .f32⟩
  | .hbm, ⟨33, _⟩ => ⟨S8x4096x512, .f32⟩
  | .hbm, ⟨34, _⟩ => ⟨S8x4096x512, .f32⟩
  | .hbm, ⟨35, _⟩ => ⟨S8x4096x4x128, .f32⟩
  | .hbm, ⟨36, _⟩ => ⟨S8x4x4096x128, .f32⟩
  | .hbm, ⟨37, _⟩ => ⟨S8x4096x4x128, .f32⟩
  | .hbm, ⟨38, _⟩ => ⟨S8x4x4096x128, .f32⟩
  | .hbm, ⟨39, _⟩ => ⟨S8x4x4096x128, .f32⟩
  | .hbm, ⟨40, _⟩ => ⟨S_, .f32⟩
  | .hbm, ⟨41, _⟩ => ⟨S_, .f32⟩
  | .hbm, ⟨42, _⟩ => ⟨S8x4x4096x128, .f32⟩
  | .hbm, ⟨43, _⟩ => ⟨S_, .i1⟩
  | .hbm, ⟨44, _⟩ => ⟨S4096x4096, .i1⟩
  | .hbm, ⟨45, _⟩ => ⟨S4096x4096, .i32⟩
  | .hbm, ⟨46, _⟩ => ⟨S_, .i32⟩
  | .hbm, ⟨47, _⟩ => ⟨S4096x4096, .i32⟩
  | .hbm, ⟨48, _⟩ => ⟨S4096x4096, .i32⟩
  | .hbm, ⟨49, _⟩ => ⟨S4096x4096, .i32⟩
  | .hbm, ⟨50, _⟩ => ⟨S4096x4096, .i1⟩
  | .hbm, ⟨51, _⟩ => ⟨S_, .i1⟩
  | .hbm, ⟨52, _⟩ => ⟨S4096x4096, .i1⟩
  | .hbm, ⟨53, _⟩ => ⟨S4096x4096, .i1⟩
  | .hbm, ⟨54, _⟩ => ⟨S4096x4096x1, .i1⟩
  | .hbm, ⟨55, _⟩ => ⟨S8x4x4096x1x128, .f32⟩
  | .hbm, ⟨56, _⟩ => ⟨S8x4x1x4096x128, .f32⟩
  | .hbm, ⟨57, _⟩ => ⟨S8x4x4096x4096x128, .f32⟩
  | .hbm, ⟨58, _⟩ => ⟨S8x4x4096x4096x128, .f32⟩
  | .hbm, ⟨59, _⟩ => ⟨S8x4x4096x4096x128, .f32⟩
  | .hbm, ⟨60, _⟩ => ⟨S_, .f32⟩
  | .hbm, ⟨61, _⟩ => ⟨S_, .f32⟩
  | .hbm, ⟨62, _⟩ => ⟨S8x4x4096x4096x128, .i1⟩
  | .hbm, ⟨63, _⟩ => ⟨S8x4x4096x4096x128, .f32⟩
  | .hbm, ⟨64, _⟩ => ⟨S8x4x4096x4096x128, .f32⟩
  | .hbm, ⟨65, _⟩ => ⟨S8x4x4096x4096x128, .f32⟩
  | .hbm, ⟨66, _⟩ => ⟨S8x4x4096x1x128, .f32⟩
  | .hbm, ⟨67, _⟩ => ⟨S8x4x4096x4096x128, .f32⟩
  | .hbm, ⟨68, _⟩ => ⟨S8x4x4096x4096x128, .f32⟩
  | .hbm, ⟨69, _⟩ => ⟨S_, .f32⟩
  | .hbm, ⟨70, _⟩ => ⟨S8x4x4096x128, .f32⟩
  | .hbm, ⟨71, _⟩ => ⟨S8x4x4096x128, .f32⟩
  | .hbm, ⟨72, _⟩ => ⟨S8x4x1x4096x128, .f32⟩
  | .hbm, ⟨73, _⟩ => ⟨S8x4x4096x4096x128, .f32⟩
  | .hbm, ⟨74, _⟩ => ⟨S8x4x4096x4096x128, .f32⟩
  | .hbm, ⟨75, _⟩ => ⟨S_, .f32⟩
  | .hbm, ⟨76, _⟩ => ⟨S8x4x4096x4096, .f32⟩
  | .hbm, ⟨77, _⟩ => ⟨S8x4x4096x128, .f32⟩
  | .hbm, ⟨78, _⟩ => ⟨S8x4096x4x128, .f32⟩
  | .hbm, ⟨79, _⟩ => ⟨S8x4096x4x128, .f32⟩
  | .hbm, ⟨80, _⟩ => ⟨S_, .f32⟩
  | .hbm, ⟨81, _⟩ => ⟨S8x4096x4, .f32⟩
  | .hbm, ⟨82, _⟩ => ⟨S8x4096x4x1, .f32⟩
  | .hbm, ⟨83, _⟩ => ⟨S_, .f32⟩
  | .hbm, ⟨84, _⟩ => ⟨S8x4096x4x1, .f32⟩
  | .hbm, ⟨85, _⟩ => ⟨S8x4096x4x1, .f32⟩
  | .hbm, ⟨86, _⟩ => ⟨S_, .f32⟩
  | .hbm, ⟨87, _⟩ => ⟨S8x4096x4x1, .f32⟩
  | .hbm, ⟨88, _⟩ => ⟨S8x4096x4x1, .f32⟩
  | .hbm, ⟨89, _⟩ => ⟨S8x4096x4x1, .f32⟩
  | .hbm, ⟨90, _⟩ => ⟨S8x4096x4x128, .f32⟩
  | .hbm, ⟨91, _⟩ => ⟨S8x4096x4x128, .f32⟩
  | .hbm, ⟨92, _⟩ => ⟨S1x1x1x128, .f32⟩
  | .hbm, ⟨93, _⟩ => ⟨S8x4096x4x128, .f32⟩
  | .hbm, ⟨94, _⟩ => ⟨S8x4096x4x128, .f32⟩
  | .hbm, ⟨95, _⟩ => ⟨S8x4096x512, .f32⟩
  | .hbm, ⟨96, _⟩ => ⟨S8x4096x512, .f32⟩
  | .hbm, ⟨97, _⟩ => ⟨S8x4096x512, .f32⟩
  | .hbm, ⟨98, _⟩ => ⟨S_, .f32⟩
  | .hbm, ⟨99, _⟩ => ⟨S8x4096x512, .f32⟩
  | .hbm, ⟨100, _⟩ => ⟨S8x4096x512, .f32⟩
  | .hbm, ⟨101, _⟩ => ⟨S_, .f32⟩
  | .hbm, ⟨102, _⟩ => ⟨S8x4096x512, .f32⟩
  | .hbm, ⟨103, _⟩ => ⟨S8x4096x512, .f32⟩
  | .hbm, ⟨104, _⟩ => ⟨S8x4096x512, .f32⟩
  | .hbm, ⟨105, _⟩ => ⟨S8x4096x512, .f32⟩
  | .hbm, ⟨106, _⟩ => ⟨S8x4096x512, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_call0_cst : Ref sig .tc := ⟨.hbm, 40, rfl⟩
abbrev main_call1_call0_v0 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_c_0 : Ref sig .tc := ⟨.hbm, 51, rfl⟩
abbrev main_call2_v5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_2 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_3 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_4 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_5 : Ref sig .tc := ⟨.hbm, 80, rfl⟩
abbrev main_v49 : Ref sig .tc := ⟨.hbm, 81, rfl⟩
abbrev main_v50 : Ref sig .tc := ⟨.hbm, 82, rfl⟩
abbrev main_cst_6 : Ref sig .tc := ⟨.hbm, 83, rfl⟩
abbrev main_v51 : Ref sig .tc := ⟨.hbm, 84, rfl⟩
abbrev main_v52 : Ref sig .tc := ⟨.hbm, 85, rfl⟩
abbrev main_cst_7 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call4_v0 : Ref sig .tc := ⟨.hbm, 96, rfl⟩
abbrev main_call4_v1 : Ref sig .tc := ⟨.hbm, 97, rfl⟩
abbrev main_call4_cst : Ref sig .tc := ⟨.hbm, 98, rfl⟩
abbrev main_call4_v2 : Ref sig .tc := ⟨.hbm, 99, rfl⟩
abbrev main_call4_v3 : Ref sig .tc := ⟨.hbm, 100, rfl⟩
abbrev main_call4_cst_0 : Ref sig .tc := ⟨.hbm, 101, rfl⟩
abbrev main_call4_v4 : Ref sig .tc := ⟨.hbm, 102, rfl⟩
abbrev main_call4_v5 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩

abbrev nD : Nat := 1
abbrev τ : Topo := Topo.v7x

variable {F : FTy → Type} [FloatOps F]
-- ==== Proof.Rows.lean ====
/- What the layer computes for one row of 1024 numbers, over the extended reals: the root mean square normalisation, the
   residual sum after the output projection, the squared rectifier of the up projection, and the row of the layer's
   result. Both programs of the projection and perceptron call are read down to these functions. -/
module

public import Idealize.ShloMosaic.Lib.Pointwise

@[expose] public section

noncomputable section

namespace Cert.Rows

open Idealize.ShloMosaic

/-- One over the root of the mean square of a row, the mean shifted by the norm's small constant. -/
def invRms (h : Fin 1024 → EReal) : EReal :=
  Ideal.rsqrt (Ideal.div (∑ k, h k * h k) (Ideal.ofBits FTy.f32 0x44800000#32) + Ideal.ofBits FTy.f32 0x358637BD#32)

/-- Entry `c` of the row `h` normalised, with gain `g`. -/
def normed (h g : Fin 1024 → EReal) (c : Fin 1024) : EReal := h c * invRms h * g c

/-- Entry `c` of the residual row: the row `x` plus the output projection of the two halves laid side by side. -/
def resid (x : Fin 1024 → EReal) (oa oh : Fin 512 → EReal) (w : Fin 1024 → Fin 1024 → EReal) (c : Fin 1024) : EReal :=
  x c + ∑ k : Fin 512, oa k * w ⟨k, by omega⟩ c + ∑ k : Fin 512, oh k * w ⟨512 + k, by omega⟩ c

/-- Entry `n` of the hidden row: the up projection of `y`, its positive part squared. -/
def hidden (y : Fin 1024 → EReal) (u : Fin 1024 → Fin 4096 → EReal) (n : Fin 4096) : EReal :=
  max (∑ k, y k * u k n) 0 * max (∑ k, y k * u k n) 0

/-- Entry `c` of the row the layer's second half leaves, before its last normalisation. -/
def after (h g : Fin 1024 → EReal) (u : Fin 1024 → Fin 4096 → EReal) (d : Fin 4096 → Fin 1024 → EReal) (c : Fin 1024) : EReal :=
  h c + ∑ n, hidden (normed h g) u n * d n c

end Cert.Rows

end
-- ==== Proof.MlpBlock.lean ====
/- What one grid point of the projection and perceptron kernel leaves in its block, read at an index: the row function of
   `Rows.lean` at the rows of the point's input blocks. -/
module

public import proofs.«01_k».proof.Proof.Gen.KernelIdeal.Value
public import proofs.«01_k».proof.Proof.Rows
public import Idealize.ShloMosaic.Lib.Pointwise

@[expose] public section

set_option maxRecDepth 16384

noncomputable section

namespace Cert.KernelIdeal.Block

open Cert.KernelIdeal Cert.KernelIdeal.Gen Cert.Rows Idealize.ShloMosaic Idealize.ShloMosaic.TcCoe Idealize.SL.Sem
open Idealize.ShloMosaic.Pipeline (Dat)

/-- Row `r` of a matrix. -/
abbrev rowOf {a b : ℕ} (X : (⟨2, ![a, b]⟩ : Shape).Idx → EReal) (r : Fin a) : Fin b → EReal := fun k => X (ix2 r k)

/-- The matrix as a function of its two coordinates. -/
abbrev mat {a b : ℕ} (X : (⟨2, ![a, b]⟩ : Shape).Idx → EReal) : Fin a → Fin b → EReal := fun i k => X (ix2 i k)

section Payloads

variable (x : Vec Ideal S1024x1024 .f32) (oa oh : Vec Ideal S1024x512 .bf16) (w : Vec Ideal S1024x1024 .bf16)
  (g fg : Vec Ideal S1x1024 .f32) (u : Vec Ideal S1024x4096 .bf16) (d : Vec Ideal S4096x1024 .bf16)

/-- The residual row of block row `r`. -/
abbrev resRow (r : Fin 1024) : Fin 1024 → EReal := resid (rowOf x r) (rowOf oa r) (rowOf oh r) (mat w)

/-- The first stored value is the residual row. -/
theorem pay3_apply (r c : Fin 1024) :
    k0_pay3 x oa (View.ld w (Rect.unit ![0, 0] ![512, 1024] inb_S1024x1024_S512x1024_0_0)) oh
      (View.ld w (Rect.unit ![512, 0] ![512, 1024] inb_S1024x1024_S512x1024_512_0)) (ix2 r c) = resRow x oa oh w r c := by
  rw [View.ld_unit, View.ld_unit]
  pointwise [k0_pay3]
  unfold resRow resid
  rfl

/-- The normalised residual row. -/
theorem pay4_apply (r c : Fin 1024) :
    k0_pay4 x oa (View.ld w (Rect.unit ![0, 0] ![512, 1024] inb_S1024x1024_S512x1024_0_0)) oh
      (View.ld w (Rect.unit ![512, 0] ![512, 1024] inb_S1024x1024_S512x1024_512_0)) g (ix2 r c)
      = normed (resRow x oa oh w r) (rowOf g 0) c := by
  pointwise [k0_pay4]
  simp only [pay3_apply]
  rfl

/-- What the scratch holds once its eight column tiles are stored: the hidden row of every row of the block. -/
def scratch (y : FVec Ideal S1024x1024 .bf16) : Vec Ideal S1024x4096 .bf16 :=
  fun i => hidden (rowOf y (i 0)) (mat u) (i 1)

/-- The tile stored from column 512 on. -/
theorem tile_512 (y : FVec Ideal S1024x1024 .bf16) (r : Fin 1024) (c : Fin 512) :
    k0_pay7 y (View.ld u (Rect.unit ![0, 512] ![1024, 512] inb_S1024x4096_S1024x512_0_512)) (ix2 r c)
      = scratch u y (ix2 r ⟨512 + c, by omega⟩) := by
  rw [View.ld_unit]
  pointwise [k0_pay7]
  rfl

/-- The tile stored from column 1024 on. -/
theorem tile_1024 (y : FVec Ideal S1024x1024 .bf16) (r : Fin 1024) (c : Fin 512) :
    k0_pay8 y (View.ld u (Rect.unit ![0, 1024] ![1024, 512] inb_S1024x4096_S1024x512_0_1024)) (ix2 r c)
      = scratch u y (ix2 r ⟨1024 + c, by omega⟩) := by
  rw [View.ld_unit]
  pointwise [k0_pay8]
  rfl

/-- The tile stored from column 1536 on. -/
theorem tile_1536 (y : FVec Ideal S1024x1024 .bf16) (r : Fin 1024) (c : Fin 512) :
    k0_pay9 y (View.ld u (Rect.unit ![0, 1536] ![1024, 512] inb_S1024x4096_S1024x512_0_1536)) (ix2 r c)
      = scratch u y (ix2 r ⟨1536 + c, by omega⟩) := by
  rw [View.ld_unit]
  pointwise [k0_pay9]
  rfl

/-- The tile stored from column 2048 on. -/
theorem tile_2048 (y : FVec Ideal S1024x1024 .bf16) (r : Fin 1024) (c : Fin 512) :
    k0_pay11 y (k0_pay10 (View.ld u (Rect.unit ![0, 2048] ![1024, 512] inb_S1024x4096_S1024x512_0_2048))) (constant S1024x512 FTy.f32 0#32) (ix2 r c)
      = scratch u y (ix2 r ⟨2048 + c, by omega⟩) := by
  rw [View.ld_unit]
  pointwise [k0_pay11, k0_pay10]
  rfl

/-- The tile stored from column 2560 on. -/
theorem tile_2560 (y : FVec Ideal S1024x1024 .bf16) (r : Fin 1024) (c : Fin 512) :
    k0_pay12 y (View.ld u (Rect.unit ![0, 2560] ![1024, 512] inb_S1024x4096_S1024x512_0_2560)) (ix2 r c)
      = scratch u y (ix2 r ⟨2560 + c, by omega⟩) := by
  rw [View.ld_unit]
  pointwise [k0_pay12]
  rfl

/-- The tile stored from column 3072 on. -/
theorem tile_3072 (y : FVec Ideal S1024x1024 .bf16) (r : Fin 1024) (c : Fin 512) :
    k0_pay13 y (View.ld u (Rect.unit ![0, 3072] ![1024, 512] inb_S1024x4096_S1024x512_0_3072)) (ix2 r c)
      = scratch u y (ix2 r ⟨3072 + c, by omega⟩) := by
  rw [View.ld_unit]
  pointwise [k0_pay13]
  rfl

/-- The tile stored from column 3584 on. -/
theorem tile_3584 (y : FVec Ideal S1024x1024 .bf16) (r : Fin 1024) (c : Fin 512) :
    k0_pay1 (k0_pay14 y (View.ld u (Rect.unit ![0, 3584] ![1024, 512] inb_S1024x4096_S1024x512_0_3584))) (ix2 r c)
      = scratch u y (ix2 r ⟨3584 + c, by omega⟩) := by
  rw [View.ld_unit]
  pointwise [k0_pay1, k0_pay14]
  rfl

/-- The first tile, stored from column 0 on. -/
theorem tile_0 (a1 : Vec Ideal S1024x1024 .f32) (a2 a4 : Vec Ideal S1024x512 .bf16) (a3 a5 : Vec Ideal S512x1024 .bf16)
    (a6 : Vec Ideal S1x1024 .f32) (r : Fin 1024) (c : Fin 512) :
    k0_pay6 (k0_pay5 a1 a2 a3 a4 a5 a6 (View.ld u (Rect.unit ![0, 0] ![1024, 512] inb_S1024x4096_S1024x512_0_0))) (ix2 r c)
      = scratch u (k0_pay4 a1 a2 a3 a4 a5 a6) (ix2 r ⟨0 + c, by omega⟩) := by
  rw [View.ld_unit]
  pointwise [k0_pay6, k0_pay5]
  rfl

/-- The last stored value: the residual row plus the down projection of the scratch, normalised. -/
theorem pay2_apply (h : FVec Ideal S1024x1024 .f32) (s : Vec Ideal S1024x4096 .bf16) (r c : Fin 1024) :
    k0_pay2 h s d fg (ix2 r c)
      = normed (fun j => h (ix2 r j) + ∑ n, s (ix2 r n) * d (ix2 n j)) (rowOf fg 0) c := by
  pointwise [k0_pay2]
  rfl

end Payloads

section Point

variable (m : (ℓ : Loc nD τ sig) → Buf (Elt Ideal) ℓ)

theorem zero2 : (![0, 0] : Fin 2 → Nat) = fun _ => 0 := funext fun a => by fin_cases a <;> rfl

/-- Where a column tile's index sits in the scratch. -/
theorem place (o : ℕ) (inb) (ho : o + 512 ≤ 4096) (i : S1024x512.Idx) :
    (Rect.unit (s := S1024x4096) ![0, o] ![1024, 512] inb).emb i = ix2 (i 0) ⟨o + i 1, by have : (i 1 : ℕ) < 512 := (i 1).isLt; omega⟩ := by
  funext a
  apply Fin.ext
  fin_cases a
  · show 0 + 1 * (i 0 : ℕ) = i 0; omega
  · show o + 1 * (i 1 : ℕ) = o + i 1; omega

/-- The scratch's eight tiles, read back whole. -/
theorem scratch_read (v : View sig .tc .vmem S1024x4096 .bf16) (x : Vec Ideal S1024x1024 .f32) (a2 a4 : Vec Ideal S1024x512 .bf16)
    (a3 a5 : Vec Ideal S512x1024 .bf16) (a6 : Vec Ideal S1x1024 .f32) (u : Vec Ideal S1024x4096 .bf16) :
    View.readCov (Val := Elt Ideal) v
      [⟨Rect.unit ![0, 3584] ![1024, 512] inb_S1024x4096_S1024x512_0_3584,
          k0_pay1 (k0_pay14 (k0_pay4 x a2 a3 a4 a5 a6) (View.ld u (Rect.unit ![0, 3584] ![1024, 512] inb_S1024x4096_S1024x512_0_3584)))⟩,
       ⟨Rect.unit ![0, 3072] ![1024, 512] inb_S1024x4096_S1024x512_0_3072,
          k0_pay13 (k0_pay4 x a2 a3 a4 a5 a6) (View.ld u (Rect.unit ![0, 3072] ![1024, 512] inb_S1024x4096_S1024x512_0_3072))⟩,
       ⟨Rect.unit ![0, 2560] ![1024, 512] inb_S1024x4096_S1024x512_0_2560,
          k0_pay12 (k0_pay4 x a2 a3 a4 a5 a6) (View.ld u (Rect.unit ![0, 2560] ![1024, 512] inb_S1024x4096_S1024x512_0_2560))⟩,
       ⟨Rect.unit ![0, 2048] ![1024, 512] inb_S1024x4096_S1024x512_0_2048,
          k0_pay11 (k0_pay4 x a2 a3 a4 a5 a6) (k0_pay10 (View.ld u (Rect.unit ![0, 2048] ![1024, 512] inb_S1024x4096_S1024x512_0_2048))) (constant S1024x512 FTy.f32 0#32)⟩,
       ⟨Rect.unit ![0, 1536] ![1024, 512] inb_S1024x4096_S1024x512_0_1536,
          k0_pay9 (k0_pay4 x a2 a3 a4 a5 a6) (View.ld u (Rect.unit ![0, 1536] ![1024, 512] inb_S1024x4096_S1024x512_0_1536))⟩,
       ⟨Rect.unit ![0, 1024] ![1024, 512] inb_S1024x4096_S1024x512_0_1024,
          k0_pay8 (k0_pay4 x a2 a3 a4 a5 a6) (View.ld u (Rect.unit ![0, 1024] ![1024, 512] inb_S1024x4096_S1024x512_0_1024))⟩,
       ⟨Rect.unit ![0, 512] ![1024, 512] inb_S1024x4096_S1024x512_0_512,
          k0_pay7 (k0_pay4 x a2 a3 a4 a5 a6) (View.ld u (Rect.unit ![0, 512] ![1024, 512] inb_S1024x4096_S1024x512_0_512))⟩,
       ⟨Rect.unit ![0, 0] ![1024, 512] inb_S1024x4096_S1024x512_0_0,
          k0_pay6 (k0_pay5 x a2 a3 a4 a5 a6 (View.ld u (Rect.unit ![0, 0] ![1024, 512] inb_S1024x4096_S1024x512_0_0)))⟩]
      (Rect.unit ![0, 0] ![1024, 4096] inb_S1024x4096_S1024x4096_0_0).toLoadRect
      = scratch u (k0_pay4 x a2 a3 a4 a5 a6) := by
  rw [View.readCov_eq_canon']
  funext j
  have hj : (Rect.unit ![0, 0] ![1024, 4096] inb_S1024x4096_S1024x4096_0_0).toLoadRect.idx j = j := by
    funext a; apply Fin.ext; fin_cases a <;> simp [Rect.toLoadRect, LoadRect.idx, Rect.unit]
  rw [hj]
  refine View.canon_apply_of_pieces (scratch u (k0_pay4 x a2 a3 a4 a5 a6)) _ ?_ j
    (View.cover_of_tiledL _ ![1024, 512] (by sl_kernel_rfl) j)
  intro p hp
  simp only [List.mem_cons, List.not_mem_nil, or_false] at hp
  rcases hp with rfl | rfl | rfl | rfl | rfl | rfl | rfl | rfl <;> intro i <;> rw [place _ _ (by decide)]
  · exact (congrArg _ (eq_ix2 i)).trans (tile_3584 u _ _ _)
  · exact (congrArg _ (eq_ix2 i)).trans (tile_3072 u _ _ _)
  · exact (congrArg _ (eq_ix2 i)).trans (tile_2560 u _ _ _)
  · exact (congrArg _ (eq_ix2 i)).trans (tile_2048 u _ _ _)
  · exact (congrArg _ (eq_ix2 i)).trans (tile_1536 u _ _ _)
  · exact (congrArg _ (eq_ix2 i)).trans (tile_1024 u _ _ _)
  · exact (congrArg _ (eq_ix2 i)).trans (tile_512 u _ _ _)
  · exact (congrArg _ (eq_ix2 i)).trans (tile_0 u _ _ _ _ _ _ _ _)

/-- The value a point stores, over its loaded blocks. -/
theorem value_eq (x : Vec Ideal S1024x1024 .f32) (oa oh : Vec Ideal S1024x512 .bf16) (w : Vec Ideal S1024x1024 .bf16)
    (g fg : Vec Ideal S1x1024 .f32) (u : Vec Ideal S1024x4096 .bf16) (d : Vec Ideal S4096x1024 .bf16) (r j : Fin 1024) :
    k0_pay2
      (k0_pay3 (View.ld x (Rect.unit ![0, 0] ![1024, 1024] inb_S1024x1024_S1024x1024_0_0))
        (View.ld oa (Rect.unit ![0, 0] ![1024, 512] inb_S1024x512_S1024x512_0_0))
        (View.ld w (Rect.unit ![0, 0] ![512, 1024] inb_S1024x1024_S512x1024_0_0))
        (View.ld oh (Rect.unit ![0, 0] ![1024, 512] inb_S1024x512_S1024x512_0_0))
        (View.ld w (Rect.unit ![512, 0] ![512, 1024] inb_S1024x1024_S512x1024_512_0)))
      (scratch u
        (k0_pay4 (View.ld x (Rect.unit ![0, 0] ![1024, 1024] inb_S1024x1024_S1024x1024_0_0))
          (View.ld oa (Rect.unit ![0, 0] ![1024, 512] inb_S1024x512_S1024x512_0_0))
          (View.ld w (Rect.unit ![0, 0] ![512, 1024] inb_S1024x1024_S512x1024_0_0))
          (View.ld oh (Rect.unit ![0, 0] ![1024, 512] inb_S1024x512_S1024x512_0_0))
          (View.ld w (Rect.unit ![512, 0] ![512, 1024] inb_S1024x1024_S512x1024_512_0))
          (View.ld g (Rect.unit ![0, 0] ![1, 1024] inb_S1x1024_S1x1024_0_0))))
      (View.ld d (Rect.unit ![0, 0] ![4096, 1024] inb_S4096x1024_S4096x1024_0_0))
      (View.ld fg (Rect.unit ![0, 0] ![1, 1024] inb_S1x1024_S1x1024_0_0)) (ix2 r j)
      = normed (after (resRow x oa oh w r) (rowOf g 0) (mat u) (mat d)) (rowOf fg 0) j := by
  rw [pay2_apply, View.ld_unit_zero (S := S1024x1024) zero2 _ x, View.ld_unit_zero (S := S1024x512) zero2 _ oa,
    View.ld_unit_zero (S := S1024x512) zero2 _ oh, View.ld_unit_zero (S := S1x1024) zero2 _ g,
    View.ld_unit_zero (S := S1x1024) zero2 _ fg, View.ld_unit_zero (S := S4096x1024) zero2 _ d]
  simp only [pay3_apply]
  have e : rowOf (k0_pay4 x oa (View.ld w (Rect.unit ![0, 0] ![512, 1024] inb_S1024x1024_S512x1024_0_0)) oh
      (View.ld w (Rect.unit ![512, 0] ![512, 1024] inb_S1024x1024_S512x1024_512_0)) g) r
      = normed (resRow x oa oh w r) (rowOf g 0) := funext fun k => pay4_apply x oa oh w g r k
  unfold scratch after
  rw [← e]
  rfl

/-- What point `t` leaves in its block: the layer's row function at the block's rows. -/
theorem outs_eq (c : Dev nD) (t : Fin cfg0.N) (r j : Fin 1024) : outsAt0 m c t (ix2 r j)
    = normed (after (resRow (iblk m c 0 t) (iblk m c 1 t) (iblk m c 2 t) (iblk m c 3 t) r) (rowOf (iblk m c 4 t) 0)
        (mat (iblk m c 5 t)) (mat (iblk m c 6 t))) (rowOf (iblk m c 7 t) 0) j := by
  unfold outsAt0 out0_A_8
  rw [View.read_writes_eq_canon _ _ _ (cover0_A_8 c _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero zero2, scratch_read]
  exact value_eq _ _ _ _ _ _ _ _ r j

end Point

end Cert.KernelIdeal.Block
-- ==== Proof.MlpArray.lean ====
/- The array the projection and perceptron kernel leaves, as one function of its eight arguments: the thirty-two blocks of
   1024 rows cover it, and each row of it is the row function of `Rows.lean` at the same row of the arguments. -/
module

public import proofs.«01_k».proof.Proof.MlpBlock
public import Idealize.ShloMosaic.Lib.StableHlo.ReadAt
public import Idealize.ShloMosaic.Lib.Pipeline.ValueKit.Point

@[expose] public section

set_option maxRecDepth 16384

noncomputable section

namespace Cert.KernelIdeal.Block

open Cert.KernelIdeal Cert.KernelIdeal.Gen Cert.Rows Idealize.ShloMosaic Idealize.ShloMosaic.TcCoe Idealize.SL.Sem
open Idealize.ShloMosaic.Pipeline (Dat)

/-- Row `R` of an array of 8 sequences of 4096 rows. -/
abbrev row3 {b : ℕ} (X : (⟨3, ![8, 4096, b]⟩ : Shape).Idx → EReal) (R : Fin 32768) : Fin b → EReal :=
  fun k => X (ix3 ⟨R / 4096, by omega⟩ ⟨R % 4096, by omega⟩ k)

/-- The layer's result, row by row, as a function of the eight arguments. -/
def value (x : Vec Ideal S8x4096x1024 .f32) (oa oh : Vec Ideal S8x4096x512 .bf16) (w : Vec Ideal S1024x1024 .f32)
    (g : Vec Ideal S1024 .f32) (u : Vec Ideal S1024x4096 .f32) (d : Vec Ideal S4096x1024 .f32) (fg : Vec Ideal S1024 .f32) :
    Vec Ideal S32768x1024 .f32 :=
  fun i => normed (after (resid (row3 x (i 0)) (row3 oa (i 0)) (row3 oh (i 0)) (mat w)) (fun k => g (ix1 k)) (mat u) (mat d))
    (fun k => fg (ix1 k)) (i 1)

variable (m : (ℓ : Loc nD τ sig) → Buf (Elt Ideal) ℓ) (ρ : Dev nD → PrngReg)

/-! ## Where the windows' blocks lie -/

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![t.val, 0] :=
  (by decide +kernel : ∀ t : Fin grid0.N, win0_8.index t = ![t.val, 0])

theorem row_lt (t : Fin cfg0.N) (r : Fin 1024) : t.val * 1024 + r < 32768 := by
  have := t.isLt
  have : cfg0.N = 32 := N_0
  omega

theorem blk0 (c : Dev nD) (t : Fin cfg0.N) (r : Fin 1024) (k : Fin 1024) :
    iblk m c 0 t (ix2 r k) = row3 (m ((c : Thread nD τ).loc main_arg0)) ⟨t.val * 1024 + r, row_lt t r⟩ k := by
  blk_simp [iblk, index0 t]
  entry_read
  pointwise
  blk_ext [index0 t]

theorem blk1 (c : Dev nD) (t : Fin cfg0.N) (r : Fin 1024) (k : Fin 512) :
    iblk m c 1 t (ix2 r k) = row3 (m ((c : Thread nD τ).loc main_arg1)) ⟨t.val * 1024 + r, row_lt t r⟩ k := by
  blk_simp [iblk, index1 t]
  entry_read
  pointwise
  blk_ext [index1 t]

theorem blk2 (c : Dev nD) (t : Fin cfg0.N) (r : Fin 1024) (k : Fin 512) :
    iblk m c 2 t (ix2 r k) = row3 (m ((c : Thread nD τ).loc main_arg2)) ⟨t.val * 1024 + r, row_lt t r⟩ k := by
  blk_simp [iblk, index2 t]
  entry_read
  pointwise
  blk_ext [index2 t]

theorem blk3 (c : Dev nD) (t : Fin cfg0.N) (r : Fin 1024) (k : Fin 1024) :
    iblk m c 3 t (ix2 r k) = m ((c : Thread nD τ).loc main_arg3) (ix2 r k) := by
  blk_ext! [iblk, V, index3 t]

theorem blk5 (c : Dev nD) (t : Fin cfg0.N) (r : Fin 1024) (k : Fin 4096) :
    iblk m c 5 t (ix2 r k) = m ((c : Thread nD τ).loc main_arg5) (ix2 r k) := by
  blk_ext! [iblk, V, index5 t]

theorem blk6 (c : Dev nD) (t : Fin cfg0.N) (r : Fin 4096) (k : Fin 1024) :
    iblk m c 6 t (ix2 r k) = m ((c : Thread nD τ).loc main_arg6) (ix2 r k) := by
  blk_ext! [iblk, V, index6 t]

theorem blk4 (c : Dev nD) (t : Fin cfg0.N) (k : Fin 1024) :
    iblk m c 4 t (ix2 0 k) = m ((c : Thread nD τ).loc main_arg4) (ix1 k) := by
  blk_ext! [iblk, V, index4 t]

theorem blk7 (c : Dev nD) (t : Fin cfg0.N) (k : Fin 1024) :
    iblk m c 7 t (ix2 0 k) = m ((c : Thread nD τ).loc main_arg7) (ix1 k) := by
  blk_ext! [iblk, V, index7 t]

/-! ## The array -/

/-- The layer's result over the arguments the run starts from. -/
abbrev result (c : Dev nD) : Vec Ideal S32768x1024 .f32 :=
  value (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Where an index of point `t`'s result block sits in the array. -/
theorem emb8 (t : Fin cfg0.N) (r j : Fin 1024) :
    (win0_8.blk t).view.emb (ix2 r j) = (ix2 ⟨t.val * 1024 + r, row_lt t r⟩ j : S32768x1024.Idx) := by
  blk_ext [index8 t]

/-- What point `t` writes back is its block of the layer's result. -/
theorem flushed_eq (c : Dev nD) (t : Fin cfg0.N) :
    (dats m 0 c).flushed 8 t = (win0_8.blk t).view.read (Elt Ideal) (result m c) := by
  rw [Value.flushed8]
  funext y
  obtain ⟨r, j, rfl⟩ : ∃ (r j : Fin 1024), y = ix2 r j := ⟨y 0, y 1, eq_ix2 y⟩
  show outsAt0 m c t (ix2 r j) = result m c ((win0_8.blk t).view.emb (ix2 r j))
  rw [emb8, outs_eq]
  have e0 : rowOf (iblk m c 0 t) r = row3 (m ((c : Thread nD τ).loc main_arg0)) ⟨t.val * 1024 + r, row_lt t r⟩ := funext (blk0 m c t r)
  have e1 : rowOf (iblk m c 1 t) r = row3 (m ((c : Thread nD τ).loc main_arg1)) ⟨t.val * 1024 + r, row_lt t r⟩ := funext (blk1 m c t r)
  have e2 : rowOf (iblk m c 2 t) r = row3 (m ((c : Thread nD τ).loc main_arg2)) ⟨t.val * 1024 + r, row_lt t r⟩ := funext (blk2 m c t r)
  have e3 : mat (iblk m c 3 t) = mat (m ((c : Thread nD τ).loc main_arg3)) := funext fun a => funext (blk3 m c t a)
  have e5 : mat (iblk m c 5 t) = mat (m ((c : Thread nD τ).loc main_arg5)) := funext fun a => funext (blk5 m c t a)
  have e6 : mat (iblk m c 6 t) = mat (m ((c : Thread nD τ).loc main_arg6)) := funext fun a => funext (blk6 m c t a)
  have e4 : rowOf (iblk m c 4 t) 0 = fun k => m ((c : Thread nD τ).loc main_arg4) (ix1 k) := funext (blk4 m c t)
  have e7 : rowOf (iblk m c 7 t) 0 = fun k => m ((c : Thread nD τ).loc main_arg7) (ix1 k) := funext (blk7 m c t)
  unfold resRow
  rw [e0, e1, e2, e3, e4, e5, e6, e7]
  rfl

/-- The result's blocks cover its array. -/
theorem cover (i : S32768x1024.Idx) : ∃ t : Fin cfg0.N, (cfg0.win 8).flush t = true ∧ i ∈ ((cfg0.win 8).blk t).view.set := by
  obtain ⟨R, j, rfl⟩ : ∃ (R : Fin 32768) (j : Fin 1024), i = ix2 R j := ⟨i 0, i 1, eq_ix2 i⟩
  have hN : cfg0.N = 32 := N_0
  refine ⟨⟨R / 1024, by omega⟩, flush0_8 _, ?_⟩
  have e := emb8 ⟨R / 1024, by omega⟩ ⟨R % 1024, by omega⟩ j
  have hR : (⟨R / 1024 * 1024 + R % 1024, by omega⟩ : Fin 32768) = R := Fin.ext (by show R.val / 1024 * 1024 + R.val % 1024 = R.val; omega)
  rw [hR] at e
  rw [← e]
  exact Finset.mem_map_of_mem _ (Finset.mem_univ _)

/-- The array after the run is the layer's result. -/
theorem final (c : Dev nD) : (dats m 0 c).arrAt 8 cfg0.N = result m c :=
  (dats m 0 c).arrAt_eq_of_cover 8 (result m c) (fun t _ => flushed_eq m c t) cover

/-- The kernel's run: the result, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks m ρ)

end Cert.KernelIdeal.Block
-- ==== Proof.MlpRef.lean ====
/- The reference of the projection and perceptron call, read at an index: the row function of `Rows.lean`. -/
module

public import proofs.«01_k».proof.Proof.Gen.ReferenceIdeal.Read
public import proofs.«01_k».proof.Proof.MlpArray

@[expose] public section

set_option maxRecDepth 16384

noncomputable section

namespace Cert.ReferenceIdeal.Layer

open Cert.ReferenceIdeal Cert.ReferenceIdeal.Gen Cert.ReferenceIdeal.Read Cert.Rows Cert.KernelIdeal.Block
open Idealize.ShloMosaic Idealize.ShloMosaic.TcCoe Idealize.SL.Sem

variable (x : Vec Ideal S8x4096x1024 .f32) (oa oh : Vec Ideal S8x4096x512 .bf16) (w : Vec Ideal S1024x1024 .f32)
    (g : Vec Ideal S1024 .f32) (u : Vec Ideal S1024x4096 .f32) (d : Vec Ideal S4096x1024 .f32) (fg : Vec Ideal S1024 .f32)

/-- Row `(b, s)` of an array of 8 sequences of 4096 rows. -/
abbrev seqRow {n : ℕ} (X : (⟨3, ![8, 4096, n]⟩ : Shape).Idx → EReal) (b : Fin 8) (s : Fin 4096) : Fin n → EReal :=
  fun k => X (ix3 b s k)

/-- The residual stage. -/
theorem resid_apply (b : Fin 8) (s : Fin 4096) (c : Fin 1024) :
    val_main_v2 (F := Ideal) x oa oh w (ix3 b s c) = resid (seqRow x b s) (seqRow oa b s) (seqRow oh b s) (mat w) c := by
  pointwise [val_main_v2, val_main_v1, val_main_v0]
  unfold resid
  exact (add_assoc _ _ _).symm

/-- The normalised stage. -/
theorem normed_apply (b : Fin 8) (s : Fin 4096) (c : Fin 1024) :
    val_main_v15 (F := Ideal) x oa oh w g (ix3 b s c)
      = normed (resid (seqRow x b s) (seqRow oa b s) (seqRow oh b s) (mat w)) (fun k => g (ix1 k)) c := by
  pointwise [val_main_v15, val_main_v14, val_main_v13, val_main_v12, val_main_v11, val_main_v10, val_main_v9, val_main_v8,
    val_main_cst_1, val_main_v7, val_main_v6, val_main_cst_0, val_main_v5, val_main_v4, val_main_cst, val_main_v3]
  simp only [resid_apply]
  rfl

/-- The stage after the perceptron's residual sum. -/
theorem after_apply (b : Fin 8) (s : Fin 4096) (c : Fin 1024) :
    val_main_v20 (F := Ideal) x oa oh w g u d (ix3 b s c)
      = after (resid (seqRow x b s) (seqRow oa b s) (seqRow oh b s) (mat w)) (fun k => g (ix1 k)) (mat u) (mat d) c := by
  pointwise [val_main_v20, val_main_v19, val_main_v18, val_main_v17, val_main_call0_v0, val_main_call0_cst, val_main_v16]
  simp only [resid_apply, normed_apply]
  rfl

theorem ref_eq : val_main_v34 (F := Ideal) x oa oh w g u d fg = value x oa oh w g u d fg := by
  funext i
  obtain ⟨R, j, rfl⟩ : ∃ (R : Fin 32768) (j : Fin 1024), i = ix2 R j := ⟨i 0, i 1, eq_ix2 i⟩
  pointwise [val_main_v34, val_main_v33, val_main_v32, val_main_v31, val_main_v30, val_main_v29, val_main_v28, val_main_v27, val_main_v26,
    val_main_cst_4, val_main_v25, val_main_v24, val_main_cst_3, val_main_v23, val_main_v22, val_main_cst_2, val_main_v21]
  simp only [after_apply]
  rfl

end Cert.ReferenceIdeal.Layer
-- ==== Proof.InBlock.lean ====
/- What one grid point of the input projection leaves in its four blocks, read at an index. -/
module

public import proofs.«01_k».proof.Proof.Gen.Kernel2Ideal.Value
public import proofs.«01_k».proof.Proof.Rows
public import Idealize.ShloMosaic.Lib.Pointwise

@[expose] public section

set_option maxRecDepth 16384

noncomputable section

namespace Cert.Kernel2Ideal.Block

open Cert.Kernel2Ideal Cert.Kernel2Ideal.Gen Cert.Rows Idealize.ShloMosaic Idealize.ShloMosaic.TcCoe Idealize.SL.Sem
open Idealize.ShloMosaic.Pipeline (Dat)

section Payloads

variable (x : Vec Ideal S1024x1024 .f32) (g : Vec Ideal S1x1024 .f32) (wq wv : Vec Ideal S512x1024 .bf16)
  (wk : Vec Ideal S1024x512 .bf16) (wr : Vec Ideal S1024x2048 .bf16)

/-- The inner product of two rows. -/
abbrev dotRows {n : ℕ} (u h : Fin n → EReal) : EReal := ∑ k, u k * h k

/-- The normalised row of block row `r`. -/
abbrev normRow (r : Fin 1024) : Fin 1024 → EReal := normed (fun k => x (ix2 r k)) (fun k => g (ix2 0 k))

theorem pay5_apply (r c : Fin 1024) : k0_pay5 x g (ix2 r c) = normRow x g r c := by
  pointwise [k0_pay5]
  rfl

theorem pay6_apply (a : Fin 512) (r : Fin 1024) :
    k0_pay6 x g wq (ix2 a r) = (∑ k, wq (ix2 a k) * normRow x g r k) * Ideal.ofBits FTy.f32 0x3E38AA3B#32 := by
  pointwise [k0_pay6]
  simp only [pay5_apply]

theorem pay7_apply (r : Fin 1024) (a : Fin 512) :
    k0_pay7 x g wk (ix2 r a) = ∑ k, normRow x g r k * wk (ix2 k a) := by
  pointwise [k0_pay7]
  simp only [pay5_apply]

theorem pay8_apply (a : Fin 512) (r : Fin 1024) :
    k0_pay8 x g wv (ix2 a r) = ∑ k, wv (ix2 a k) * normRow x g r k := by
  pointwise [k0_pay8]
  simp only [pay5_apply]

theorem pay9_apply (a : Fin 16) (r : Fin 256) : k0_pay9 (F := Ideal) (ix2 a r) = Ideal.ofBits FTy.bf16 0x3F80#16 := by
  pointwise [k0_pay9]

/-- The block of the transposed value projection: 256 rows to a slab, per head its 128 features and then sixteen rows of ones. -/
def slab (v : FVec Ideal S512x1024 .bf16) : Vec Ideal S4x576x256 .bf16 := fun i =>
  if h : (i 1 : ℕ) % 144 < 128 then
    v (ix2 ⟨(i 1 : ℕ) / 144 * 128 + (i 1 : ℕ) % 144, by have : (i 1 : ℕ) < 576 := (i 1).isLt; omega⟩
      ⟨(i 0 : ℕ) * 256 + (i 2 : ℕ), by have : (i 0 : ℕ) < 4 := (i 0).isLt; have : (i 2 : ℕ) < 256 := (i 2).isLt; omega⟩)
  else Ideal.ofBits FTy.bf16 0x3F80#16

/-- A head's features of one slab are the slice of the projection stored there. -/
theorem slab_head (v : FVec Ideal S512x1024 .bf16) (c hd : ℕ) (o q p : ℕ) (hc : c < 4) (hh : hd < 4)
    (ho : o = hd * 128) (hq : q = c * 256) (hp : p = hd * 144) (inb) (sl) (i : S1x128x256.Idx) :
    shapeCast S1x128x256 (extractStridedSlice S128x256 ![o, q] v sl) shapeCasts_S128x256_S1x128x256 i
      = slab v ((Rect.unit (s := S4x576x256) ![c, p, 0] ![1, 128, 256] inb).emb i) := by
  subst ho hq hp
  obtain ⟨z, r, d, rfl⟩ : ∃ (z : Fin 1) (r : Fin 128) (d : Fin 256), i = ix3 z r d := ⟨i 0, i 1, i 2, eq_ix3 i⟩
  have hz : z = 0 := Subsingleton.elim _ _
  subst hz
  have e : (Rect.unit (s := S4x576x256) ![c, hd * 144, 0] ![1, 128, 256] inb).emb (ix3 0 r d)
      = (ix3 (⟨c, hc⟩ : Fin 4) (⟨hd * 144 + r.val, by omega⟩ : Fin 576) d : S4x576x256.Idx) := by
    funext a
    apply Fin.ext
    fin_cases a
    · rfl
    · show hd * 144 + 1 * r.val = hd * 144 + r.val; omega
    · show 0 + 1 * d.val = d.val; omega
  rw [e]
  have h : (hd * 144 + r.val) % 144 < 128 := by omega
  refine Eq.trans ?_ (dif_pos h).symm
  pointwise
  congr 1
  funext a
  apply Fin.ext
  fin_cases a
  · show hd * 128 + r.val = (hd * 144 + r.val) / 144 * 128 + (hd * 144 + r.val) % 144; omega
  · rfl

/-- The rows below a head's features are the ones stored there. -/
theorem slab_ones (v : FVec Ideal S512x1024 .bf16) (c hd : ℕ) (hc : c < 4) (hh : hd < 4) (inb) (i : S1x16x256.Idx) :
    shapeCast S1x16x256 (k0_pay9 (F := Ideal)) shapeCasts_S16x256_S1x16x256 i
      = slab v ((Rect.unit (s := S4x576x256) ![c, hd * 144 + 128, 0] ![1, 16, 256] inb).emb i) := by
  have e : ((Rect.unit (s := S4x576x256) ![c, hd * 144 + 128, 0] ![1, 16, 256] inb).emb i 1 : ℕ) = hd * 144 + 128 + (i 1 : ℕ) := by
    show hd * 144 + 128 + 1 * (i 1 : ℕ) = hd * 144 + 128 + (i 1 : ℕ); omega
  have hi : (i 1 : ℕ) < 16 := (i 1).isLt
  unfold slab
  rw [dif_neg (by rw [e]; omega)]
  rfl

/-- The four column tiles of the recurrence's projection. -/
def rest (y : FVec Ideal S1024x1024 .bf16) : Vec Ideal S1024x2048 .f32 := fun i => ∑ k, y (ix2 (i 0) k) * wr (ix2 k (i 1))

theorem rest_0 (y : FVec Ideal S1024x1024 .bf16) (r : Fin 1024) (c : Fin 512) :
    k0_pay1 y (View.ld wr (Rect.unit ![0, 0] ![1024, 512] inb_S1024x2048_S1024x512_0_0)) (ix2 r c) = rest wr y (ix2 r ⟨0 + c, by omega⟩) := by
  rw [View.ld_unit]
  pointwise [k0_pay1]
  rfl

theorem rest_512 (y : FVec Ideal S1024x1024 .bf16) (r : Fin 1024) (c : Fin 512) :
    k0_pay2 y (View.ld wr (Rect.unit ![0, 512] ![1024, 512] inb_S1024x2048_S1024x512_0_512)) (ix2 r c) = rest wr y (ix2 r ⟨512 + c, by omega⟩) := by
  rw [View.ld_unit]
  pointwise [k0_pay2]
  rfl

theorem rest_1024 (y : FVec Ideal S1024x1024 .bf16) (r : Fin 1024) (c : Fin 512) :
    k0_pay3 y (View.ld wr (Rect.unit ![0, 1024] ![1024, 512] inb_S1024x2048_S1024x512_0_1024)) (ix2 r c) = rest wr y (ix2 r ⟨1024 + c, by omega⟩) := by
  rw [View.ld_unit]
  pointwise [k0_pay3]
  rfl

theorem rest_1536 (y : FVec Ideal S1024x1024 .bf16) (r : Fin 1024) (c : Fin 512) :
    k0_pay4 y (View.ld wr (Rect.unit ![0, 1536] ![1024, 512] inb_S1024x2048_S1024x512_0_1536)) (ix2 r c) = rest wr y (ix2 r ⟨1536 + c, by omega⟩) := by
  rw [View.ld_unit]
  pointwise [k0_pay4]
  rfl

/-- Where a column tile's index sits in the recurrence's projection. -/
theorem place (o : ℕ) (inb) (ho : o + 512 ≤ 2048) (i : S1024x512.Idx) :
    (Rect.unit (s := S1024x2048) ![0, o] ![1024, 512] inb).emb i = ix2 (i 0) ⟨o + i 1, by have : (i 1 : ℕ) < 512 := (i 1).isLt; omega⟩ := by
  funext a
  apply Fin.ext
  fin_cases a
  · show 0 + 1 * (i 0 : ℕ) = i 0; omega
  · show o + 1 * (i 1 : ℕ) = o + i 1; omega

end Payloads

section Point

variable (m : (ℓ : Loc nD τ sig) → Buf (Elt Ideal) ℓ)

theorem zero2 : (![0, 0] : Fin 2 → Nat) = fun _ => 0 := funext fun a => by fin_cases a <;> rfl

theorem q_eq (x : Vec Ideal S1024x1024 .f32) (g : Vec Ideal S1x1024 .f32) (wq : Vec Ideal S512x1024 .bf16) (a : Fin 512) (r : Fin 1024) :
    k0_pay6 (View.ld x (Rect.unit ![0, 0] ![1024, 1024] inb_S1024x1024_S1024x1024_0_0))
      (View.ld g (Rect.unit ![0, 0] ![1, 1024] inb_S1x1024_S1x1024_0_0))
      (View.ld wq (Rect.unit ![0, 0] ![512, 1024] inb_S512x1024_S512x1024_0_0)) (ix2 a r)
      = (∑ k, wq (ix2 a k) * normRow x g r k) * Ideal.ofBits FTy.f32 0x3E38AA3B#32 := by
  rw [View.ld_unit_zero (S := S1024x1024) zero2 _ x, View.ld_unit_zero (S := S1x1024) zero2 _ g,
    View.ld_unit_zero (S := S512x1024) zero2 _ wq, pay6_apply]

theorem k_eq (x : Vec Ideal S1024x1024 .f32) (g : Vec Ideal S1x1024 .f32) (wk : Vec Ideal S1024x512 .bf16) (r : Fin 1024) (a : Fin 512) :
    k0_pay7 (View.ld x (Rect.unit ![0, 0] ![1024, 1024] inb_S1024x1024_S1024x1024_0_0))
      (View.ld g (Rect.unit ![0, 0] ![1, 1024] inb_S1x1024_S1x1024_0_0))
      (View.ld wk (Rect.unit ![0, 0] ![1024, 512] inb_S1024x512_S1024x512_0_0)) (ix2 r a)
      = ∑ k, normRow x g r k * wk (ix2 k a) := by
  rw [View.ld_unit_zero (S := S1024x1024) zero2 _ x, View.ld_unit_zero (S := S1x1024) zero2 _ g,
    View.ld_unit_zero (S := S1024x512) zero2 _ wk, pay7_apply]

theorem v_eq (x : Vec Ideal S1024x1024 .f32) (g : Vec Ideal S1x1024 .f32) (wv : Vec Ideal S512x1024 .bf16) (a : Fin 512) (r : Fin 1024) :
    k0_pay8 (View.ld x (Rect.unit ![0, 0] ![1024, 1024] inb_S1024x1024_S1024x1024_0_0))
      (View.ld g (Rect.unit ![0, 0] ![1, 1024] inb_S1x1024_S1x1024_0_0))
      (View.ld wv (Rect.unit ![0, 0] ![512, 1024] inb_S512x1024_S512x1024_0_0)) (ix2 a r)
      = ∑ k, wv (ix2 a k) * normRow x g r k := by
  rw [View.ld_unit_zero (S := S1024x1024) zero2 _ x, View.ld_unit_zero (S := S1x1024) zero2 _ g,
    View.ld_unit_zero (S := S512x1024) zero2 _ wv, pay8_apply]

theorem h_eq (x : Vec Ideal S1024x1024 .f32) (g : Vec Ideal S1x1024 .f32) (r k : Fin 1024) :
    k0_pay5 (View.ld x (Rect.unit ![0, 0] ![1024, 1024] inb_S1024x1024_S1024x1024_0_0))
      (View.ld g (Rect.unit ![0, 0] ![1, 1024] inb_S1x1024_S1x1024_0_0)) (ix2 r k) = normRow x g r k := by
  rw [View.ld_unit_zero (S := S1024x1024) zero2 _ x, View.ld_unit_zero (S := S1x1024) zero2 _ g, pay5_apply]

/-- The transposed query block. -/
theorem outs6 (c : Dev nD) (t : Fin cfg0.N) (a : Fin 512) (r : Fin 1024) : (outsAt0 m c t).1 (ix2 a r)
    = dotRows (fun k => iblk m c 2 t (ix2 a k)) (normRow (iblk m c 0 t) (iblk m c 1 t) r) * Ideal.ofBits FTy.f32 0x3E38AA3B#32 := by
  unfold outsAt0
  dsimp only
  unfold out0_A_6
  rw [View.read_writes_eq_canon _ _ _ (cover0_A_6 c _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_unit_zero zero2]
  exact q_eq _ _ _ a r

/-- The key block. -/
theorem outs7 (c : Dev nD) (t : Fin cfg0.N) (r : Fin 1024) (a : Fin 512) : (outsAt0 m c t).2.1 (ix2 r a)
    = ∑ k, normRow (iblk m c 0 t) (iblk m c 1 t) r k * (iblk m c 3 t (ix2 k a) : EReal) := by
  unfold outsAt0
  dsimp only
  unfold out0_A_7
  rw [View.read_writes_eq_canon _ _ _ (cover0_A_7 c _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_unit_zero zero2]
  exact k_eq _ _ _ r a

/-- The value block, head by head with its rows of ones. -/
theorem outs8 (c : Dev nD) (t : Fin cfg0.N) (i : S4x576x256.Idx) : (outsAt0 m c t).2.2.1 i
    = slab (fun j => dotRows (fun k => iblk m c 4 t (ix2 (j 0) k)) (normRow (iblk m c 0 t) (iblk m c 1 t) (j 1))) i := by
  have hv : k0_pay8 (View.ld (iblk m c 0 t) (Rect.unit ![0, 0] ![1024, 1024] inb_S1024x1024_S1024x1024_0_0))
      (View.ld (iblk m c 1 t) (Rect.unit ![0, 0] ![1, 1024] inb_S1x1024_S1x1024_0_0))
      (View.ld (iblk m c 4 t) (Rect.unit ![0, 0] ![512, 1024] inb_S512x1024_S512x1024_0_0))
      = fun j => dotRows (fun k => iblk m c 4 t (ix2 (j 0) k)) (normRow (iblk m c 0 t) (iblk m c 1 t) (j 1)) :=
    funext fun j => (congrArg _ (eq_ix2 j)).trans (v_eq _ _ _ (j 0) (j 1))
  rw [← hv]
  have hc := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t)
  unfold outsAt0
  dsimp only
  unfold out0_A_8
  rw [View.read_writes_eq_canon _ _ _ hc]
  refine View.canon_apply_of_pieces (slab _) _ ?_ i (hc i)
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> intro i
  · exact slab_ones _ 3 3 (by decide) (by decide) inb_S4x576x256_S1x16x256_3_560_0 i
  · exact slab_head (k0_pay8 _ _ _) 3 3 384 768 432 (by decide) (by decide) rfl rfl rfl
      inb_S4x576x256_S1x128x256_3_432_0 slices_S512x1024_o384_768_S128x256 i
  · exact slab_ones _ 3 2 (by decide) (by decide) inb_S4x576x256_S1x16x256_3_416_0 i
  · exact slab_head (k0_pay8 _ _ _) 3 2 256 768 288 (by decide) (by decide) rfl rfl rfl
      inb_S4x576x256_S1x128x256_3_288_0 slices_S512x1024_o256_768_S128x256 i
  · exact slab_ones _ 3 1 (by decide) (by decide) inb_S4x576x256_S1x16x256_3_272_0 i
  · exact slab_head (k0_pay8 _ _ _) 3 1 128 768 144 (by decide) (by decide) rfl rfl rfl
      inb_S4x576x256_S1x128x256_3_144_0 slices_S512x1024_o128_768_S128x256 i
  · exact slab_ones _ 3 0 (by decide) (by decide) inb_S4x576x256_S1x16x256_3_128_0 i
  · exact slab_head (k0_pay8 _ _ _) 3 0 0 768 0 (by decide) (by decide) rfl rfl rfl
      inb_S4x576x256_S1x128x256_3_0_0 slices_S512x1024_o0_768_S128x256 i
  · exact slab_ones _ 2 3 (by decide) (by decide) inb_S4x576x256_S1x16x256_2_560_0 i
  · exact slab_head (k0_pay8 _ _ _) 2 3 384 512 432 (by decide) (by decide) rfl rfl rfl
      inb_S4x576x256_S1x128x256_2_432_0 slices_S512x1024_o384_512_S128x256 i
  · exact slab_ones _ 2 2 (by decide) (by decide) inb_S4x576x256_S1x16x256_2_416_0 i
  · exact slab_head (k0_pay8 _ _ _) 2 2 256 512 288 (by decide) (by decide) rfl rfl rfl
      inb_S4x576x256_S1x128x256_2_288_0 slices_S512x1024_o256_512_S128x256 i
  · exact slab_ones _ 2 1 (by decide) (by decide) inb_S4x576x256_S1x16x256_2_272_0 i
  · exact slab_head (k0_pay8 _ _ _) 2 1 128 512 144 (by decide) (by decide) rfl rfl rfl
      inb_S4x576x256_S1x128x256_2_144_0 slices_S512x1024_o128_512_S128x256 i
  · exact slab_ones _ 2 0 (by decide) (by decide) inb_S4x576x256_S1x16x256_2_128_0 i
  · exact slab_head (k0_pay8 _ _ _) 2 0 0 512 0 (by decide) (by decide) rfl rfl rfl
      inb_S4x576x256_S1x128x256_2_0_0 slices_S512x1024_o0_512_S128x256 i
  · exact slab_ones _ 1 3 (by decide) (by decide) inb_S4x576x256_S1x16x256_1_560_0 i
  · exact slab_head (k0_pay8 _ _ _) 1 3 384 256 432 (by decide) (by decide) rfl rfl rfl
      inb_S4x576x256_S1x128x256_1_432_0 slices_S512x1024_o384_256_S128x256 i
  · exact slab_ones _ 1 2 (by decide) (by decide) inb_S4x576x256_S1x16x256_1_416_0 i
  · exact slab_head (k0_pay8 _ _ _) 1 2 256 256 288 (by decide) (by decide) rfl rfl rfl
      inb_S4x576x256_S1x128x256_1_288_0 slices_S512x1024_o256_256_S128x256 i
  · exact slab_ones _ 1 1 (by decide) (by decide) inb_S4x576x256_S1x16x256_1_272_0 i
  · exact slab_head (k0_pay8 _ _ _) 1 1 128 256 144 (by decide) (by decide) rfl rfl rfl
      inb_S4x576x256_S1x128x256_1_144_0 slices_S512x1024_o128_256_S128x256 i
  · exact slab_ones _ 1 0 (by decide) (by decide) inb_S4x576x256_S1x16x256_1_128_0 i
  · exact slab_head (k0_pay8 _ _ _) 1 0 0 256 0 (by decide) (by decide) rfl rfl rfl
      inb_S4x576x256_S1x128x256_1_0_0 slices_S512x1024_o0_256_S128x256 i
  · exact slab_ones _ 0 3 (by decide) (by decide) inb_S4x576x256_S1x16x256_0_560_0 i
  · exact slab_head (k0_pay8 _ _ _) 0 3 384 0 432 (by decide) (by decide) rfl rfl rfl
      inb_S4x576x256_S1x128x256_0_432_0 slices_S512x1024_o384_0_S128x256 i
  · exact slab_ones _ 0 2 (by decide) (by decide) inb_S4x576x256_S1x16x256_0_416_0 i
  · exact slab_head (k0_pay8 _ _ _) 0 2 256 0 288 (by decide) (by decide) rfl rfl rfl
      inb_S4x576x256_S1x128x256_0_288_0 slices_S512x1024_o256_0_S128x256 i
  · exact slab_ones _ 0 1 (by decide) (by decide) inb_S4x576x256_S1x16x256_0_272_0 i
  · exact slab_head (k0_pay8 _ _ _) 0 1 128 0 144 (by decide) (by decide) rfl rfl rfl
      inb_S4x576x256_S1x128x256_0_144_0 slices_S512x1024_o128_0_S128x256 i
  · exact slab_ones _ 0 0 (by decide) (by decide) inb_S4x576x256_S1x16x256_0_128_0 i
  · exact slab_head (k0_pay8 _ _ _) 0 0 0 0 0 (by decide) (by decide) rfl rfl rfl
      inb_S4x576x256_S1x128x256_0_0_0 slices_S512x1024_o0_0_S128x256 i

/-- The block of the recurrence's projection. -/
theorem outs9 (c : Dev nD) (t : Fin cfg0.N) (r : Fin 1024) (a : Fin 2048) : (outsAt0 m c t).2.2.2 (ix2 r a)
    = ∑ k, normRow (iblk m c 0 t) (iblk m c 1 t) r k * (iblk m c 5 t (ix2 k a) : EReal) := by
  have hh : (fun k => k0_pay5 (View.ld (iblk m c 0 t) (Rect.unit ![0, 0] ![1024, 1024] inb_S1024x1024_S1024x1024_0_0))
      (View.ld (iblk m c 1 t) (Rect.unit ![0, 0] ![1, 1024] inb_S1x1024_S1x1024_0_0)) (ix2 r k))
      = normRow (iblk m c 0 t) (iblk m c 1 t) r := funext fun k => h_eq _ _ r k
  rw [← hh]
  have hc := cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t)
  unfold outsAt0
  dsimp only
  unfold out0_A_9
  rw [View.read_writes_eq_canon _ _ _ hc]
  refine View.canon_apply_of_pieces (rest (iblk m c 5 t) (k0_pay5 (View.ld (iblk m c 0 t) (Rect.unit ![0, 0] ![1024, 1024] inb_S1024x1024_S1024x1024_0_0))
      (View.ld (iblk m c 1 t) (Rect.unit ![0, 0] ![1, 1024] inb_S1x1024_S1x1024_0_0)))) _ ?_ (ix2 r a) (hc (ix2 r a))
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  intro p hp
  simp only [List.mem_cons, List.not_mem_nil, or_false] at hp
  rcases hp with rfl | rfl | rfl | rfl <;> intro i <;> rw [place _ _ (by decide)]
  · exact (congrArg _ (eq_ix2 i)).trans (rest_1536 _ _ _ _)
  · exact (congrArg _ (eq_ix2 i)).trans (rest_1024 _ _ _ _)
  · exact (congrArg _ (eq_ix2 i)).trans (rest_512 _ _ _ _)
  · exact (congrArg _ (eq_ix2 i)).trans (rest_0 _ _ _ _)

end Point

end Cert.Kernel2Ideal.Block
-- ==== Proof.InArray.lean ====
/- The four arrays the input projection leaves, each as one function of the three arguments: the projection of a normalised row,
   laid out as the attention and the recurrence take it. -/
module

public import proofs.«01_k».proof.Proof.InBlock
public import Idealize.ShloMosaic.Lib.StableHlo.ReadAt
public import Idealize.ShloMosaic.Lib.Pipeline.ValueKit.Point

@[expose] public section

set_option maxRecDepth 16384

noncomputable section

namespace Cert.Kernel2Ideal.Block

open Cert.Kernel2Ideal Cert.Kernel2Ideal.Gen Cert.Rows Idealize.ShloMosaic Idealize.ShloMosaic.TcCoe Idealize.SL.Sem
open Idealize.ShloMosaic.Pipeline (Dat)

section Values

variable (x : Vec Ideal S8x4096x1024 .f32) (g : Vec Ideal S1024 .f32) (w : Vec Ideal S1024x3584 .f32)

/-- The normalised row `R` of the 32768 rows. -/
abbrev hRow (R : Fin 32768) : Fin 1024 → EReal :=
  normed (fun k => x (ix3 ⟨R / 4096, by omega⟩ ⟨R % 4096, by omega⟩ k)) (fun k => g (ix1 k))

/-- Column `c` of the projection of row `R`. -/
def proj (R : Fin 32768) (c : Fin 3584) : EReal := ∑ k, hRow x g R k * w (ix2 k c)

/-- The queries, transposed and scaled. -/
def queries : Vec Ideal S512x32768 .bf16 := fun i =>
  proj x g w (i 1) ⟨(i 0 : ℕ), by have : (i 0 : ℕ) < 512 := (i 0).isLt; omega⟩ * Ideal.ofBits FTy.f32 0x3E38AA3B#32

/-- The keys. -/
def keys : Vec Ideal S32768x512 .bf16 := fun i =>
  proj x g w (i 0) ⟨512 + (i 1 : ℕ), by have : (i 1 : ℕ) < 512 := (i 1).isLt; omega⟩

/-- The values by slabs of 256 rows, transposed, sixteen rows of ones below each head. -/
def values : Vec Ideal S128x576x256 .bf16 := fun i =>
  if h : (i 1 : ℕ) % 144 < 128 then
    proj x g w ⟨(i 0 : ℕ) * 256 + (i 2 : ℕ), by have : (i 0 : ℕ) < 128 := (i 0).isLt; have : (i 2 : ℕ) < 256 := (i 2).isLt; omega⟩
      ⟨1024 + ((i 1 : ℕ) / 144 * 128 + (i 1 : ℕ) % 144), by have : (i 1 : ℕ) < 576 := (i 1).isLt; omega⟩
  else Ideal.ofBits FTy.bf16 0x3F80#16

/-- The recurrence's columns. -/
def gates : Vec Ideal S32768x2048 .f32 := fun i =>
  proj x g w (i 0) ⟨1536 + (i 1 : ℕ), by have : (i 1 : ℕ) < 2048 := (i 1).isLt; omega⟩

end Values

variable (m : (ℓ : Loc nD τ sig) → Buf (Elt Ideal) ℓ) (ρ : Dev nD → PrngReg)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, t.val] :=
  (by decide +kernel : ∀ t : Fin grid0.N, win0_6.index t = ![0, t.val])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0, 0] :=
  (by decide +kernel : ∀ t : Fin grid0.N, win0_8.index t = ![t.val, 0, 0])
theorem index9 : ∀ t : Fin cfg0.N, win0_9.index t = ![t.val, 0] :=
  (by decide +kernel : ∀ t : Fin grid0.N, win0_9.index t = ![t.val, 0])

theorem row_lt (t : Fin cfg0.N) (r : Fin 1024) : t.val * 1024 + r < 32768 := by
  have := t.isLt
  have : cfg0.N = 32 := N_0
  omega

/-- The array row of row `r` of point `t`'s block. -/
abbrev rowAt (t : Fin cfg0.N) (r : Fin 1024) : Fin 32768 := ⟨t.val * 1024 + r, row_lt t r⟩

theorem blk0 (c : Dev nD) (t : Fin cfg0.N) (r : Fin 1024) (k : Fin 1024) :
    iblk m c 0 t (ix2 r k) = m ((c : Thread nD τ).loc main_arg0)
      (ix3 ⟨(rowAt t r).val / 4096, by omega⟩ ⟨(rowAt t r).val % 4096, by omega⟩ k) := by
  blk_simp [iblk, index0 t]
  entry_read
  pointwise
  blk_ext [index0 t]

theorem blk1 (c : Dev nD) (t : Fin cfg0.N) (k : Fin 1024) :
    iblk m c 1 t (ix2 0 k) = m ((c : Thread nD τ).loc main_arg1) (ix1 k) := by
  blk_ext! [iblk, V, index1 t]

theorem blk2 (c : Dev nD) (t : Fin cfg0.N) (a : Fin 512) (k : Fin 1024) :
    iblk m c 2 t (ix2 a k) = m ((c : Thread nD τ).loc main_arg2) (ix2 k ⟨a, by omega⟩) := by
  blk_simp [iblk, index2 t]
  entry_read
  pointwise
  blk_ext [index2 t]

theorem blk3 (c : Dev nD) (t : Fin cfg0.N) (k : Fin 1024) (a : Fin 512) :
    iblk m c 3 t (ix2 k a) = m ((c : Thread nD τ).loc main_arg2) (ix2 k ⟨512 + a, by omega⟩) := by
  blk_simp [iblk, index3 t]
  entry_read
  pointwise
  blk_ext [index3 t]

theorem blk4 (c : Dev nD) (t : Fin cfg0.N) (a : Fin 512) (k : Fin 1024) :
    iblk m c 4 t (ix2 a k) = m ((c : Thread nD τ).loc main_arg2) (ix2 k ⟨1024 + a, by omega⟩) := by
  blk_simp [iblk, index4 t]
  entry_read
  pointwise
  blk_ext [index4 t]

theorem blk5 (c : Dev nD) (t : Fin cfg0.N) (k : Fin 1024) (a : Fin 2048) :
    iblk m c 5 t (ix2 k a) = m ((c : Thread nD τ).loc main_arg2) (ix2 k ⟨1536 + a, by omega⟩) := by
  blk_simp [iblk, index5 t]
  entry_read
  pointwise
  blk_ext [index5 t]

/-- The normalised row of a point's block is the array's. -/
theorem row_eq (c : Dev nD) (t : Fin cfg0.N) (r : Fin 1024) : normRow (iblk m c 0 t) (iblk m c 1 t) r
    = hRow (m ((c : Thread nD τ).loc main_arg0)) (m ((c : Thread nD τ).loc main_arg1)) (rowAt t r) := by
  have e0 := funext (blk0 m c t r)
  have e1 := funext (blk1 m c t)
  exact congrArg₂ normed e0 e1

/-! ## The four arrays over the arguments the run starts from -/

abbrev result6 (c : Dev nD) : Vec Ideal S512x32768 .bf16 :=
  queries (m ((c : Thread nD τ).loc main_arg0)) (m ((c : Thread nD τ).loc main_arg1)) (m ((c : Thread nD τ).loc main_arg2))
abbrev result7 (c : Dev nD) : Vec Ideal S32768x512 .bf16 :=
  keys (m ((c : Thread nD τ).loc main_arg0)) (m ((c : Thread nD τ).loc main_arg1)) (m ((c : Thread nD τ).loc main_arg2))
abbrev result8 (c : Dev nD) : Vec Ideal S128x576x256 .bf16 :=
  values (m ((c : Thread nD τ).loc main_arg0)) (m ((c : Thread nD τ).loc main_arg1)) (m ((c : Thread nD τ).loc main_arg2))
abbrev result9 (c : Dev nD) : Vec Ideal S32768x2048 .f32 :=
  gates (m ((c : Thread nD τ).loc main_arg0)) (m ((c : Thread nD τ).loc main_arg1)) (m ((c : Thread nD τ).loc main_arg2))

theorem emb6 (t : Fin cfg0.N) (a : Fin 512) (r : Fin 1024) :
    (win0_6.blk t).view.emb (ix2 a r) = (ix2 a (rowAt t r) : S512x32768.Idx) := by
  blk_ext [index6 t]

theorem emb7 (t : Fin cfg0.N) (r : Fin 1024) (a : Fin 512) :
    (win0_7.blk t).view.emb (ix2 r a) = (ix2 (rowAt t r) a : S32768x512.Idx) := by
  blk_ext [index7 t]

theorem emb8 (t : Fin cfg0.N) (s : Fin 4) (b : Fin 576) (d : Fin 256) :
    (win0_8.blk t).view.emb (ix3 s b d) = (ix3 ⟨t.val * 4 + s, by have := row_lt t ⟨1023, by omega⟩; simp at this; omega⟩ b d : S128x576x256.Idx) := by
  blk_ext [index8 t]

theorem emb9 (t : Fin cfg0.N) (r : Fin 1024) (a : Fin 2048) :
    (win0_9.blk t).view.emb (ix2 r a) = (ix2 (rowAt t r) a : S32768x2048.Idx) := by
  blk_ext [index9 t]

theorem flushed6 (c : Dev nD) (t : Fin cfg0.N) :
    (dats m 0 c).flushed 6 t = (win0_6.blk t).view.read (Elt Ideal) (result6 m c) := by
  rw [Value.flushed6]
  funext y
  obtain ⟨a, r, rfl⟩ : ∃ (a : Fin 512) (r : Fin 1024), y = ix2 a r := ⟨y 0, y 1, eq_ix2 y⟩
  show (outsAt0 m c t).1 (ix2 a r) = result6 m c ((win0_6.blk t).view.emb (ix2 a r))
  rw [emb6, outs6, row_eq]
  show _ = (∑ k, hRow _ _ (rowAt t r) k * _) * _
  congr 1
  exact Finset.sum_congr rfl fun k _ => (congrArg (fun z : EReal => z * hRow _ _ _ k) (blk2 m c t a k)).trans (mul_comm _ _)

theorem flushed7 (c : Dev nD) (t : Fin cfg0.N) :
    (dats m 0 c).flushed 7 t = (win0_7.blk t).view.read (Elt Ideal) (result7 m c) := by
  rw [Value.flushed7]
  funext y
  obtain ⟨r, a, rfl⟩ : ∃ (r : Fin 1024) (a : Fin 512), y = ix2 r a := ⟨y 0, y 1, eq_ix2 y⟩
  show (outsAt0 m c t).2.1 (ix2 r a) = result7 m c ((win0_7.blk t).view.emb (ix2 r a))
  rw [emb7, outs7, row_eq]
  exact Finset.sum_congr rfl fun k _ => congrArg (_ * ·) (blk3 m c t k a)

theorem flushed8 (c : Dev nD) (t : Fin cfg0.N) :
    (dats m 0 c).flushed 8 t = (win0_8.blk t).view.read (Elt Ideal) (result8 m c) := by
  rw [Value.flushed8]
  funext y
  obtain ⟨s, b, d, rfl⟩ : ∃ (s : Fin 4) (b : Fin 576) (d : Fin 256), y = ix3 s b d := ⟨y 0, y 1, y 2, eq_ix3 y⟩
  show (outsAt0 m c t).2.2.1 (ix3 s b d) = result8 m c ((win0_8.blk t).view.emb (ix3 s b d))
  rw [emb8, outs8]
  by_cases h : b.val % 144 < 128
  · refine (dif_pos h).trans (Eq.trans ?_ (dif_pos h).symm)
    have hr : rowAt t ⟨s.val * 256 + d.val, by omega⟩
        = ⟨(t.val * 4 + s.val) * 256 + d.val, by have := row_lt t ⟨1023, by omega⟩; simp at this; omega⟩ :=
      Fin.ext (by show t.val * 1024 + (s.val * 256 + d.val) = (t.val * 4 + s.val) * 256 + d.val; omega)
    show dotRows _ (normRow (iblk m c 0 t) (iblk m c 1 t) ⟨s.val * 256 + d.val, by omega⟩) = _
    rw [row_eq, hr]
    exact Finset.sum_congr rfl fun k _ => (congrArg (fun z : EReal => z * hRow _ _ _ k) (blk4 m c t _ k)).trans (mul_comm _ _)
  · refine (dif_neg h).trans ?_
    unfold result8 values
    split
    · exact absurd ‹_› h
    · rfl

theorem flushed9 (c : Dev nD) (t : Fin cfg0.N) :
    (dats m 0 c).flushed 9 t = (win0_9.blk t).view.read (Elt Ideal) (result9 m c) := by
  rw [Value.flushed9]
  funext y
  obtain ⟨r, a, rfl⟩ : ∃ (r : Fin 1024) (a : Fin 2048), y = ix2 r a := ⟨y 0, y 1, eq_ix2 y⟩
  show (outsAt0 m c t).2.2.2 (ix2 r a) = result9 m c ((win0_9.blk t).view.emb (ix2 r a))
  rw [emb9, outs9, row_eq]
  exact Finset.sum_congr rfl fun k _ => congrArg (_ * ·) (blk5 m c t k a)

/-! ## The blocks cover the arrays -/

theorem rowAt_div (R : Fin 32768) : rowAt ⟨R / 1024, by have : cfg0.N = 32 := N_0; omega⟩ ⟨R % 1024, by omega⟩ = R :=
  Fin.ext (by show R.val / 1024 * 1024 + R.val % 1024 = R.val; omega)

theorem cover6 (i : S512x32768.Idx) : ∃ t : Fin cfg0.N, (cfg0.win 6).flush t = true ∧ i ∈ ((cfg0.win 6).blk t).view.set := by
  obtain ⟨a, R, rfl⟩ : ∃ (a : Fin 512) (R : Fin 32768), i = ix2 a R := ⟨i 0, i 1, eq_ix2 i⟩
  refine ⟨⟨R / 1024, by have : cfg0.N = 32 := N_0; omega⟩, flush0_6 _, ?_⟩
  have e := emb6 ⟨R / 1024, by have : cfg0.N = 32 := N_0; omega⟩ a ⟨R % 1024, by omega⟩
  rw [rowAt_div] at e
  rw [← e]
  exact Finset.mem_map_of_mem _ (Finset.mem_univ _)

theorem cover7 (i : S32768x512.Idx) : ∃ t : Fin cfg0.N, (cfg0.win 7).flush t = true ∧ i ∈ ((cfg0.win 7).blk t).view.set := by
  obtain ⟨R, a, rfl⟩ : ∃ (R : Fin 32768) (a : Fin 512), i = ix2 R a := ⟨i 0, i 1, eq_ix2 i⟩
  refine ⟨⟨R / 1024, by have : cfg0.N = 32 := N_0; omega⟩, flush0_7 _, ?_⟩
  have e := emb7 ⟨R / 1024, by have : cfg0.N = 32 := N_0; omega⟩ ⟨R % 1024, by omega⟩ a
  rw [rowAt_div] at e
  rw [← e]
  exact Finset.mem_map_of_mem _ (Finset.mem_univ _)

theorem cover8 (i : S128x576x256.Idx) : ∃ t : Fin cfg0.N, (cfg0.win 8).flush t = true ∧ i ∈ ((cfg0.win 8).blk t).view.set := by
  obtain ⟨s, b, d, rfl⟩ : ∃ (s : Fin 128) (b : Fin 576) (d : Fin 256), i = ix3 s b d := ⟨i 0, i 1, i 2, eq_ix3 i⟩
  refine ⟨⟨s / 4, by have : cfg0.N = 32 := N_0; omega⟩, flush0_8 _, ?_⟩
  have e := emb8 ⟨s / 4, by have : cfg0.N = 32 := N_0; omega⟩ ⟨s % 4, by omega⟩ b d
  have hs : (⟨s.val / 4 * 4 + s.val % 4, by omega⟩ : Fin 128) = s := Fin.ext (by show s.val / 4 * 4 + s.val % 4 = s.val; omega)
  rw [hs] at e
  rw [← e]
  exact Finset.mem_map_of_mem _ (Finset.mem_univ _)

theorem cover9 (i : S32768x2048.Idx) : ∃ t : Fin cfg0.N, (cfg0.win 9).flush t = true ∧ i ∈ ((cfg0.win 9).blk t).view.set := by
  obtain ⟨R, a, rfl⟩ : ∃ (R : Fin 32768) (a : Fin 2048), i = ix2 R a := ⟨i 0, i 1, eq_ix2 i⟩
  refine ⟨⟨R / 1024, by have : cfg0.N = 32 := N_0; omega⟩, flush0_9 _, ?_⟩
  have e := emb9 ⟨R / 1024, by have : cfg0.N = 32 := N_0; omega⟩ ⟨R % 1024, by omega⟩ a
  rw [rowAt_div] at e
  rw [← e]
  exact Finset.mem_map_of_mem _ (Finset.mem_univ _)

/-- The kernel's run: the four results, the arguments unchanged. -/
theorem run : θ_run defs (onTc (τ := τ) (main (F := Ideal))) ⟨m, fun _ => 0, ρ⟩ fun r => ∀ c : Dev nD,
      r.2.mem ((c : Thread nD τ).loc main_v9_0) = result6 m c
      ∧ r.2.mem ((c : Thread nD τ).loc main_v9_1) = result7 m c
      ∧ r.2.mem ((c : Thread nD τ).loc main_v9_2) = result8 m c
      ∧ r.2.mem ((c : Thread nD τ).loc main_v9_3) = result9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨(h c).1.trans ((dats m 0 c).arrAt_eq_of_cover 6 (result6 m c) (fun t _ => flushed6 m c t) cover6),
       (h c).2.1.trans ((dats m 0 c).arrAt_eq_of_cover 7 (result7 m c) (fun t _ => flushed7 m c t) cover7),
       (h c).2.2.1.trans ((dats m 0 c).arrAt_eq_of_cover 8 (result8 m c) (fun t _ => flushed8 m c t) cover8),
       (h c).2.2.2.1.trans ((dats m 0 c).arrAt_eq_of_cover 9 (result9 m c) (fun t _ => flushed9 m c t) cover9),
       (h c).2.2.2.2⟩) (Value.run_blocks m ρ)

end Cert.Kernel2Ideal.Block
-- ==== Proof.InRef.lean ====
/- The reference of the input projection, read at an index. -/
module

public import proofs.«01_k».proof.Proof.Gen.Reference2Ideal.Read
public import proofs.«01_k».proof.Proof.InArray
public import Idealize.ShloMosaic.Lib.IdealHost

@[expose] public section

set_option maxRecDepth 16384

noncomputable section

namespace Cert.Reference2Ideal.Layer

open Cert.Reference2Ideal Cert.Reference2Ideal.Gen Cert.Reference2Ideal.Read Cert.Rows Cert.Kernel2Ideal.Block
open Idealize.ShloMosaic Idealize.ShloMosaic.TcCoe Idealize.SL.Sem

variable (x : Vec Ideal S8x4096x1024 .f32) (g : Vec Ideal S1024 .f32) (w : Vec Ideal S1024x3584 .f32)

/-- The normalised stage. -/
theorem normed_apply (b : Fin 8) (s : Fin 4096) (c : Fin 1024) :
    val_main_v12 (F := Ideal) x g (ix3 b s c) = normed (fun k => x (ix3 b s k)) (fun k => g (ix1 k)) c := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]
  rfl

/-- The projected stage, by rows. -/
theorem proj_apply (R : Fin 32768) (c : Fin 3584) : val_main_v14 (F := Ideal) x g w (ix2 R c) = proj x g w R c := by
  pointwise [val_main_v14, val_main_v13]
  simp only [normed_apply]
  rfl

theorem queries_eq : val_main_v26 (F := Ideal) x g w = queries x g w := by
  funext i
  obtain ⟨a, R, rfl⟩ : ∃ (a : Fin 512) (R : Fin 32768), i = ix2 a R := ⟨i 0, i 1, eq_ix2 i⟩
  pointwise [val_main_v26, val_main_v25, val_main_v24, val_main_v23, val_main_cst_3, val_main_v15]
  simp only [proj_apply]
  rfl

theorem keys_eq : val_main_v27 (F := Ideal) x g w = keys x g w := by
  funext i
  obtain ⟨R, a, rfl⟩ : ∃ (R : Fin 32768) (a : Fin 512), i = ix2 R a := ⟨i 0, i 1, eq_ix2 i⟩
  pointwise [val_main_v27, val_main_v16]
  simp only [proj_apply]
  rfl

theorem gates_eq : val_main_v18 (F := Ideal) x g w = gates x g w := by
  funext i
  obtain ⟨R, a, rfl⟩ : ∃ (R : Fin 32768) (a : Fin 2048), i = ix2 R a := ⟨i 0, i 1, eq_ix2 i⟩
  pointwise [val_main_v18]
  simp only [proj_apply]
  rfl

theorem values_eq : val_main_v29 (F := Ideal) x g w = values x g w := by
  funext i
  obtain ⟨s, b, d, rfl⟩ : ∃ (s : Fin 128) (b : Fin 576) (d : Fin 256), i = ix3 s b d := ⟨i 0, i 1, i 2, eq_ix3 i⟩
  pointwise [val_main_v29, val_main_v28, val_main_v22, val_main_v21, val_main_cst_2, val_main_v20, val_main_v19, val_main_v17]
  by_cases h : b.val % 144 < 128
  · rw [dif_pos h, proj_apply]
    unfold values
    split
    · rfl
    · exact absurd h ‹_›
  · rw [dif_neg h]
    unfold values
    split
    · exact absurd ‹_› h
    · exact Idealize.ShloMosaic.Ideal.ofBits_one_bf16.symm

end Cert.Reference2Ideal.Layer
-- ==== Proof.TailBlock.lean ====
/- What one grid point of the projection and perceptron kernel without the last norm leaves in its block, read at an index:
   the row function of `Rows.lean` at the rows of the point's input blocks. -/
module

public import proofs.«01_k».proof.Proof.Gen.Kernel3Ideal.Value
public import proofs.«01_k».proof.Proof.Rows
public import Idealize.ShloMosaic.Lib.Pointwise

@[expose] public section

set_option maxRecDepth 16384

noncomputable section

namespace Cert.Kernel3Ideal.Block

open Cert.Kernel3Ideal Cert.Kernel3Ideal.Gen Cert.Rows Idealize.ShloMosaic Idealize.ShloMosaic.TcCoe Idealize.SL.Sem
open Idealize.ShloMosaic.Pipeline (Dat)

/-- Row `r` of a matrix. -/
abbrev rowOf {a b : ℕ} (X : (⟨2, ![a, b]⟩ : Shape).Idx → EReal) (r : Fin a) : Fin b → EReal := fun k => X (ix2 r k)

/-- The matrix as a function of its two coordinates. -/
abbrev mat {a b : ℕ} (X : (⟨2, ![a, b]⟩ : Shape).Idx → EReal) : Fin a → Fin b → EReal := fun i k => X (ix2 i k)

section Payloads

variable (x : Vec Ideal S1024x1024 .f32) (oa oh : Vec Ideal S1024x512 .bf16) (w : Vec Ideal S1024x1024 .bf16)
  (g : Vec Ideal S1x1024 .f32) (u : Vec Ideal S1024x4096 .bf16) (d : Vec Ideal S4096x1024 .bf16)

/-- The residual row of block row `r`. -/
abbrev resRow (r : Fin 1024) : Fin 1024 → EReal := resid (rowOf x r) (rowOf oa r) (rowOf oh r) (mat w)

/-- The first stored value is the residual row. -/
theorem pay3_apply (r c : Fin 1024) :
    k0_pay3 x oa (View.ld w (Rect.unit ![0, 0] ![512, 1024] inb_S1024x1024_S512x1024_0_0)) oh
      (View.ld w (Rect.unit ![512, 0] ![512, 1024] inb_S1024x1024_S512x1024_512_0)) (ix2 r c) = resRow x oa oh w r c := by
  rw [View.ld_unit, View.ld_unit]
  pointwise [k0_pay3]
  unfold resRow resid
  rfl

/-- The normalised residual row. -/
theorem pay4_apply (r c : Fin 1024) :
    k0_pay4 x oa (View.ld w (Rect.unit ![0, 0] ![512, 1024] inb_S1024x1024_S512x1024_0_0)) oh
      (View.ld w (Rect.unit ![512, 0] ![512, 1024] inb_S1024x1024_S512x1024_512_0)) g (ix2 r c)
      = normed (resRow x oa oh w r) (rowOf g 0) c := by
  pointwise [k0_pay4]
  simp only [pay3_apply]
  rfl

/-- What the scratch holds once its eight column tiles are stored: the hidden row of every row of the block. -/
def scratch (y : FVec Ideal S1024x1024 .bf16) : Vec Ideal S1024x4096 .bf16 :=
  fun i => hidden (rowOf y (i 0)) (mat u) (i 1)

/-- The tile stored from column 512 on. -/
theorem tile_512 (y : FVec Ideal S1024x1024 .bf16) (r : Fin 1024) (c : Fin 512) :
    k0_pay7 y (View.ld u (Rect.unit ![0, 512] ![1024, 512] inb_S1024x4096_S1024x512_0_512)) (ix2 r c)
      = scratch u y (ix2 r ⟨512 + c, by omega⟩) := by
  rw [View.ld_unit]
  pointwise [k0_pay7]
  rfl

/-- The tile stored from column 1024 on. -/
theorem tile_1024 (y : FVec Ideal S1024x1024 .bf16) (r : Fin 1024) (c : Fin 512) :
    k0_pay8 y (View.ld u (Rect.unit ![0, 1024] ![1024, 512] inb_S1024x4096_S1024x512_0_1024)) (ix2 r c)
      = scratch u y (ix2 r ⟨1024 + c, by omega⟩) := by
  rw [View.ld_unit]
  pointwise [k0_pay8]
  rfl

/-- The tile stored from column 1536 on. -/
theorem tile_1536 (y : FVec Ideal S1024x1024 .bf16) (r : Fin 1024) (c : Fin 512) :
    k0_pay9 y (View.ld u (Rect.unit ![0, 1536] ![1024, 512] inb_S1024x4096_S1024x512_0_1536)) (ix2 r c)
      = scratch u y (ix2 r ⟨1536 + c, by omega⟩) := by
  rw [View.ld_unit]
  pointwise [k0_pay9]
  rfl

/-- The tile stored from column 2048 on. -/
theorem tile_2048 (y : FVec Ideal S1024x1024 .bf16) (r : Fin 1024) (c : Fin 512) :
    k0_pay11 y (k0_pay10 (View.ld u (Rect.unit ![0, 2048] ![1024, 512] inb_S1024x4096_S1024x512_0_2048))) (constant S1024x512 FTy.f32 0#32) (ix2 r c)
      = scratch u y (ix2 r ⟨2048 + c, by omega⟩) := by
  rw [View.ld_unit]
  pointwise [k0_pay11, k0_pay10]
  rfl

/-- The tile stored from column 2560 on. -/
theorem tile_2560 (y : FVec Ideal S1024x1024 .bf16) (r : Fin 1024) (c : Fin 512) :
    k0_pay12 y (View.ld u (Rect.unit ![0, 2560] ![1024, 512] inb_S1024x4096_S1024x512_0_2560)) (ix2 r c)
      = scratch u y (ix2 r ⟨2560 + c, by omega⟩) := by
  rw [View.ld_unit]
  pointwise [k0_pay12]
  rfl

/-- The tile stored from column 3072 on. -/
theorem tile_3072 (y : FVec Ideal S1024x1024 .bf16) (r : Fin 1024) (c : Fin 512) :
    k0_pay13 y (View.ld u (Rect.unit ![0, 3072] ![1024, 512] inb_S1024x4096_S1024x512_0_3072)) (ix2 r c)
      = scratch u y (ix2 r ⟨3072 + c, by omega⟩) := by
  rw [View.ld_unit]
  pointwise [k0_pay13]
  rfl

/-- The tile stored from column 3584 on. -/
theorem tile_3584 (y : FVec Ideal S1024x1024 .bf16) (r : Fin 1024) (c : Fin 512) :
    k0_pay1 (k0_pay14 y (View.ld u (Rect.unit ![0, 3584] ![1024, 512] inb_S1024x4096_S1024x512_0_3584))) (ix2 r c)
      = scratch u y (ix2 r ⟨3584 + c, by omega⟩) := by
  rw [View.ld_unit]
  pointwise [k0_pay1, k0_pay14]
  rfl

/-- The first tile, stored from column 0 on. -/
theorem tile_0 (a1 : Vec Ideal S1024x1024 .f32) (a2 a4 : Vec Ideal S1024x512 .bf16) (a3 a5 : Vec Ideal S512x1024 .bf16)
    (a6 : Vec Ideal S1x1024 .f32) (r : Fin 1024) (c : Fin 512) :
    k0_pay6 (k0_pay5 a1 a2 a3 a4 a5 a6 (View.ld u (Rect.unit ![0, 0] ![1024, 512] inb_S1024x4096_S1024x512_0_0))) (ix2 r c)
      = scratch u (k0_pay4 a1 a2 a3 a4 a5 a6) (ix2 r ⟨0 + c, by omega⟩) := by
  rw [View.ld_unit]
  pointwise [k0_pay6, k0_pay5]
  rfl

/-- The last stored value: the residual row plus the down projection of the scratch. -/
theorem pay2_apply (h : FVec Ideal S1024x1024 .f32) (s : Vec Ideal S1024x4096 .bf16) (r c : Fin 1024) :
    k0_pay2 h s d (ix2 r c) = h (ix2 r c) + ∑ n, s (ix2 r n) * d (ix2 n c) := by
  pointwise [k0_pay2]

end Payloads

section Point

variable (m : (ℓ : Loc nD τ sig) → Buf (Elt Ideal) ℓ)

theorem zero2 : (![0, 0] : Fin 2 → Nat) = fun _ => 0 := funext fun a => by fin_cases a <;> rfl

/-- Where a column tile's index sits in the scratch. -/
theorem place (o : ℕ) (inb) (ho : o + 512 ≤ 4096) (i : S1024x512.Idx) :
    (Rect.unit (s := S1024x4096) ![0, o] ![1024, 512] inb).emb i = ix2 (i 0) ⟨o + i 1, by have : (i 1 : ℕ) < 512 := (i 1).isLt; omega⟩ := by
  funext a
  apply Fin.ext
  fin_cases a
  · show 0 + 1 * (i 0 : ℕ) = i 0; omega
  · show o + 1 * (i 1 : ℕ) = o + i 1; omega

/-- The scratch's eight tiles, read back whole. -/
theorem scratch_read (v : View sig .tc .vmem S1024x4096 .bf16) (x : Vec Ideal S1024x1024 .f32) (a2 a4 : Vec Ideal S1024x512 .bf16)
    (a3 a5 : Vec Ideal S512x1024 .bf16) (a6 : Vec Ideal S1x1024 .f32) (u : Vec Ideal S1024x4096 .bf16) :
    View.readCov (Val := Elt Ideal) v
      [⟨Rect.unit ![0, 3584] ![1024, 512] inb_S1024x4096_S1024x512_0_3584,
          k0_pay1 (k0_pay14 (k0_pay4 x a2 a3 a4 a5 a6) (View.ld u (Rect.unit ![0, 3584] ![1024, 512] inb_S1024x4096_S1024x512_0_3584)))⟩,
       ⟨Rect.unit ![0, 3072] ![1024, 512] inb_S1024x4096_S1024x512_0_3072,
          k0_pay13 (k0_pay4 x a2 a3 a4 a5 a6) (View.ld u (Rect.unit ![0, 3072] ![1024, 512] inb_S1024x4096_S1024x512_0_3072))⟩,
       ⟨Rect.unit ![0, 2560] ![1024, 512] inb_S1024x4096_S1024x512_0_2560,
          k0_pay12 (k0_pay4 x a2 a3 a4 a5 a6) (View.ld u (Rect.unit ![0, 2560] ![1024, 512] inb_S1024x4096_S1024x512_0_2560))⟩,
       ⟨Rect.unit ![0, 2048] ![1024, 512] inb_S1024x4096_S1024x512_0_2048,
          k0_pay11 (k0_pay4 x a2 a3 a4 a5 a6) (k0_pay10 (View.ld u (Rect.unit ![0, 2048] ![1024, 512] inb_S1024x4096_S1024x512_0_2048))) (constant S1024x512 FTy.f32 0#32)⟩,
       ⟨Rect.unit ![0, 1536] ![1024, 512] inb_S1024x4096_S1024x512_0_1536,
          k0_pay9 (k0_pay4 x a2 a3 a4 a5 a6) (View.ld u (Rect.unit ![0, 1536] ![1024, 512] inb_S1024x4096_S1024x512_0_1536))⟩,
       ⟨Rect.unit ![0, 1024] ![1024, 512] inb_S1024x4096_S1024x512_0_1024,
          k0_pay8 (k0_pay4 x a2 a3 a4 a5 a6) (View.ld u (Rect.unit ![0, 1024] ![1024, 512] inb_S1024x4096_S1024x512_0_1024))⟩,
       ⟨Rect.unit ![0, 512] ![1024, 512] inb_S1024x4096_S1024x512_0_512,
          k0_pay7 (k0_pay4 x a2 a3 a4 a5 a6) (View.ld u (Rect.unit ![0, 512] ![1024, 512] inb_S1024x4096_S1024x512_0_512))⟩,
       ⟨Rect.unit ![0, 0] ![1024, 512] inb_S1024x4096_S1024x512_0_0,
          k0_pay6 (k0_pay5 x a2 a3 a4 a5 a6 (View.ld u (Rect.unit ![0, 0] ![1024, 512] inb_S1024x4096_S1024x512_0_0)))⟩]
      (Rect.unit ![0, 0] ![1024, 4096] inb_S1024x4096_S1024x4096_0_0).toLoadRect
      = scratch u (k0_pay4 x a2 a3 a4 a5 a6) := by
  rw [View.readCov_eq_canon']
  funext j
  have hj : (Rect.unit ![0, 0] ![1024, 4096] inb_S1024x4096_S1024x4096_0_0).toLoadRect.idx j = j := by
    funext a; apply Fin.ext; fin_cases a <;> simp [Rect.toLoadRect, LoadRect.idx, Rect.unit]
  rw [hj]
  refine View.canon_apply_of_pieces (scratch u (k0_pay4 x a2 a3 a4 a5 a6)) _ ?_ j
    (View.cover_of_tiledL _ ![1024, 512] (by sl_kernel_rfl) j)
  intro p hp
  simp only [List.mem_cons, List.not_mem_nil, or_false] at hp
  rcases hp with rfl | rfl | rfl | rfl | rfl | rfl | rfl | rfl <;> intro i <;> rw [place _ _ (by decide)]
  · exact (congrArg _ (eq_ix2 i)).trans (tile_3584 u _ _ _)
  · exact (congrArg _ (eq_ix2 i)).trans (tile_3072 u _ _ _)
  · exact (congrArg _ (eq_ix2 i)).trans (tile_2560 u _ _ _)
  · exact (congrArg _ (eq_ix2 i)).trans (tile_2048 u _ _ _)
  · exact (congrArg _ (eq_ix2 i)).trans (tile_1536 u _ _ _)
  · exact (congrArg _ (eq_ix2 i)).trans (tile_1024 u _ _ _)
  · exact (congrArg _ (eq_ix2 i)).trans (tile_512 u _ _ _)
  · exact (congrArg _ (eq_ix2 i)).trans (tile_0 u _ _ _ _ _ _ _ _)

/-- The value a point stores, over its loaded blocks. -/
theorem value_eq (x : Vec Ideal S1024x1024 .f32) (oa oh : Vec Ideal S1024x512 .bf16) (w : Vec Ideal S1024x1024 .bf16)
    (g : Vec Ideal S1x1024 .f32) (u : Vec Ideal S1024x4096 .bf16) (d : Vec Ideal S4096x1024 .bf16) (r j : Fin 1024) :
    k0_pay2
      (k0_pay3 (View.ld x (Rect.unit ![0, 0] ![1024, 1024] inb_S1024x1024_S1024x1024_0_0))
        (View.ld oa (Rect.unit ![0, 0] ![1024, 512] inb_S1024x512_S1024x512_0_0))
        (View.ld w (Rect.unit ![0, 0] ![512, 1024] inb_S1024x1024_S512x1024_0_0))
        (View.ld oh (Rect.unit ![0, 0] ![1024, 512] inb_S1024x512_S1024x512_0_0))
        (View.ld w (Rect.unit ![512, 0] ![512, 1024] inb_S1024x1024_S512x1024_512_0)))
      (scratch u
        (k0_pay4 (View.ld x (Rect.unit ![0, 0] ![1024, 1024] inb_S1024x1024_S1024x1024_0_0))
          (View.ld oa (Rect.unit ![0, 0] ![1024, 512] inb_S1024x512_S1024x512_0_0))
          (View.ld w (Rect.unit ![0, 0] ![512, 1024] inb_S1024x1024_S512x1024_0_0))
          (View.ld oh (Rect.unit ![0, 0] ![1024, 512] inb_S1024x512_S1024x512_0_0))
          (View.ld w (Rect.unit ![512, 0] ![512, 1024] inb_S1024x1024_S512x1024_512_0))
          (View.ld g (Rect.unit ![0, 0] ![1, 1024] inb_S1x1024_S1x1024_0_0))))
      (View.ld d (Rect.unit ![0, 0] ![4096, 1024] inb_S4096x1024_S4096x1024_0_0)) (ix2 r j)
      = after (resRow x oa oh w r) (rowOf g 0) (mat u) (mat d) j := by
  rw [pay2_apply, View.ld_unit_zero (S := S1024x1024) zero2 _ x, View.ld_unit_zero (S := S1024x512) zero2 _ oa,
    View.ld_unit_zero (S := S1024x512) zero2 _ oh, View.ld_unit_zero (S := S1x1024) zero2 _ g, View.ld_unit_zero (S := S4096x1024) zero2 _ d]
  simp only [pay3_apply]
  have e : rowOf (k0_pay4 x oa (View.ld w (Rect.unit ![0, 0] ![512, 1024] inb_S1024x1024_S512x1024_0_0)) oh
      (View.ld w (Rect.unit ![512, 0] ![512, 1024] inb_S1024x1024_S512x1024_512_0)) g) r
      = normed (resRow x oa oh w r) (rowOf g 0) := funext fun k => pay4_apply x oa oh w g r k
  unfold scratch after
  rw [← e]
  rfl

/-- What point `t` leaves in its block: the layer's row function at the block's rows. -/
theorem outs_eq (c : Dev nD) (t : Fin cfg0.N) (r j : Fin 1024) : outsAt0 m c t (ix2 r j)
    = after (resRow (iblk m c 0 t) (iblk m c 1 t) (iblk m c 2 t) (iblk m c 3 t) r) (rowOf (iblk m c 4 t) 0)
        (mat (iblk m c 5 t)) (mat (iblk m c 6 t)) j := by
  unfold outsAt0 out0_A_8
  rw [View.read_writes_eq_canon _ _ _ (cover0_A_8 c _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero zero2, scratch_read]
  exact value_eq _ _ _ _ _ _ _ r j

end Point

end Cert.Kernel3Ideal.Block
-- ==== Proof.TailArray.lean ====
/- The array the projection and perceptron kernel without the last norm leaves, as one function of its arguments: the thirty-two blocks of
   1024 rows cover it, and each row of it is the row function of `Rows.lean` at the same row of the arguments. -/
module

public import proofs.«01_k».proof.Proof.TailBlock
public import Idealize.ShloMosaic.Lib.StableHlo.ReadAt
public import Idealize.ShloMosaic.Lib.Pipeline.ValueKit.Point

@[expose] public section

set_option maxRecDepth 16384

noncomputable section

namespace Cert.Kernel3Ideal.Block

open Cert.Kernel3Ideal Cert.Kernel3Ideal.Gen Cert.Rows Idealize.ShloMosaic Idealize.ShloMosaic.TcCoe Idealize.SL.Sem
open Idealize.ShloMosaic.Pipeline (Dat)

/-- Row `R` of an array of 8 sequences of 4096 rows. -/
abbrev row3 {b : ℕ} (X : (⟨3, ![8, 4096, b]⟩ : Shape).Idx → EReal) (R : Fin 32768) : Fin b → EReal :=
  fun k => X (ix3 ⟨R / 4096, by omega⟩ ⟨R % 4096, by omega⟩ k)

/-- The layer's result, row by row, as a function of the seven arguments it depends on. -/
def value (x : Vec Ideal S8x4096x1024 .f32) (oa oh : Vec Ideal S8x4096x512 .bf16) (w : Vec Ideal S1024x1024 .f32)
    (g : Vec Ideal S1024 .f32) (u : Vec Ideal S1024x4096 .f32) (d : Vec Ideal S4096x1024 .f32) :
    Vec Ideal S32768x1024 .f32 :=
  fun i => after (resid (row3 x (i 0)) (row3 oa (i 0)) (row3 oh (i 0)) (mat w)) (fun k => g (ix1 k)) (mat u) (mat d) (i 1)

variable (m : (ℓ : Loc nD τ sig) → Buf (Elt Ideal) ℓ) (ρ : Dev nD → PrngReg)

/-! ## Where the windows' blocks lie -/

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index8 : ∀ t : Fin cfg0.N, win0_8.index t = ![t.val, 0] :=
  (by decide +kernel : ∀ t : Fin grid0.N, win0_8.index t = ![t.val, 0])

theorem row_lt (t : Fin cfg0.N) (r : Fin 1024) : t.val * 1024 + r < 32768 := by
  have := t.isLt
  have : cfg0.N = 32 := N_0
  omega

theorem blk0 (c : Dev nD) (t : Fin cfg0.N) (r : Fin 1024) (k : Fin 1024) :
    iblk m c 0 t (ix2 r k) = row3 (m ((c : Thread nD τ).loc main_arg0)) ⟨t.val * 1024 + r, row_lt t r⟩ k := by
  blk_simp [iblk, index0 t]
  entry_read
  pointwise
  blk_ext [index0 t]

theorem blk1 (c : Dev nD) (t : Fin cfg0.N) (r : Fin 1024) (k : Fin 512) :
    iblk m c 1 t (ix2 r k) = row3 (m ((c : Thread nD τ).loc main_arg1)) ⟨t.val * 1024 + r, row_lt t r⟩ k := by
  blk_simp [iblk, index1 t]
  entry_read
  pointwise
  blk_ext [index1 t]

theorem blk2 (c : Dev nD) (t : Fin cfg0.N) (r : Fin 1024) (k : Fin 512) :
    iblk m c 2 t (ix2 r k) = row3 (m ((c : Thread nD τ).loc main_arg2)) ⟨t.val * 1024 + r, row_lt t r⟩ k := by
  blk_simp [iblk, index2 t]
  entry_read
  pointwise
  blk_ext [index2 t]

theorem blk3 (c : Dev nD) (t : Fin cfg0.N) (r : Fin 1024) (k : Fin 1024) :
    iblk m c 3 t (ix2 r k) = m ((c : Thread nD τ).loc main_arg3) (ix2 r k) := by
  blk_ext! [iblk, V, index3 t]

theorem blk5 (c : Dev nD) (t : Fin cfg0.N) (r : Fin 1024) (k : Fin 4096) :
    iblk m c 5 t (ix2 r k) = m ((c : Thread nD τ).loc main_arg5) (ix2 r k) := by
  blk_ext! [iblk, V, index5 t]

theorem blk6 (c : Dev nD) (t : Fin cfg0.N) (r : Fin 4096) (k : Fin 1024) :
    iblk m c 6 t (ix2 r k) = m ((c : Thread nD τ).loc main_arg6) (ix2 r k) := by
  blk_ext! [iblk, V, index6 t]

theorem blk4 (c : Dev nD) (t : Fin cfg0.N) (k : Fin 1024) :
    iblk m c 4 t (ix2 0 k) = m ((c : Thread nD τ).loc main_arg4) (ix1 k) := by
  blk_ext! [iblk, V, index4 t]

/-! ## The array -/

/-- The layer's result over the arguments the run starts from. -/
abbrev result (c : Dev nD) : Vec Ideal S32768x1024 .f32 :=
  value (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Where an index of point `t`'s result block sits in the array. -/
theorem emb8 (t : Fin cfg0.N) (r j : Fin 1024) :
    (win0_8.blk t).view.emb (ix2 r j) = (ix2 ⟨t.val * 1024 + r, row_lt t r⟩ j : S32768x1024.Idx) := by
  blk_ext [index8 t]

/-- What point `t` writes back is its block of the layer's result. -/
theorem flushed_eq (c : Dev nD) (t : Fin cfg0.N) :
    (dats m 0 c).flushed 8 t = (win0_8.blk t).view.read (Elt Ideal) (result m c) := by
  rw [Value.flushed8]
  funext y
  obtain ⟨r, j, rfl⟩ : ∃ (r j : Fin 1024), y = ix2 r j := ⟨y 0, y 1, eq_ix2 y⟩
  show outsAt0 m c t (ix2 r j) = result m c ((win0_8.blk t).view.emb (ix2 r j))
  rw [emb8, outs_eq]
  have e0 : rowOf (iblk m c 0 t) r = row3 (m ((c : Thread nD τ).loc main_arg0)) ⟨t.val * 1024 + r, row_lt t r⟩ := funext (blk0 m c t r)
  have e1 : rowOf (iblk m c 1 t) r = row3 (m ((c : Thread nD τ).loc main_arg1)) ⟨t.val * 1024 + r, row_lt t r⟩ := funext (blk1 m c t r)
  have e2 : rowOf (iblk m c 2 t) r = row3 (m ((c : Thread nD τ).loc main_arg2)) ⟨t.val * 1024 + r, row_lt t r⟩ := funext (blk2 m c t r)
  have e3 : mat (iblk m c 3 t) = mat (m ((c : Thread nD τ).loc main_arg3)) := funext fun a => funext (blk3 m c t a)
  have e5 : mat (iblk m c 5 t) = mat (m ((c : Thread nD τ).loc main_arg5)) := funext fun a => funext (blk5 m c t a)
  have e6 : mat (iblk m c 6 t) = mat (m ((c : Thread nD τ).loc main_arg6)) := funext fun a => funext (blk6 m c t a)
  have e4 : rowOf (iblk m c 4 t) 0 = fun k => m ((c : Thread nD τ).loc main_arg4) (ix1 k) := funext (blk4 m c t)
  unfold resRow
  rw [e0, e1, e2, e3, e4, e5, e6]
  rfl

/-- The result's blocks cover its array. -/
theorem cover (i : S32768x1024.Idx) : ∃ t : Fin cfg0.N, (cfg0.win 8).flush t = true ∧ i ∈ ((cfg0.win 8).blk t).view.set := by
  obtain ⟨R, j, rfl⟩ : ∃ (R : Fin 32768) (j : Fin 1024), i = ix2 R j := ⟨i 0, i 1, eq_ix2 i⟩
  have hN : cfg0.N = 32 := N_0
  refine ⟨⟨R / 1024, by omega⟩, flush0_8 _, ?_⟩
  have e := emb8 ⟨R / 1024, by omega⟩ ⟨R % 1024, by omega⟩ j
  have hR : (⟨R / 1024 * 1024 + R % 1024, by omega⟩ : Fin 32768) = R := Fin.ext (by show R.val / 1024 * 1024 + R.val % 1024 = R.val; omega)
  rw [hR] at e
  rw [← e]
  exact Finset.mem_map_of_mem _ (Finset.mem_univ _)

/-- The array after the run is the layer's result. -/
theorem final (c : Dev nD) : (dats m 0 c).arrAt 8 cfg0.N = result m c :=
  (dats m 0 c).arrAt_eq_of_cover 8 (result m c) (fun t _ => flushed_eq m c t) cover

/-- The kernel's run: the result, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks m ρ)

end Cert.Kernel3Ideal.Block
-- ==== Proof.TailRef.lean ====
/- The reference of the projection and perceptron call without the last norm, read at an index: the row function of `Rows.lean`. -/
module

public import proofs.«01_k».proof.Proof.Gen.Reference3Ideal.Read
public import proofs.«01_k».proof.Proof.TailArray

@[expose] public section

set_option maxRecDepth 16384

noncomputable section

namespace Cert.Reference3Ideal.Layer

open Cert.Reference3Ideal Cert.Reference3Ideal.Gen Cert.Reference3Ideal.Read Cert.Rows Cert.Kernel3Ideal.Block
open Idealize.ShloMosaic Idealize.ShloMosaic.TcCoe Idealize.SL.Sem

variable (x : Vec Ideal S8x4096x1024 .f32) (oa oh : Vec Ideal S8x4096x512 .bf16) (w : Vec Ideal S1024x1024 .f32)
    (g : Vec Ideal S1024 .f32) (u : Vec Ideal S1024x4096 .f32) (d : Vec Ideal S4096x1024 .f32)

/-- Row `(b, s)` of an array of 8 sequences of 4096 rows. -/
abbrev seqRow {n : ℕ} (X : (⟨3, ![8, 4096, n]⟩ : Shape).Idx → EReal) (b : Fin 8) (s : Fin 4096) : Fin n → EReal :=
  fun k => X (ix3 b s k)

/-- The residual stage. -/
theorem resid_apply (b : Fin 8) (s : Fin 4096) (c : Fin 1024) :
    val_main_v2 (F := Ideal) x oa oh w (ix3 b s c) = resid (seqRow x b s) (seqRow oa b s) (seqRow oh b s) (mat w) c := by
  pointwise [val_main_v2, val_main_v1, val_main_v0]
  unfold resid
  exact (add_assoc _ _ _).symm

/-- The normalised stage. -/
theorem normed_apply (b : Fin 8) (s : Fin 4096) (c : Fin 1024) :
    val_main_v15 (F := Ideal) x oa oh w g (ix3 b s c)
      = normed (resid (seqRow x b s) (seqRow oa b s) (seqRow oh b s) (mat w)) (fun k => g (ix1 k)) c := by
  pointwise [val_main_v15, val_main_v14, val_main_v13, val_main_v12, val_main_v11, val_main_v10, val_main_v9, val_main_v8,
    val_main_cst_1, val_main_v7, val_main_v6, val_main_cst_0, val_main_v5, val_main_v4, val_main_cst, val_main_v3]
  simp only [resid_apply]
  rfl

/-- The stage after the perceptron's residual sum. -/
theorem after_apply (b : Fin 8) (s : Fin 4096) (c : Fin 1024) :
    val_main_v20 (F := Ideal) x oa oh w g u d (ix3 b s c)
      = after (resid (seqRow x b s) (seqRow oa b s) (seqRow oh b s) (mat w)) (fun k => g (ix1 k)) (mat u) (mat d) c := by
  pointwise [val_main_v20, val_main_v19, val_main_v18, val_main_v17, val_main_call0_v0, val_main_call0_cst, val_main_v16]
  simp only [resid_apply, normed_apply]
  rfl

theorem ref_eq : val_main_v21 (F := Ideal) x oa oh w g u d = value x oa oh w g u d := by
  funext i
  obtain ⟨R, j, rfl⟩ : ∃ (R : Fin 32768) (j : Fin 1024), i = ix2 R j := ⟨i 0, i 1, eq_ix2 i⟩
  pointwise [val_main_v21]
  simp only [after_apply]
  rfl

end Cert.Reference3Ideal.Layer
-- ==== Proof.RecKFrame.lean ====
/- The recurrence's call as the version has it: its arguments end unchanged and it raises no semaphore. -/
module

public import proofs.«01_k».proof.Proof.RecRun
public import Idealize.ShloMosaic.Lib.Claim

@[expose] public section

set_option maxRecDepth 16384

noncomputable section

namespace Cert.Kernel4.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The window whose contents are not named: the result. -/
def forgets0 : Fin 8 → Bool := fun w => w.val == 7

/-- The proof data: each argument's buffer at its block, the result's unnamed, the region's own invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := Pipeline.ΦA spec0 c
  q w := Pipeline.shareOf spec0 w
  owed _ := 0

/-- The arrays are the region-entry contents. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d))

set_option maxHeartbeats 2000000 in
/-- The body at any point: the run of its case, what it leaves in the result and the state not named. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.succ = Pipeline.ΦA spec0 c from rfl, show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  icases HS0 with ⟨%ds, HS0⟩
  unfold owns
  icases H7 with ⟨%f7, %h7, H7⟩
  icases HS0 with ⟨%f10, %h10, HS0⟩
  by_cases h0 : t.val % 2 = 0
  · iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) f7 f10 Set.univ _)
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    isplitl [H7]; · iexact H7
    isplitl [HS0]; · iexact HS0
    iintro ⟨H0, H1, H2, H3, H4, H5, H6, H7, HS0⟩
    isplitl [HS0 Hg]
    · isplitl [HS0]
      · iexists _; iexists _; isplitr
        swap; · iexact HS0
        ipureintro; rfl
      iexact Hg
    isplitl [Ho]; · iexact Ho
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    iexists _; iexists _; isplitr
    swap; · iexact H7
    ipureintro; rfl
  · iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) f7 f10 Set.univ _)
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    isplitl [H7]; · iexact H7
    isplitl [HS0]; · iexact HS0
    iintro ⟨H0, H1, H2, H3, H4, H5, H6, H7, HS0⟩
    isplitl [HS0 Hg]
    · isplitl [HS0]
      · iexists _; iexists _; isplitr
        swap; · iexact HS0
        ipureintro; rfl
      iexact Hg
    isplitl [Ho]; · iexact Ho
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    iexists _; iexists _; isplitr
    swap; · iexact H7
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The invariant is the region's own, before the first point and after the last. -/
theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Pipeline.ΦA spec0 c from rfl]

/-! ## The run and the frame -/

set_option backward.isDefEq.respectTransparency.types false in
/-- The launch: the arguments' arrays end as the region found them, every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The launch, without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 3 rfl).trans ((A_eq m c 3).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

/-- The arguments end unchanged and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel4.Gen

end
-- ==== Proof.RecStage.lean ====
module

public import proofs.«01_k».proof.Proof.Gen.Kernel4Ideal.Skeleton

@[expose] public section

set_option maxRecDepth 16384

noncomputable section

namespace Cert.Kernel4Ideal.Block

open Cert.Kernel4Ideal Cert.Kernel4Ideal.Gen
open Idealize.ShloMosaic Idealize.ShloMosaic.TcCoe Idealize.ShloMosaic.Tactic

variable {F : FTy → Type} [FloatOps F] [Named F]

/-- The logarithm of the forget gate, in units of log 2, of a chunk's 64 rows. -/
def gV (llb l1m : Vec F S1x256 .f32) (rf : Vec F S1x64x256 .f32) : FVec F S64x256 .f32 :=
  k0_pay13 (k0_pay5 llb) (k0_pay6 l1m) (k0_pay9 rf) (k0_pay10 rf) k0_pay11

/-- One minus the forget gate. -/
def kinV (l1m : Vec F S1x256 .f32) (rf : Vec F S1x64x256 .f32) : FVec F S64x256 .f32 :=
  k0_pay14 (k0_pay6 l1m) (k0_pay8 rf) (k0_pay9 rf) (k0_pay10 rf) k0_pay11

/-- The query, after its own sigmoid gate. -/
def qV (rq : Vec F S1x64x256 .f32) : FVec F S64x256 .f32 := k0_pay15 (k0_pay7 rq)

/-- The value. -/
def vV (ri : Vec F S1x64x256 .f32) : FVec F S64x256 .bf16 := k0_pay16 ri

/-- What is left of `g` after its upper part. -/
def r1V (g : FVec F S64x256 .f32) : FVec F S64x256 .f32 := subf g (extf .f32 (truncf .bf16 g bitsLt_bf16_f32) bitsLt_bf16_f32)

/-- What is left of `g` after its two upper parts. -/
def r2V (g : FVec F S64x256 .f32) : FVec F S64x256 .f32 := subf (r1V g) (extf .f32 (truncf .bf16 (r1V g) bitsLt_bf16_f32) bitsLt_bf16_f32)

/-- The running sums of `g` down a chunk. -/
def bcV (g : FVec F S64x256 .f32) : FVec F S64x256 .f32 :=
  matmul dot_S64x192_S192x256_S64x256_1_0_0_1_n_n none k0_pay4
    (concatenate S192x256 0 [⟨S64x256, (truncf .bf16 g bitsLt_bf16_f32)⟩, ⟨S64x256, (truncf .bf16 (r1V g) bitsLt_bf16_f32)⟩, ⟨S64x256, (truncf .bf16 (r2V g) bitsLt_bf16_f32)⟩] concatenates_S64x256_S64x256_S64x256_S192x256_d0)
    (constant S64x256 .f32 0x00000000#32)

/-- The last running sum. -/
def blV (bc : FVec F S64x256 .f32) : FVec F S1x256 .f32 := (extractStridedSlice S1x256 ![63, 0] bc slices_S64x256_o63_0_S1x256)

/-- The key as the chunk's end sees it. -/
def keV (kin bc : FVec F S64x256 .f32) : FVec F S64x256 .bf16 :=
  (truncf .bf16 (mulf kin (exp2 (subf (broadcastTo S64x256 (blV bc) broadcasts_S1x256_S64x256) bc))) bitsLt_bf16_f32)

/-- The query as the chunk's start sees it. -/
def qeV (q bc : FVec F S64x256 .f32) : FVec F S64x256 .bf16 := (truncf .bf16 (mulf q (exp2 bc)) bitsLt_bf16_f32)

/-- Sub-block 0: the running sums about its middle row, held within bounds. -/
def u0V (bc : FVec F S64x256 .f32) : FVec F S16x256 .f32 :=
  minimumf (broadcast S16x256 (Scalar.ofBits .f32 1122424010#32)) (maximumf (broadcast S16x256 (Scalar.ofBits .f32 3269907658#32))
    (subf (extractStridedSlice S16x256 ![0, 0] bc slices_S64x256_o0_0_S16x256) (broadcastTo S16x256 (extractStridedSlice S1x256 ![8, 0] bc slices_S64x256_o8_0_S1x256) broadcasts_S1x256_S16x256)))

/-- Sub-block 0: its queries about its middle row. -/
def qd0V (q bc : FVec F S64x256 .f32) : FVec F S16x256 .bf16 :=
  (truncf .bf16 (mulf (extractStridedSlice S16x256 ![0, 0] q slices_S64x256_o0_0_S16x256) (exp2 (u0V bc))) bitsLt_bf16_f32)

/-- Sub-block 0: its keys about its middle row. -/
def kd0V (kin bc : FVec F S64x256 .f32) : FVec F S16x256 .bf16 :=
  (truncf .bf16 (mulf (extractStridedSlice S16x256 ![0, 0] kin slices_S64x256_o0_0_S16x256) (exp2 (subf (broadcast S16x256 (Scalar.ofBits .f32 0x00000000#32)) (u0V bc)))) bitsLt_bf16_f32)

/-- Sub-block 0: its keys, zero in the chunk's other rows. -/
def kdp0V (kin bc : FVec F S64x256 .f32) : FVec F S64x256 .bf16 :=
  concatenate S64x256 0 [⟨S16x256, kd0V kin bc⟩, ⟨S48x256, (broadcast S48x256 (Scalar.ofBits .bf16 0x0000#16))⟩] concatenates_S16x256_S48x256_S64x256_d0

/-- Sub-block 1: the running sums about its middle row, held within bounds. -/
def u1V (bc : FVec F S64x256 .f32) : FVec F S16x256 .f32 :=
  minimumf (broadcast S16x256 (Scalar.ofBits .f32 1122424010#32)) (maximumf (broadcast S16x256 (Scalar.ofBits .f32 3269907658#32))
    (subf (extractStridedSlice S16x256 ![16, 0] bc slices_S64x256_o16_0_S16x256) (broadcastTo S16x256 (extractStridedSlice S1x256 ![24, 0] bc slices_S64x256_o24_0_S1x256) broadcasts_S1x256_S16x256)))

/-- Sub-block 1: its queries about its middle row. -/
def qd1V (q bc : FVec F S64x256 .f32) : FVec F S16x256 .bf16 :=
  (truncf .bf16 (mulf (extractStridedSlice S16x256 ![16, 0] q slices_S64x256_o16_0_S16x256) (exp2 (u1V bc))) bitsLt_bf16_f32)

/-- Sub-block 1: its keys about its middle row. -/
def kd1V (kin bc : FVec F S64x256 .f32) : FVec F S16x256 .bf16 :=
  (truncf .bf16 (mulf (extractStridedSlice S16x256 ![16, 0] kin slices_S64x256_o16_0_S16x256) (exp2 (subf (broadcast S16x256 (Scalar.ofBits .f32 0x00000000#32)) (u1V bc)))) bitsLt_bf16_f32)

/-- Sub-block 1: its keys, zero in the chunk's other rows. -/
def kdp1V (kin bc : FVec F S64x256 .f32) : FVec F S64x256 .bf16 :=
  concatenate S64x256 0 [⟨S16x256, (broadcast S16x256 (Scalar.ofBits .bf16 0x0000#16))⟩, ⟨S16x256, kd1V kin bc⟩, ⟨S32x256, (broadcast S32x256 (Scalar.ofBits .bf16 0x0000#16))⟩] concatenates_S16x256_S16x256_S32x256_S64x256_d0

/-- Sub-block 1: its queries about its first row. -/
def qo1V (q bc : FVec F S64x256 .f32) : FVec F S16x256 .bf16 :=
  (truncf .bf16 (mulf (extractStridedSlice S16x256 ![16, 0] q slices_S64x256_o16_0_S16x256) (exp2 (subf (extractStridedSlice S16x256 ![16, 0] bc slices_S64x256_o16_0_S16x256) (broadcastTo S16x256 (extractStridedSlice S1x256 ![16, 0] bc slices_S64x256_o16_0_S1x256) broadcasts_S1x256_S16x256)))) bitsLt_bf16_f32)

/-- Sub-block 1: the earlier keys about its first row, zero from that row on. -/
def ko1V (kin bc : FVec F S64x256 .f32) : FVec F S64x256 .bf16 :=
  concatenate S64x256 0 [⟨S16x256, (truncf .bf16 (mulf (extractStridedSlice S16x256 ![0, 0] kin slices_S64x256_o0_0_S16x256) (exp2 (subf (broadcastTo S16x256 (extractStridedSlice S1x256 ![16, 0] bc slices_S64x256_o16_0_S1x256) broadcasts_S1x256_S16x256) (extractStridedSlice S16x256 ![0, 0] bc slices_S64x256_o0_0_S16x256)))) bitsLt_bf16_f32)⟩, ⟨S48x256, (broadcast S48x256 (Scalar.ofBits .bf16 0x0000#16))⟩] concatenates_S16x256_S48x256_S64x256_d0

/-- Sub-block 2: the running sums about its middle row, held within bounds. -/
def u2V (bc : FVec F S64x256 .f32) : FVec F S16x256 .f32 :=
  minimumf (broadcast S16x256 (Scalar.ofBits .f32 1122424010#32)) (maximumf (broadcast S16x256 (Scalar.ofBits .f32 3269907658#32))
    (subf (extractStridedSlice S16x256 ![32, 0] bc slices_S64x256_o32_0_S16x256) (broadcastTo S16x256 (extractStridedSlice S1x256 ![40, 0] bc slices_S64x256_o40_0_S1x256) broadcasts_S1x256_S16x256)))

/-- Sub-block 2: its queries about its middle row. -/
def qd2V (q bc : FVec F S64x256 .f32) : FVec F S16x256 .bf16 :=
  (truncf .bf16 (mulf (extractStridedSlice S16x256 ![32, 0] q slices_S64x256_o32_0_S16x256) (exp2 (u2V bc))) bitsLt_bf16_f32)

/-- Sub-block 2: its keys about its middle row. -/
def kd2V (kin bc : FVec F S64x256 .f32) : FVec F S16x256 .bf16 :=
  (truncf .bf16 (mulf (extractStridedSlice S16x256 ![32, 0] kin slices_S64x256_o32_0_S16x256) (exp2 (subf (broadcast S16x256 (Scalar.ofBits .f32 0x00000000#32)) (u2V bc)))) bitsLt_bf16_f32)

/-- Sub-block 2: its keys, zero in the chunk's other rows. -/
def kdp2V (kin bc : FVec F S64x256 .f32) : FVec F S64x256 .bf16 :=
  concatenate S64x256 0 [⟨S32x256, (broadcast S32x256 (Scalar.ofBits .bf16 0x0000#16))⟩, ⟨S16x256, kd2V kin bc⟩, ⟨S16x256, (broadcast S16x256 (Scalar.ofBits .bf16 0x0000#16))⟩] concatenates_S32x256_S16x256_S16x256_S64x256_d0

/-- Sub-block 2: its queries about its first row. -/
def qo2V (q bc : FVec F S64x256 .f32) : FVec F S16x256 .bf16 :=
  (truncf .bf16 (mulf (extractStridedSlice S16x256 ![32, 0] q slices_S64x256_o32_0_S16x256) (exp2 (subf (extractStridedSlice S16x256 ![32, 0] bc slices_S64x256_o32_0_S16x256) (broadcastTo S16x256 (extractStridedSlice S1x256 ![32, 0] bc slices_S64x256_o32_0_S1x256) broadcasts_S1x256_S16x256)))) bitsLt_bf16_f32)

/-- Sub-block 2: the earlier keys about its first row, zero from that row on. -/
def ko2V (kin bc : FVec F S64x256 .f32) : FVec F S64x256 .bf16 :=
  concatenate S64x256 0 [⟨S32x256, (truncf .bf16 (mulf (extractStridedSlice S32x256 ![0, 0] kin slices_S64x256_o0_0_S32x256) (exp2 (subf (broadcastTo S32x256 (extractStridedSlice S1x256 ![32, 0] bc slices_S64x256_o32_0_S1x256) broadcasts_S1x256_S32x256) (extractStridedSlice S32x256 ![0, 0] bc slices_S64x256_o0_0_S32x256)))) bitsLt_bf16_f32)⟩, ⟨S32x256, (broadcast S32x256 (Scalar.ofBits .bf16 0x0000#16))⟩] concatenates_S32x256_S32x256_S64x256_d0

/-- Sub-block 3: the running sums about its middle row, held within bounds. -/
def u3V (bc : FVec F S64x256 .f32) : FVec F S16x256 .f32 :=
  minimumf (broadcast S16x256 (Scalar.ofBits .f32 1122424010#32)) (maximumf (broadcast S16x256 (Scalar.ofBits .f32 3269907658#32))
    (subf (extractStridedSlice S16x256 ![48, 0] bc slices_S64x256_o48_0_S16x256) (broadcastTo S16x256 (extractStridedSlice S1x256 ![56, 0] bc slices_S64x256_o56_0_S1x256) broadcasts_S1x256_S16x256)))

/-- Sub-block 3: its queries about its middle row. -/
def qd3V (q bc : FVec F S64x256 .f32) : FVec F S16x256 .bf16 :=
  (truncf .bf16 (mulf (extractStridedSlice S16x256 ![48, 0] q slices_S64x256_o48_0_S16x256) (exp2 (u3V bc))) bitsLt_bf16_f32)

/-- Sub-block 3: its keys about its middle row. -/
def kd3V (kin bc : FVec F S64x256 .f32) : FVec F S16x256 .bf16 :=
  (truncf .bf16 (mulf (extractStridedSlice S16x256 ![48, 0] kin slices_S64x256_o48_0_S16x256) (exp2 (subf (broadcast S16x256 (Scalar.ofBits .f32 0x00000000#32)) (u3V bc)))) bitsLt_bf16_f32)

/-- Sub-block 3: its keys, zero in the chunk's other rows. -/
def kdp3V (kin bc : FVec F S64x256 .f32) : FVec F S64x256 .bf16 :=
  concatenate S64x256 0 [⟨S48x256, (broadcast S48x256 (Scalar.ofBits .bf16 0x0000#16))⟩, ⟨S16x256, kd3V kin bc⟩] concatenates_S48x256_S16x256_S64x256_d0

/-- Sub-block 3: its queries about its first row. -/
def qo3V (q bc : FVec F S64x256 .f32) : FVec F S16x256 .bf16 :=
  (truncf .bf16 (mulf (extractStridedSlice S16x256 ![48, 0] q slices_S64x256_o48_0_S16x256) (exp2 (subf (extractStridedSlice S16x256 ![48, 0] bc slices_S64x256_o48_0_S16x256) (broadcastTo S16x256 (extractStridedSlice S1x256 ![48, 0] bc slices_S64x256_o48_0_S1x256) broadcasts_S1x256_S16x256)))) bitsLt_bf16_f32)

/-- Sub-block 3: the earlier keys about its first row, zero from that row on. -/
def ko3V (kin bc : FVec F S64x256 .f32) : FVec F S64x256 .bf16 :=
  concatenate S64x256 0 [⟨S48x256, (truncf .bf16 (mulf (extractStridedSlice S48x256 ![0, 0] kin slices_S64x256_o0_0_S48x256) (exp2 (subf (broadcastTo S48x256 (extractStridedSlice S1x256 ![48, 0] bc slices_S64x256_o48_0_S1x256) broadcasts_S1x256_S48x256) (extractStridedSlice S48x256 ![0, 0] bc slices_S64x256_o0_0_S48x256)))) bitsLt_bf16_f32)⟩, ⟨S16x256, (broadcast S16x256 (Scalar.ofBits .bf16 0x0000#16))⟩] concatenates_S48x256_S16x256_S64x256_d0

/-- Head 0 of the pair, sub-block 0's scores. -/
def b0_0V (q kin bc : FVec F S64x256 .f32) : FVec F S16x64 .f32 :=
  matmul dot_S16x128_S64x128_S16x64_1_1_0_0_n_n none (extractStridedSlice S16x128 ![0, 0] (qd0V q bc) slices_S16x256_o0_0_S16x128) (extractStridedSlice S64x128 ![0, 0] (kdp0V kin bc) slices_S64x256_o0_0_S64x128) (constant S16x64 .f32 0x00000000#32)

/-- Head 0 of the pair, sub-block 1's scores. -/
def b1_0V (q kin bc : FVec F S64x256 .f32) : FVec F S16x64 .f32 :=
  matmul dot_S16x256_S64x256_S16x64_1_1_0_0_n_n none
    (concatenate S16x256 1 [⟨S16x128, (extractStridedSlice S16x128 ![0, 0] (qo1V q bc) slices_S16x256_o0_0_S16x128)⟩, ⟨S16x128, (extractStridedSlice S16x128 ![0, 0] (qd1V q bc) slices_S16x256_o0_0_S16x128)⟩] concatenates_S16x128_S16x128_S16x256_d1)
    (concatenate S64x256 1 [⟨S64x128, (extractStridedSlice S64x128 ![0, 0] (ko1V kin bc) slices_S64x256_o0_0_S64x128)⟩, ⟨S64x128, (extractStridedSlice S64x128 ![0, 0] (kdp1V kin bc) slices_S64x256_o0_0_S64x128)⟩] concatenates_S64x128_S64x128_S64x256_d1)
    (constant S16x64 .f32 0x00000000#32)

/-- Head 0 of the pair, sub-block 2's scores. -/
def b2_0V (q kin bc : FVec F S64x256 .f32) : FVec F S16x64 .f32 :=
  matmul dot_S16x256_S64x256_S16x64_1_1_0_0_n_n none
    (concatenate S16x256 1 [⟨S16x128, (extractStridedSlice S16x128 ![0, 0] (qo2V q bc) slices_S16x256_o0_0_S16x128)⟩, ⟨S16x128, (extractStridedSlice S16x128 ![0, 0] (qd2V q bc) slices_S16x256_o0_0_S16x128)⟩] concatenates_S16x128_S16x128_S16x256_d1)
    (concatenate S64x256 1 [⟨S64x128, (extractStridedSlice S64x128 ![0, 0] (ko2V kin bc) slices_S64x256_o0_0_S64x128)⟩, ⟨S64x128, (extractStridedSlice S64x128 ![0, 0] (kdp2V kin bc) slices_S64x256_o0_0_S64x128)⟩] concatenates_S64x128_S64x128_S64x256_d1)
    (constant S16x64 .f32 0x00000000#32)

/-- Head 0 of the pair, sub-block 3's scores. -/
def b3_0V (q kin bc : FVec F S64x256 .f32) : FVec F S16x64 .f32 :=
  matmul dot_S16x256_S64x256_S16x64_1_1_0_0_n_n none
    (concatenate S16x256 1 [⟨S16x128, (extractStridedSlice S16x128 ![0, 0] (qo3V q bc) slices_S16x256_o0_0_S16x128)⟩, ⟨S16x128, (extractStridedSlice S16x128 ![0, 0] (qd3V q bc) slices_S16x256_o0_0_S16x128)⟩] concatenates_S16x128_S16x128_S16x256_d1)
    (concatenate S64x256 1 [⟨S64x128, (extractStridedSlice S64x128 ![0, 0] (ko3V kin bc) slices_S64x256_o0_0_S64x128)⟩, ⟨S64x128, (extractStridedSlice S64x128 ![0, 0] (kdp3V kin bc) slices_S64x256_o0_0_S64x128)⟩] concatenates_S64x128_S64x128_S64x256_d1)
    (constant S16x64 .f32 0x00000000#32)

/-- Head 0 of the pair, the chunk's causal scores. -/
def a0V (q kin bc : FVec F S64x256 .f32) : FVec F S64x64 .bf16 :=
  (truncf .bf16 (select k0_pay3 (concatenate S64x64 0 [⟨S16x64, b0_0V q kin bc⟩, ⟨S16x64, b1_0V q kin bc⟩, ⟨S16x64, b2_0V q kin bc⟩, ⟨S16x64, b3_0V q kin bc⟩] concatenates_S16x64_S16x64_S16x64_S16x64_S64x64_d0) (broadcast S64x64 (Scalar.ofBits .f32 0x00000000#32))) bitsLt_bf16_f32)

/-- Head 0 of the pair, what the chunk's rows read from the state and from the chunk. -/
def o0V (q kin bc : FVec F S64x256 .f32) (v : FVec F S64x256 .bf16) (st : FVec F S128x128 .f32) : FVec F S64x128 .f32 :=
  addf (matmul dot_S64x128_S128x128_S64x128_1_1_0_0_n_n none (extractStridedSlice S64x128 ![0, 0] (qeV q bc) slices_S64x256_o0_0_S64x128) (truncf .bf16 st bitsLt_bf16_f32) (constant S64x128 .f32 0x00000000#32))
    (matmul dot_S64x64_S64x128_S64x128_1_0_0_1_n_n none (a0V q kin bc) (extractStridedSlice S64x128 ![0, 0] v slices_S64x256_o0_0_S64x128) (constant S64x128 .f32 0x00000000#32))

/-- Head 0 of the pair, the state after the chunk. -/
def st0V (kin bc : FVec F S64x256 .f32) (v : FVec F S64x256 .bf16) (st : FVec F S128x128 .f32) : FVec F S128x128 .f32 :=
  addf (mulf st (broadcastTo S128x128 (extractStridedSlice S1x128 ![0, 0] (exp2 (blV bc)) slices_S1x256_o0_0_S1x128) broadcasts_S1x128_S128x128))
    (matmul dot_S64x128_S64x128_S128x128_0_0_1_1_n_n none (extractStridedSlice S64x128 ![0, 0] v slices_S64x256_o0_0_S64x128) (extractStridedSlice S64x128 ![0, 0] (keV kin bc) slices_S64x256_o0_0_S64x128) (constant S128x128 .f32 0x00000000#32))

/-- Head 0 of the pair, normalised, weighted and gated. -/
def out0V (o : FVec F S64x128 .f32) (gw : Vec F S1x128 .f32) (rg : Vec F S1x64x256 .f32) : FVec F S1x64x128 .bf16 :=
  shapeCast S1x64x128 (truncf .bf16 (mulf (mulf (mulf o (broadcastTo S64x128 (rsqrt (addf (divf (shapeCast S64x1 (multiReduction .add [1] S64 (mulf o o) 0x00000000#32 reduces_S64x128_S64 (.inl rfl) rfl) shapeCasts_S64_S64x1) (broadcast S64x1 (Scalar.ofBits .f32 1124073472#32))) (broadcast S64x1 (Scalar.ofBits .f32 897988541#32)))) broadcasts_S64x1_S64x128)) (broadcastTo S64x128 (shapeCast S1x128 gw shapeCasts_S1x128_S1x128) broadcasts_S1x128_S64x128)) (extractStridedSlice S64x128 ![0, 0] (qV rg) slices_S64x256_o0_0_S64x128)) bitsLt_bf16_f32) shapeCasts_S64x128_S1x64x128

/-- Head 0 of the pair: the state after a chunk, from the projected rows. -/
def cs0V (llb l1m : Vec F S1x256 .f32) (rf ri : Vec F S1x64x256 .f32) (st : FVec F S128x128 .f32) : FVec F S128x128 .f32 :=
  st0V (kinV l1m rf) (bcV (gV llb l1m rf)) (vV ri) st

/-- Head 0 of the pair: a chunk's result, from the projected rows. -/
def co0V (llb l1m : Vec F S1x256 .f32) (gw : Vec F S1x128 .f32) (rq rf ri rg : Vec F S1x64x256 .f32) (st : FVec F S128x128 .f32) : FVec F S1x64x128 .bf16 :=
  out0V (o0V (qV rq) (kinV l1m rf) (bcV (gV llb l1m rf)) (vV ri) st) gw rg

/-- Head 1 of the pair, sub-block 0's scores. -/
def b0_1V (q kin bc : FVec F S64x256 .f32) : FVec F S16x64 .f32 :=
  matmul dot_S16x128_S64x128_S16x64_1_1_0_0_n_n none (extractStridedSlice S16x128 ![0, 128] (qd0V q bc) slices_S16x256_o0_128_S16x128) (extractStridedSlice S64x128 ![0, 128] (kdp0V kin bc) slices_S64x256_o0_128_S64x128) (constant S16x64 .f32 0x00000000#32)

/-- Head 1 of the pair, sub-block 1's scores. -/
def b1_1V (q kin bc : FVec F S64x256 .f32) : FVec F S16x64 .f32 :=
  matmul dot_S16x256_S64x256_S16x64_1_1_0_0_n_n none
    (concatenate S16x256 1 [⟨S16x128, (extractStridedSlice S16x128 ![0, 128] (qo1V q bc) slices_S16x256_o0_128_S16x128)⟩, ⟨S16x128, (extractStridedSlice S16x128 ![0, 128] (qd1V q bc) slices_S16x256_o0_128_S16x128)⟩] concatenates_S16x128_S16x128_S16x256_d1)
    (concatenate S64x256 1 [⟨S64x128, (extractStridedSlice S64x128 ![0, 128] (ko1V kin bc) slices_S64x256_o0_128_S64x128)⟩, ⟨S64x128, (extractStridedSlice S64x128 ![0, 128] (kdp1V kin bc) slices_S64x256_o0_128_S64x128)⟩] concatenates_S64x128_S64x128_S64x256_d1)
    (constant S16x64 .f32 0x00000000#32)

/-- Head 1 of the pair, sub-block 2's scores. -/
def b2_1V (q kin bc : FVec F S64x256 .f32) : FVec F S16x64 .f32 :=
  matmul dot_S16x256_S64x256_S16x64_1_1_0_0_n_n none
    (concatenate S16x256 1 [⟨S16x128, (extractStridedSlice S16x128 ![0, 128] (qo2V q bc) slices_S16x256_o0_128_S16x128)⟩, ⟨S16x128, (extractStridedSlice S16x128 ![0, 128] (qd2V q bc) slices_S16x256_o0_128_S16x128)⟩] concatenates_S16x128_S16x128_S16x256_d1)
    (concatenate S64x256 1 [⟨S64x128, (extractStridedSlice S64x128 ![0, 128] (ko2V kin bc) slices_S64x256_o0_128_S64x128)⟩, ⟨S64x128, (extractStridedSlice S64x128 ![0, 128] (kdp2V kin bc) slices_S64x256_o0_128_S64x128)⟩] concatenates_S64x128_S64x128_S64x256_d1)
    (constant S16x64 .f32 0x00000000#32)

/-- Head 1 of the pair, sub-block 3's scores. -/
def b3_1V (q kin bc : FVec F S64x256 .f32) : FVec F S16x64 .f32 :=
  matmul dot_S16x256_S64x256_S16x64_1_1_0_0_n_n none
    (concatenate S16x256 1 [⟨S16x128, (extractStridedSlice S16x128 ![0, 128] (qo3V q bc) slices_S16x256_o0_128_S16x128)⟩, ⟨S16x128, (extractStridedSlice S16x128 ![0, 128] (qd3V q bc) slices_S16x256_o0_128_S16x128)⟩] concatenates_S16x128_S16x128_S16x256_d1)
    (concatenate S64x256 1 [⟨S64x128, (extractStridedSlice S64x128 ![0, 128] (ko3V kin bc) slices_S64x256_o0_128_S64x128)⟩, ⟨S64x128, (extractStridedSlice S64x128 ![0, 128] (kdp3V kin bc) slices_S64x256_o0_128_S64x128)⟩] concatenates_S64x128_S64x128_S64x256_d1)
    (constant S16x64 .f32 0x00000000#32)

/-- Head 1 of the pair, the chunk's causal scores. -/
def a1V (q kin bc : FVec F S64x256 .f32) : FVec F S64x64 .bf16 :=
  (truncf .bf16 (select k0_pay3 (concatenate S64x64 0 [⟨S16x64, b0_1V q kin bc⟩, ⟨S16x64, b1_1V q kin bc⟩, ⟨S16x64, b2_1V q kin bc⟩, ⟨S16x64, b3_1V q kin bc⟩] concatenates_S16x64_S16x64_S16x64_S16x64_S64x64_d0) (broadcast S64x64 (Scalar.ofBits .f32 0x00000000#32))) bitsLt_bf16_f32)

/-- Head 1 of the pair, what the chunk's rows read from the state and from the chunk. -/
def o1V (q kin bc : FVec F S64x256 .f32) (v : FVec F S64x256 .bf16) (st : FVec F S128x128 .f32) : FVec F S64x128 .f32 :=
  addf (matmul dot_S64x128_S128x128_S64x128_1_1_0_0_n_n none (extractStridedSlice S64x128 ![0, 128] (qeV q bc) slices_S64x256_o0_128_S64x128) (truncf .bf16 st bitsLt_bf16_f32) (constant S64x128 .f32 0x00000000#32))
    (matmul dot_S64x64_S64x128_S64x128_1_0_0_1_n_n none (a1V q kin bc) (extractStridedSlice S64x128 ![0, 128] v slices_S64x256_o0_128_S64x128) (constant S64x128 .f32 0x00000000#32))

/-- Head 1 of the pair, the state after the chunk. -/
def st1V (kin bc : FVec F S64x256 .f32) (v : FVec F S64x256 .bf16) (st : FVec F S128x128 .f32) : FVec F S128x128 .f32 :=
  addf (mulf st (broadcastTo S128x128 (extractStridedSlice S1x128 ![0, 128] (exp2 (blV bc)) slices_S1x256_o0_128_S1x128) broadcasts_S1x128_S128x128))
    (matmul dot_S64x128_S64x128_S128x128_0_0_1_1_n_n none (extractStridedSlice S64x128 ![0, 128] v slices_S64x256_o0_128_S64x128) (extractStridedSlice S64x128 ![0, 128] (keV kin bc) slices_S64x256_o0_128_S64x128) (constant S128x128 .f32 0x00000000#32))

/-- Head 1 of the pair, normalised, weighted and gated. -/
def out1V (o : FVec F S64x128 .f32) (gw : Vec F S1x128 .f32) (rg : Vec F S1x64x256 .f32) : FVec F S1x64x128 .bf16 :=
  shapeCast S1x64x128 (truncf .bf16 (mulf (mulf (mulf o (broadcastTo S64x128 (rsqrt (addf (divf (shapeCast S64x1 (multiReduction .add [1] S64 (mulf o o) 0x00000000#32 reduces_S64x128_S64 (.inl rfl) rfl) shapeCasts_S64_S64x1) (broadcast S64x1 (Scalar.ofBits .f32 1124073472#32))) (broadcast S64x1 (Scalar.ofBits .f32 897988541#32)))) broadcasts_S64x1_S64x128)) (broadcastTo S64x128 (shapeCast S1x128 gw shapeCasts_S1x128_S1x128) broadcasts_S1x128_S64x128)) (extractStridedSlice S64x128 ![0, 128] (qV rg) slices_S64x256_o0_128_S64x128)) bitsLt_bf16_f32) shapeCasts_S64x128_S1x64x128

/-- Head 1 of the pair: the state after a chunk, from the projected rows. -/
def cs1V (llb l1m : Vec F S1x256 .f32) (rf ri : Vec F S1x64x256 .f32) (st : FVec F S128x128 .f32) : FVec F S128x128 .f32 :=
  st1V (kinV l1m rf) (bcV (gV llb l1m rf)) (vV ri) st

/-- Head 1 of the pair: a chunk's result, from the projected rows. -/
def co1V (llb l1m : Vec F S1x256 .f32) (gw : Vec F S1x128 .f32) (rq rf ri rg : Vec F S1x64x256 .f32) (st : FVec F S128x128 .f32) : FVec F S1x64x128 .bf16 :=
  out1V (o1V (qV rq) (kinV l1m rf) (bcV (gV llb l1m rf)) (vV ri) st) gw rg

end Cert.Kernel4Ideal.Block

end
-- ==== Proof.RecTrip.lean ====
module

public import proofs.«01_k».proof.Proof.RecStage
public import proofs.«01_k».proof.Proof.Gen.Kernel4Ideal.Frame.Runs
public import Idealize.ShloMosaic.Lib.Pointwise

@[expose] public section

set_option maxRecDepth 16384

noncomputable section

namespace Cert.Kernel4Ideal.Block

open Idealize.ShloMosaic.Rounds
open Cert.Kernel4Ideal Cert.Kernel4Ideal.Gen
open Idealize.ShloMosaic Idealize.ShloMosaic.TcCoe Idealize.ShloMosaic.Tactic

variable {F : FTy → Type} [FloatOps F] [Named F]

/-- What a loop step does to the carried value, `n` steps on. -/
def iter {α : Type} (step : ℕ → α → α) (s : α) : ℕ → α
  | 0 => s
  | n + 1 => step n (iter step s n)

theorem iter_add {α : Type} (step : ℕ → α → α) (s : α) (a n : ℕ) :
    iter step s (a + n) = iter (fun i => step (a + i)) (iter step s a) n := by
  induction n with
  | zero => rfl
  | succ n ih => exact congrArg (step (a + n)) ih

theorem iter_congr {α : Type} (f g : ℕ → α → α) (s : α) (n : ℕ) (h : ∀ i, i < n → f i = g i) : iter f s n = iter g s n := by
  induction n with
  | zero => rfl
  | succ n ih =>
    show f n (iter f s n) = g n (iter g s n)
    rw [ih (fun i hi => h i (by omega)), h n (by omega)]

/-- Rows `64 n` on of the columns of pair `p`. -/
def chk (p : ℕ) (x : Vec F S1x2048x512 .f32) (n : ℕ) : Vec F S1x64x256 .f32 := fun i =>
  x (ix3 (0 : Fin 1) (⟨(64 * n + (i 1 : ℕ)) % 2048, Nat.mod_lt _ (by norm_num)⟩ : Fin 2048)
    (⟨(256 * p + (i 2 : ℕ)) % 512, Nat.mod_lt _ (by norm_num)⟩ : Fin 512))

/-- The columns of pair `p`. -/
def half (p : ℕ) (x : Vec F S1x512 .f32) : Vec F S1x256 .f32 := fun i =>
  x (ix2 (0 : Fin 1) (⟨(256 * p + (i 1 : ℕ)) % 512, Nat.mod_lt _ (by norm_num)⟩ : Fin 512))

/-- The state of head `h`. -/
def head (h : ℕ) (S : Vec F S4x128x128 .f32) : FVec F S128x128 .f32 := fun i =>
  S (ix3 (⟨h % 4, Nat.mod_lt _ (by norm_num)⟩ : Fin 4) (i 0 : Fin 128) (i 1 : Fin 128))

/-- The state of head 0 of a pair, `n` chunks on. -/
def tst0 (llb l1m : Vec F S1x256 .f32) (rf ri : ℕ → Vec F S1x64x256 .f32) (s0 : FVec F S128x128 .f32) (n : ℕ) : FVec F S128x128 .f32 :=
  iter (fun n s => cs0V llb l1m (rf n) (ri n) s) s0 n

/-- The state of head 1 of a pair, `n` chunks on. -/
def tst1 (llb l1m : Vec F S1x256 .f32) (rf ri : ℕ → Vec F S1x64x256 .f32) (s0 : FVec F S128x128 .f32) (n : ℕ) : FVec F S128x128 .f32 :=
  iter (fun n s => cs1V llb l1m (rf n) (ri n) s) s0 n

/-- The state of head `h`, `n` chunks into a block. -/
def stOf (h : ℕ) (x1 x2 : Vec F S1x2048x512 .f32) (x4 x5 : Vec F S1x512 .f32) (S : Vec F S4x128x128 .f32) (n : ℕ) : FVec F S128x128 .f32 :=
  if h % 2 = 0 then tst0 (half (h / 2) x4) (half (h / 2) x5) (chk (h / 2) x1) (chk (h / 2) x2) (head h S) n
  else tst1 (half (h / 2) x4) (half (h / 2) x5) (chk (h / 2) x1) (chk (h / 2) x2) (head h S) n

/-- The result of head `h`, chunk `n` of a block. -/
def outOf (h : ℕ) (x0 x1 x2 x3 : Vec F S1x2048x512 .f32) (x4 x5 : Vec F S1x512 .f32) (x6 : Vec F S1x128 .f32) (S : Vec F S4x128x128 .f32) (n : ℕ) : FVec F S1x64x128 .bf16 :=
  if h % 2 = 0 then co0V (half (h / 2) x4) (half (h / 2) x5) x6 (chk (h / 2) x0 n) (chk (h / 2) x1 n) (chk (h / 2) x2 n) (chk (h / 2) x3 n) (stOf h x1 x2 x4 x5 S n)
  else co1V (half (h / 2) x4) (half (h / 2) x5) x6 (chk (h / 2) x0 n) (chk (h / 2) x1 n) (chk (h / 2) x2 n) (chk (h / 2) x3 n) (stOf h x1 x2 x4 x5 S n)

/-- The result's block. -/
def blockOut (x0 x1 x2 x3 : Vec F S1x2048x512 .f32) (x4 x5 : Vec F S1x512 .f32) (x6 : Vec F S1x128 .f32) (S : Vec F S4x128x128 .f32) : Vec F S1x2048x512 .bf16 := fun i =>
  outOf ((i 2 : ℕ) / 128) x0 x1 x2 x3 x4 x5 x6 S ((i 1 : ℕ) / 64)
    (ix3 (0 : Fin 1) (⟨(i 1 : ℕ) % 64, Nat.mod_lt _ (by norm_num)⟩ : Fin 64) (⟨(i 2 : ℕ) % 128, Nat.mod_lt _ (by norm_num)⟩ : Fin 128))

/-- The state, `n` chunks into a block. -/
def blockSt (x1 x2 : Vec F S1x2048x512 .f32) (x4 x5 : Vec F S1x512 .f32) (S : Vec F S4x128x128 .f32) (n : ℕ) : Vec F S4x128x128 .f32 := fun i =>
  stOf (i 0 : ℕ) x1 x2 x4 x5 S n (ix2 (i 1 : Fin 128) (i 2 : Fin 128))

/-- The rows of chunk `n` of a trip, of the first pair's columns, as the trip loads them. -/
def rd1 (a : Memref sig .tc .vmem S1x2048x512 .f32) (X : BufTy.Contents (Elt F) a.view.ty) (k : Fin k0_t1_loop.trips) (n : ℕ) : Vec F S1x64x256 .f32 :=
  View.readAt (Elt F) a.view (Rect.unit (s := S1x2048x512) (k0_off1 k (BitVec.ofNat 32 (64 * (Fin.ofNat 8 n).val))) S1x64x256.size (k0_off1_inb k (Fin.ofNat 8 n))).toLoadRect X

theorem rd1_eq (a : Memref sig .tc .vmem S1x2048x512 .f32) (ha : a.IsWhole) (x : Vec F S1x2048x512 .f32) (k : Fin k0_t1_loop.trips) (n : ℕ) (hn : n < 8) :
    rd1 a (ha.unread x) k n = chk 0 x (8 * k.val + n) := by
  have hk : k.val < 4 := Nat.lt_of_lt_of_le k.isLt k0_t1_abs.2.1
  have e : (Fin.ofNat 8 n).val = n := Nat.mod_eq_of_lt hn
  have ho := k0_off1_eq k (Fin.ofNat 8 n)
  funext i
  unfold rd1 chk
  rw [View.readAt_apply, ha.read_unread]
  congr 1
  funext d
  apply Fin.ext
  have h1 : (i 1 : ℕ) < 64 := (i 1).isLt
  have h2 : (i 2 : ℕ) < 256 := (i 2).isLt
  have h0 : (i 0 : ℕ) < 1 := (i 0).isLt
  show (k0_off1 k (BitVec.ofNat 32 (64 * (Fin.ofNat 8 n).val))) d + 1 * (i d : ℕ) = _
  rw [ho, e]
  fin_cases d
  · show 0 + 1 * (i 0 : ℕ) = 0; omega
  · show 512 * k.val + 64 * n + 1 * (i 1 : ℕ) = (64 * (8 * k.val + n) + (i 1 : ℕ)) % 2048; omega
  · show 0 + 1 * (i 2 : ℕ) = (256 * 0 + (i 2 : ℕ)) % 512; omega

/-- The rows of chunk `n` of a trip, of the second pair's columns, as the trip loads them. -/
def rd4 (a : Memref sig .tc .vmem S1x2048x512 .f32) (X : BufTy.Contents (Elt F) a.view.ty) (k : Fin k0_t1_loop.trips) (n : ℕ) : Vec F S1x64x256 .f32 :=
  View.readAt (Elt F) a.view (Rect.unit (s := S1x2048x512) (k0_off4 k (BitVec.ofNat 32 (64 * (Fin.ofNat 8 n).val))) S1x64x256.size (k0_off4_inb k (Fin.ofNat 8 n))).toLoadRect X

theorem rd4_eq (a : Memref sig .tc .vmem S1x2048x512 .f32) (ha : a.IsWhole) (x : Vec F S1x2048x512 .f32) (k : Fin k0_t1_loop.trips) (n : ℕ) (hn : n < 8) :
    rd4 a (ha.unread x) k n = chk 1 x (8 * k.val + n) := by
  have hk : k.val < 4 := Nat.lt_of_lt_of_le k.isLt k0_t1_abs.2.1
  have e : (Fin.ofNat 8 n).val = n := Nat.mod_eq_of_lt hn
  have ho := k0_off4_eq k (Fin.ofNat 8 n)
  funext i
  unfold rd4 chk
  rw [View.readAt_apply, ha.read_unread]
  congr 1
  funext d
  apply Fin.ext
  have h1 : (i 1 : ℕ) < 64 := (i 1).isLt
  have h2 : (i 2 : ℕ) < 256 := (i 2).isLt
  have h0 : (i 0 : ℕ) < 1 := (i 0).isLt
  show (k0_off4 k (BitVec.ofNat 32 (64 * (Fin.ofNat 8 n).val))) d + 1 * (i d : ℕ) = _
  rw [ho, e]
  fin_cases d
  · show 0 + 1 * (i 0 : ℕ) = 0; omega
  · show 512 * k.val + 64 * n + 1 * (i 1 : ℕ) = (64 * (8 * k.val + n) + (i 1 : ℕ)) % 2048; omega
  · show 256 + 1 * (i 2 : ℕ) = (256 * 1 + (i 2 : ℕ)) % 512; omega

/-- Pair 0's columns of a row, as a trip loads them. -/
def rw0 (a : Memref sig .tc .vmem S1x512 .f32) (X : BufTy.Contents (Elt F) a.view.ty) : Vec F S1x256 .f32 :=
  View.readAt (Elt F) a.view (Rect.unit (s := S1x512) ![0, 0] S1x256.size inb_S1x512_S1x256_0_0).toLoadRect X

theorem rw0_eq (a : Memref sig .tc .vmem S1x512 .f32) (ha : a.IsWhole) (x : Vec F S1x512 .f32) : rw0 a (ha.unread x) = half 0 x := by
  funext i
  unfold rw0 half
  rw [View.readAt_apply, ha.read_unread]
  congr 1
  funext d
  apply Fin.ext
  have h1 : (i 1 : ℕ) < 256 := (i 1).isLt
  have h0 : (i 0 : ℕ) < 1 := (i 0).isLt
  fin_cases d
  · show 0 + 1 * (i 0 : ℕ) = 0; omega
  · show 0 + 1 * (i 1 : ℕ) = (256 * 0 + (i 1 : ℕ)) % 512; omega

/-- Pair 1's columns of a row, as a trip loads them. -/
def rw1 (a : Memref sig .tc .vmem S1x512 .f32) (X : BufTy.Contents (Elt F) a.view.ty) : Vec F S1x256 .f32 :=
  View.readAt (Elt F) a.view (Rect.unit (s := S1x512) ![0, 256] S1x256.size inb_S1x512_S1x256_0_256).toLoadRect X

theorem rw1_eq (a : Memref sig .tc .vmem S1x512 .f32) (ha : a.IsWhole) (x : Vec F S1x512 .f32) : rw1 a (ha.unread x) = half 1 x := by
  funext i
  unfold rw1 half
  rw [View.readAt_apply, ha.read_unread]
  congr 1
  funext d
  apply Fin.ext
  have h1 : (i 1 : ℕ) < 256 := (i 1).isLt
  have h0 : (i 0 : ℕ) < 1 := (i 0).isLt
  fin_cases d
  · show 0 + 1 * (i 0 : ℕ) = 0; omega
  · show 256 + 1 * (i 1 : ℕ) = (256 * 1 + (i 1 : ℕ)) % 512; omega

/-- The norm's weights, as a trip loads them. -/
def rwg (a : Memref sig .tc .vmem S1x128 .f32) (X : BufTy.Contents (Elt F) a.view.ty) : Vec F S1x128 .f32 :=
  View.readAt (Elt F) a.view (Rect.unit (s := S1x128) ![0, 0] S1x128.size inb_S1x128_S1x128_0_0).toLoadRect X

theorem rwg_eq (a : Memref sig .tc .vmem S1x128 .f32) (ha : a.IsWhole) (x : Vec F S1x128 .f32) : rwg a (ha.unread x) = x := by
  funext i
  unfold rwg
  rw [View.readAt_apply, ha.read_unread]
  congr 1
  funext d
  apply Fin.ext
  fin_cases d
  · show 0 + 1 * (i 0 : ℕ) = i 0; omega
  · show 0 + 1 * (i 1 : ℕ) = i 1; omega

/-- Head 0's state, as a trip loads it. -/
def rs0 (a : Memref sig .tc .vmem S4x128x128 .f32) (X : BufTy.Contents (Elt F) a.view.ty) : FVec F S128x128 .f32 :=
  shapeCast S128x128 (View.readAt (Elt F) a.view (Rect.unit (s := S4x128x128) ![0, 0, 0] S1x128x128.size inb_S4x128x128_S1x128x128_0_0_0).toLoadRect X) shapeCasts_S1x128x128_S128x128

theorem rs0_eq (a : Memref sig .tc .vmem S4x128x128 .f32) (X : BufTy.Contents (Elt F) a.view.ty) : rs0 a X = head 0 (a.view.read (Elt F) X) := by
  funext i
  idx_vars i
  unfold rs0 head
  pointwise
  rw [View.readAt_apply]
  congr 1
  funext d
  apply Fin.ext
  fin_cases d
  · rfl
  · show 0 + 1 * (i0 : ℕ) = i0; omega
  · show 0 + 1 * (i1 : ℕ) = i1; omega

/-- Head 1's state, as a trip loads it. -/
def rs1 (a : Memref sig .tc .vmem S4x128x128 .f32) (X : BufTy.Contents (Elt F) a.view.ty) : FVec F S128x128 .f32 :=
  shapeCast S128x128 (View.readAt (Elt F) a.view (Rect.unit (s := S4x128x128) ![1, 0, 0] S1x128x128.size inb_S4x128x128_S1x128x128_1_0_0).toLoadRect X) shapeCasts_S1x128x128_S128x128

theorem rs1_eq (a : Memref sig .tc .vmem S4x128x128 .f32) (X : BufTy.Contents (Elt F) a.view.ty) : rs1 a X = head 1 (a.view.read (Elt F) X) := by
  funext i
  idx_vars i
  unfold rs1 head
  pointwise
  rw [View.readAt_apply]
  congr 1
  funext d
  apply Fin.ext
  fin_cases d
  · rfl
  · show 0 + 1 * (i0 : ℕ) = i0; omega
  · show 0 + 1 * (i1 : ℕ) = i1; omega

/-- Head 2's state, as a trip loads it. -/
def rs2 (a : Memref sig .tc .vmem S4x128x128 .f32) (X : BufTy.Contents (Elt F) a.view.ty) : FVec F S128x128 .f32 :=
  shapeCast S128x128 (View.readAt (Elt F) a.view (Rect.unit (s := S4x128x128) ![2, 0, 0] S1x128x128.size inb_S4x128x128_S1x128x128_2_0_0).toLoadRect X) shapeCasts_S1x128x128_S128x128

theorem rs2_eq (a : Memref sig .tc .vmem S4x128x128 .f32) (X : BufTy.Contents (Elt F) a.view.ty) : rs2 a X = head 2 (a.view.read (Elt F) X) := by
  funext i
  idx_vars i
  unfold rs2 head
  pointwise
  rw [View.readAt_apply]
  congr 1
  funext d
  apply Fin.ext
  fin_cases d
  · rfl
  · show 0 + 1 * (i0 : ℕ) = i0; omega
  · show 0 + 1 * (i1 : ℕ) = i1; omega

/-- Head 3's state, as a trip loads it. -/
def rs3 (a : Memref sig .tc .vmem S4x128x128 .f32) (X : BufTy.Contents (Elt F) a.view.ty) : FVec F S128x128 .f32 :=
  shapeCast S128x128 (View.readAt (Elt F) a.view (Rect.unit (s := S4x128x128) ![3, 0, 0] S1x128x128.size inb_S4x128x128_S1x128x128_3_0_0).toLoadRect X) shapeCasts_S1x128x128_S128x128

theorem rs3_eq (a : Memref sig .tc .vmem S4x128x128 .f32) (X : BufTy.Contents (Elt F) a.view.ty) : rs3 a X = head 3 (a.view.read (Elt F) X) := by
  funext i
  idx_vars i
  unfold rs3 head
  pointwise
  rw [View.readAt_apply]
  congr 1
  funext d
  apply Fin.ext
  fin_cases d
  · rfl
  · show 0 + 1 * (i0 : ℕ) = i0; omega
  · show 0 + 1 * (i1 : ℕ) = i1; omega

/-- Head 0's piece of the result, chunk `n` of a trip. -/
def pc0 (arg2 arg3 arg4 arg5 : Memref sig .tc .vmem S1x2048x512 .f32) (arg6 arg7 : Memref sig .tc .vmem S1x512 .f32) (arg8 : Memref sig .tc .vmem S1x128 .f32) (arg10 : Memref sig .tc .vmem S4x128x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f10 : BufTy.Contents (Elt F) arg10.view.ty) (n : Fin 8) : View.Piece (Elt F) S1x2048x512 .bf16 :=
  ⟨Rect.unit (s := S1x2048x512) (k0_off2 k (BitVec.ofNat 32 (64 * n.val))) S1x64x128.size (k0_off2_inb k n),
    co0V (rw0 arg6 X_arg6) (rw0 arg7 X_arg7) (rwg arg8 X_arg8) (rd1 arg2 X_arg2 k n.val) (rd1 arg3 X_arg3 k n.val) (rd1 arg4 X_arg4 k n.val) (rd1 arg5 X_arg5 k n.val)
      (tst0 (rw0 arg6 X_arg6) (rw0 arg7 X_arg7) (rd1 arg3 X_arg3 k) (rd1 arg4 X_arg4 k) (rs0 arg10 f10) n.val)⟩

/-- Head 0's piece of the state after a trip. -/
def sc0 (arg2 arg3 arg4 arg5 : Memref sig .tc .vmem S1x2048x512 .f32) (arg6 arg7 : Memref sig .tc .vmem S1x512 .f32) (arg8 : Memref sig .tc .vmem S1x128 .f32) (arg10 : Memref sig .tc .vmem S4x128x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f10 : BufTy.Contents (Elt F) arg10.view.ty) : View.Piece (Elt F) S4x128x128 .f32 :=
  ⟨Rect.unit (s := S4x128x128) ![0, 0, 0] S1x128x128.size inb_S4x128x128_S1x128x128_0_0_0,
    shapeCast S1x128x128 (tst0 (rw0 arg6 X_arg6) (rw0 arg7 X_arg7) (rd1 arg3 X_arg3 k) (rd1 arg4 X_arg4 k) (rs0 arg10 f10) 8) shapeCasts_S128x128_S1x128x128⟩

/-- Head 1's piece of the result, chunk `n` of a trip. -/
def pc1 (arg2 arg3 arg4 arg5 : Memref sig .tc .vmem S1x2048x512 .f32) (arg6 arg7 : Memref sig .tc .vmem S1x512 .f32) (arg8 : Memref sig .tc .vmem S1x128 .f32) (arg10 : Memref sig .tc .vmem S4x128x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f10 : BufTy.Contents (Elt F) arg10.view.ty) (n : Fin 8) : View.Piece (Elt F) S1x2048x512 .bf16 :=
  ⟨Rect.unit (s := S1x2048x512) (k0_off3 k (BitVec.ofNat 32 (64 * n.val))) S1x64x128.size (k0_off3_inb k n),
    co1V (rw0 arg6 X_arg6) (rw0 arg7 X_arg7) (rwg arg8 X_arg8) (rd1 arg2 X_arg2 k n.val) (rd1 arg3 X_arg3 k n.val) (rd1 arg4 X_arg4 k n.val) (rd1 arg5 X_arg5 k n.val)
      (tst1 (rw0 arg6 X_arg6) (rw0 arg7 X_arg7) (rd1 arg3 X_arg3 k) (rd1 arg4 X_arg4 k) (rs1 arg10 f10) n.val)⟩

/-- Head 1's piece of the state after a trip. -/
def sc1 (arg2 arg3 arg4 arg5 : Memref sig .tc .vmem S1x2048x512 .f32) (arg6 arg7 : Memref sig .tc .vmem S1x512 .f32) (arg8 : Memref sig .tc .vmem S1x128 .f32) (arg10 : Memref sig .tc .vmem S4x128x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f10 : BufTy.Contents (Elt F) arg10.view.ty) : View.Piece (Elt F) S4x128x128 .f32 :=
  ⟨Rect.unit (s := S4x128x128) ![1, 0, 0] S1x128x128.size inb_S4x128x128_S1x128x128_1_0_0,
    shapeCast S1x128x128 (tst1 (rw0 arg6 X_arg6) (rw0 arg7 X_arg7) (rd1 arg3 X_arg3 k) (rd1 arg4 X_arg4 k) (rs1 arg10 f10) 8) shapeCasts_S128x128_S1x128x128⟩

/-- Head 2's piece of the result, chunk `n` of a trip. -/
def pc2 (arg2 arg3 arg4 arg5 : Memref sig .tc .vmem S1x2048x512 .f32) (arg6 arg7 : Memref sig .tc .vmem S1x512 .f32) (arg8 : Memref sig .tc .vmem S1x128 .f32) (arg10 : Memref sig .tc .vmem S4x128x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f10 : BufTy.Contents (Elt F) arg10.view.ty) (n : Fin 8) : View.Piece (Elt F) S1x2048x512 .bf16 :=
  ⟨Rect.unit (s := S1x2048x512) (k0_off5 k (BitVec.ofNat 32 (64 * n.val))) S1x64x128.size (k0_off5_inb k n),
    co0V (rw1 arg6 X_arg6) (rw1 arg7 X_arg7) (rwg arg8 X_arg8) (rd4 arg2 X_arg2 k n.val) (rd4 arg3 X_arg3 k n.val) (rd4 arg4 X_arg4 k n.val) (rd4 arg5 X_arg5 k n.val)
      (tst0 (rw1 arg6 X_arg6) (rw1 arg7 X_arg7) (rd4 arg3 X_arg3 k) (rd4 arg4 X_arg4 k) (rs2 arg10 f10) n.val)⟩

/-- Head 2's piece of the state after a trip. -/
def sc2 (arg2 arg3 arg4 arg5 : Memref sig .tc .vmem S1x2048x512 .f32) (arg6 arg7 : Memref sig .tc .vmem S1x512 .f32) (arg8 : Memref sig .tc .vmem S1x128 .f32) (arg10 : Memref sig .tc .vmem S4x128x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f10 : BufTy.Contents (Elt F) arg10.view.ty) : View.Piece (Elt F) S4x128x128 .f32 :=
  ⟨Rect.unit (s := S4x128x128) ![2, 0, 0] S1x128x128.size inb_S4x128x128_S1x128x128_2_0_0,
    shapeCast S1x128x128 (tst0 (rw1 arg6 X_arg6) (rw1 arg7 X_arg7) (rd4 arg3 X_arg3 k) (rd4 arg4 X_arg4 k) (rs2 arg10 f10) 8) shapeCasts_S128x128_S1x128x128⟩

/-- Head 3's piece of the result, chunk `n` of a trip. -/
def pc3 (arg2 arg3 arg4 arg5 : Memref sig .tc .vmem S1x2048x512 .f32) (arg6 arg7 : Memref sig .tc .vmem S1x512 .f32) (arg8 : Memref sig .tc .vmem S1x128 .f32) (arg10 : Memref sig .tc .vmem S4x128x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f10 : BufTy.Contents (Elt F) arg10.view.ty) (n : Fin 8) : View.Piece (Elt F) S1x2048x512 .bf16 :=
  ⟨Rect.unit (s := S1x2048x512) (k0_off6 k (BitVec.ofNat 32 (64 * n.val))) S1x64x128.size (k0_off6_inb k n),
    co1V (rw1 arg6 X_arg6) (rw1 arg7 X_arg7) (rwg arg8 X_arg8) (rd4 arg2 X_arg2 k n.val) (rd4 arg3 X_arg3 k n.val) (rd4 arg4 X_arg4 k n.val) (rd4 arg5 X_arg5 k n.val)
      (tst1 (rw1 arg6 X_arg6) (rw1 arg7 X_arg7) (rd4 arg3 X_arg3 k) (rd4 arg4 X_arg4 k) (rs3 arg10 f10) n.val)⟩

/-- Head 3's piece of the state after a trip. -/
def sc3 (arg2 arg3 arg4 arg5 : Memref sig .tc .vmem S1x2048x512 .f32) (arg6 arg7 : Memref sig .tc .vmem S1x512 .f32) (arg8 : Memref sig .tc .vmem S1x128 .f32) (arg10 : Memref sig .tc .vmem S4x128x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f10 : BufTy.Contents (Elt F) arg10.view.ty) : View.Piece (Elt F) S4x128x128 .f32 :=
  ⟨Rect.unit (s := S4x128x128) ![3, 0, 0] S1x128x128.size inb_S4x128x128_S1x128x128_3_0_0,
    shapeCast S1x128x128 (tst1 (rw1 arg6 X_arg6) (rw1 arg7 X_arg7) (rd4 arg3 X_arg3 k) (rd4 arg4 X_arg4 k) (rs3 arg10 f10) 8) shapeCasts_S128x128_S1x128x128⟩

/-- One trip's pieces: each head's eight chunks of the result and its state after them. -/
theorem trip_eq (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S1x2048x512 .bf16) (harg9 : arg9.IsWhole) (arg10 : Memref sig .tc .vmem S4x128x128 .f32) (harg10 : arg10.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f9 : BufTy.Contents (Elt F) arg9.view.ty) (f10 : BufTy.Contents (Elt F) arg10.view.ty) :
    tripL_k0_t1 (F := F) Variants.none c none i arg2 harg2 arg3 harg3 arg4 harg4 arg5 harg5 arg6 harg6 arg7 harg7 arg8 harg8 arg9 harg9 arg10 harg10 X_arg2 X_arg3 X_arg4 X_arg5 X_arg6 X_arg7 X_arg8 k f9 f10
      = ([pc3 arg2 arg3 arg4 arg5 arg6 arg7 arg8 arg10 X_arg2 X_arg3 X_arg4 X_arg5 X_arg6 X_arg7 X_arg8 k f10 7, pc2 arg2 arg3 arg4 arg5 arg6 arg7 arg8 arg10 X_arg2 X_arg3 X_arg4 X_arg5 X_arg6 X_arg7 X_arg8 k f10 7, pc3 arg2 arg3 arg4 arg5 arg6 arg7 arg8 arg10 X_arg2 X_arg3 X_arg4 X_arg5 X_arg6 X_arg7 X_arg8 k f10 6, pc2 arg2 arg3 arg4 arg5 arg6 arg7 arg8 arg10 X_arg2 X_arg3 X_arg4 X_arg5 X_arg6 X_arg7 X_arg8 k f10 6, pc3 arg2 arg3 arg4 arg5 arg6 arg7 arg8 arg10 X_arg2 X_arg3 X_arg4 X_arg5 X_arg6 X_arg7 X_arg8 k f10 5, pc2 arg2 arg3 arg4 arg5 arg6 arg7 arg8 arg10 X_arg2 X_arg3 X_arg4 X_arg5 X_arg6 X_arg7 X_arg8 k f10 5, pc3 arg2 arg3 arg4 arg5 arg6 arg7 arg8 arg10 X_arg2 X_arg3 X_arg4 X_arg5 X_arg6 X_arg7 X_arg8 k f10 4, pc2 arg2 arg3 arg4 arg5 arg6 arg7 arg8 arg10 X_arg2 X_arg3 X_arg4 X_arg5 X_arg6 X_arg7 X_arg8 k f10 4, pc3 arg2 arg3 arg4 arg5 arg6 arg7 arg8 arg10 X_arg2 X_arg3 X_arg4 X_arg5 X_arg6 X_arg7 X_arg8 k f10 3, pc2 arg2 arg3 arg4 arg5 arg6 arg7 arg8 arg10 X_arg2 X_arg3 X_arg4 X_arg5 X_arg6 X_arg7 X_arg8 k f10 3, pc3 arg2 arg3 arg4 arg5 arg6 arg7 arg8 arg10 X_arg2 X_arg3 X_arg4 X_arg5 X_arg6 X_arg7 X_arg8 k f10 2, pc2 arg2 arg3 arg4 arg5 arg6 arg7 arg8 arg10 X_arg2 X_arg3 X_arg4 X_arg5 X_arg6 X_arg7 X_arg8 k f10 2, pc3 arg2 arg3 arg4 arg5 arg6 arg7 arg8 arg10 X_arg2 X_arg3 X_arg4 X_arg5 X_arg6 X_arg7 X_arg8 k f10 1, pc2 arg2 arg3 arg4 arg5 arg6 arg7 arg8 arg10 X_arg2 X_arg3 X_arg4 X_arg5 X_arg6 X_arg7 X_arg8 k f10 1, pc3 arg2 arg3 arg4 arg5 arg6 arg7 arg8 arg10 X_arg2 X_arg3 X_arg4 X_arg5 X_arg6 X_arg7 X_arg8 k f10 0, pc2 arg2 arg3 arg4 arg5 arg6 arg7 arg8 arg10 X_arg2 X_arg3 X_arg4 X_arg5 X_arg6 X_arg7 X_arg8 k f10 0, pc1 arg2 arg3 arg4 arg5 arg6 arg7 arg8 arg10 X_arg2 X_arg3 X_arg4 X_arg5 X_arg6 X_arg7 X_arg8 k f10 7, pc0 arg2 arg3 arg4 arg5 arg6 arg7 arg8 arg10 X_arg2 X_arg3 X_arg4 X_arg5 X_arg6 X_arg7 X_arg8 k f10 7, pc1 arg2 arg3 arg4 arg5 arg6 arg7 arg8 arg10 X_arg2 X_arg3 X_arg4 X_arg5 X_arg6 X_arg7 X_arg8 k f10 6, pc0 arg2 arg3 arg4 arg5 arg6 arg7 arg8 arg10 X_arg2 X_arg3 X_arg4 X_arg5 X_arg6 X_arg7 X_arg8 k f10 6, pc1 arg2 arg3 arg4 arg5 arg6 arg7 arg8 arg10 X_arg2 X_arg3 X_arg4 X_arg5 X_arg6 X_arg7 X_arg8 k f10 5, pc0 arg2 arg3 arg4 arg5 arg6 arg7 arg8 arg10 X_arg2 X_arg3 X_arg4 X_arg5 X_arg6 X_arg7 X_arg8 k f10 5, pc1 arg2 arg3 arg4 arg5 arg6 arg7 arg8 arg10 X_arg2 X_arg3 X_arg4 X_arg5 X_arg6 X_arg7 X_arg8 k f10 4, pc0 arg2 arg3 arg4 arg5 arg6 arg7 arg8 arg10 X_arg2 X_arg3 X_arg4 X_arg5 X_arg6 X_arg7 X_arg8 k f10 4, pc1 arg2 arg3 arg4 arg5 arg6 arg7 arg8 arg10 X_arg2 X_arg3 X_arg4 X_arg5 X_arg6 X_arg7 X_arg8 k f10 3, pc0 arg2 arg3 arg4 arg5 arg6 arg7 arg8 arg10 X_arg2 X_arg3 X_arg4 X_arg5 X_arg6 X_arg7 X_arg8 k f10 3, pc1 arg2 arg3 arg4 arg5 arg6 arg7 arg8 arg10 X_arg2 X_arg3 X_arg4 X_arg5 X_arg6 X_arg7 X_arg8 k f10 2, pc0 arg2 arg3 arg4 arg5 arg6 arg7 arg8 arg10 X_arg2 X_arg3 X_arg4 X_arg5 X_arg6 X_arg7 X_arg8 k f10 2, pc1 arg2 arg3 arg4 arg5 arg6 arg7 arg8 arg10 X_arg2 X_arg3 X_arg4 X_arg5 X_arg6 X_arg7 X_arg8 k f10 1, pc0 arg2 arg3 arg4 arg5 arg6 arg7 arg8 arg10 X_arg2 X_arg3 X_arg4 X_arg5 X_arg6 X_arg7 X_arg8 k f10 1, pc1 arg2 arg3 arg4 arg5 arg6 arg7 arg8 arg10 X_arg2 X_arg3 X_arg4 X_arg5 X_arg6 X_arg7 X_arg8 k f10 0, pc0 arg2 arg3 arg4 arg5 arg6 arg7 arg8 arg10 X_arg2 X_arg3 X_arg4 X_arg5 X_arg6 X_arg7 X_arg8 k f10 0],
         [sc3 arg2 arg3 arg4 arg5 arg6 arg7 arg8 arg10 X_arg2 X_arg3 X_arg4 X_arg5 X_arg6 X_arg7 X_arg8 k f10, sc2 arg2 arg3 arg4 arg5 arg6 arg7 arg8 arg10 X_arg2 X_arg3 X_arg4 X_arg5 X_arg6 X_arg7 X_arg8 k f10, sc1 arg2 arg3 arg4 arg5 arg6 arg7 arg8 arg10 X_arg2 X_arg3 X_arg4 X_arg5 X_arg6 X_arg7 X_arg8 k f10, sc0 arg2 arg3 arg4 arg5 arg6 arg7 arg8 arg10 X_arg2 X_arg3 X_arg4 X_arg5 X_arg6 X_arg7 X_arg8 k f10]) := by
  unfold tripL_k0_t1 trip_k0_t1
  sl_kernel_rfl

end Cert.Kernel4Ideal.Block

end
-- ==== Proof.RecBlock.lean ====
module

public import proofs.«01_k».proof.Proof.RecTrip
public import Idealize.ShloMosaic.Lib.Pointwise

@[expose] public section

set_option maxRecDepth 16384

noncomputable section

namespace Cert.Kernel4Ideal.Block

open Idealize.ShloMosaic.Rounds
open Cert.Kernel4Ideal Cert.Kernel4Ideal.Gen
open Idealize.ShloMosaic Idealize.ShloMosaic.TcCoe Idealize.ShloMosaic.Tactic

variable {F : FTy → Type} [FloatOps F] [Named F]

theorem k0_trips : k0_t1_loop.trips = 4 := by decide +kernel

theorem blockSt_zero (x1 x2 : Vec F S1x2048x512 .f32) (x4 x5 : Vec F S1x512 .f32) (S : Vec F S4x128x128 .f32) : blockSt x1 x2 x4 x5 S 0 = S := by
  funext i
  have e : ∀ h : ℕ, stOf h x1 x2 x4 x5 S 0 = head h S := fun h => by unfold stOf; split <;> rfl
  unfold blockSt
  rw [e]
  unfold head
  congr 1
  funext d
  apply Fin.ext
  have h0 : (i 0 : ℕ) < 4 := (i 0).isLt
  fin_cases d
  · exact Nat.mod_eq_of_lt h0
  · rfl
  · rfl

theorem head_blockSt (h : ℕ) (hh : h < 4) (x1 x2 : Vec F S1x2048x512 .f32) (x4 x5 : Vec F S1x512 .f32) (S : Vec F S4x128x128 .f32) (n : ℕ) :
    head h (blockSt x1 x2 x4 x5 S n) = stOf h x1 x2 x4 x5 S n := by
  funext i
  idx_vars i
  unfold head blockSt
  exact congrFun (congrArg (fun g => stOf g x1 x2 x4 x5 S n) (Nat.mod_eq_of_lt hh)) (ix2 i0 i1)

theorem tst_eq0 (arg3 arg4 : Memref sig .tc .vmem S1x2048x512 .f32) (harg3 : arg3.IsWhole) (harg4 : arg4.IsWhole) (arg6 arg7 : Memref sig .tc .vmem S1x512 .f32) (harg6 : arg6.IsWhole) (harg7 : arg7.IsWhole)
    (arg10 : Memref sig .tc .vmem S4x128x128 .f32) (x1 x2 : Vec F S1x2048x512 .f32) (x4 x5 : Vec F S1x512 .f32) (S : Vec F S4x128x128 .f32) (k : Fin k0_t1_loop.trips) (f10 : BufTy.Contents (Elt F) arg10.view.ty)
    (hf : arg10.view.read (Elt F) f10 = blockSt x1 x2 x4 x5 S (8 * k.val)) (n : ℕ) (hn : n ≤ 8) :
    tst0 (rw0 arg6 (harg6.unread x4)) (rw0 arg7 (harg7.unread x5)) (rd1 arg3 (harg3.unread x1) k) (rd1 arg4 (harg4.unread x2) k) (rs0 arg10 f10) n
      = stOf 0 x1 x2 x4 x5 S (8 * k.val + n) := by
  have e : ∀ m, stOf 0 x1 x2 x4 x5 S m = iter (fun n s => cs0V (half 0 x4) (half 0 x5) (chk 0 x1 n) (chk 0 x2 n) s) (head 0 S) m := fun m => rfl
  rw [e, iter_add, ← e, ← head_blockSt 0 (by norm_num), ← hf, rs0_eq, rw0_eq, rw0_eq]
  unfold tst0
  apply iter_congr
  intro j hj
  funext s
  rw [rd1_eq _ _ _ _ _ (by omega), rd1_eq _ _ _ _ _ (by omega)]

theorem pc0_agree (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg10 : Memref sig .tc .vmem S4x128x128 .f32) (x0 x1 x2 x3 : Vec F S1x2048x512 .f32) (x4 x5 : Vec F S1x512 .f32) (x6 : Vec F S1x128 .f32) (S : Vec F S4x128x128 .f32) (k : Fin k0_t1_loop.trips) (f10 : BufTy.Contents (Elt F) arg10.view.ty)
    (hf : arg10.view.read (Elt F) f10 = blockSt x1 x2 x4 x5 S (8 * k.val)) (n : Fin 8)
    (y : (pc0 arg2 arg3 arg4 arg5 arg6 arg7 arg8 arg10 (harg2.unread x0) (harg3.unread x1) (harg4.unread x2) (harg5.unread x3) (harg6.unread x4) (harg7.unread x5) (harg8.unread x6) k f10 n).1.shape.Idx) :
    (pc0 arg2 arg3 arg4 arg5 arg6 arg7 arg8 arg10 (harg2.unread x0) (harg3.unread x1) (harg4.unread x2) (harg5.unread x3) (harg6.unread x4) (harg7.unread x5) (harg8.unread x6) k f10 n).2 y = blockOut x0 x1 x2 x3 x4 x5 x6 S ((pc0 arg2 arg3 arg4 arg5 arg6 arg7 arg8 arg10 (harg2.unread x0) (harg3.unread x1) (harg4.unread x2) (harg5.unread x3) (harg6.unread x4) (harg7.unread x5) (harg8.unread x6) k f10 n).1.emb y) := by
  have hk : k.val < 4 := Nat.lt_of_lt_of_le k.isLt k0_t1_abs.2.1
  have hn := n.isLt
  have ho := k0_off2_eq k n
  have y1 : (y 1 : ℕ) < 64 := (y 1).isLt
  have y2 : (y 2 : ℕ) < 128 := (y 2).isLt
  have y0 : (y 0 : ℕ) < 1 := (y 0).isLt
  have e1 : (((pc0 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) = 512 * k.val + 64 * n.val + (y 1 : ℕ) := by
    show (k0_off2 k (BitVec.ofNat 32 (64 * n.val))) 1 + 1 * (y 1 : ℕ) = _
    rw [ho]
    show 512 * k.val + 64 * n.val + 1 * (y 1 : ℕ) = _; omega
  have e2 : (((pc0 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) = 0 + (y 2 : ℕ) := by
    show (k0_off2 k (BitVec.ofNat 32 (64 * n.val))) 2 + 1 * (y 2 : ℕ) = _
    rw [ho]
    show 0 + 1 * (y 2 : ℕ) = _; omega
  unfold blockOut
  have d1 : (((pc0 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) / 64 = 8 * k.val + n.val := by rw [e1]; omega
  have d2 : (((pc0 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) / 128 = 0 := by rw [e2]; omega
  have m1 : (((pc0 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) % 64 = (y 1 : ℕ) := by rw [e1]; omega
  have m2 : (((pc0 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) % 128 = (y 2 : ℕ) := by rw [e2]; omega
  rw [d1, d2]
  have ey : (ix3 (0 : Fin 1) (⟨(((pc0 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) % 64, Nat.mod_lt _ (by norm_num)⟩ : Fin 64)
      (⟨(((pc0 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) % 128, Nat.mod_lt _ (by norm_num)⟩ : Fin 128) : S1x64x128.Idx) = y := by
    funext d
    apply Fin.ext
    fin_cases d
    · show 0 = (y 0 : ℕ); omega
    · exact m1
    · exact m2
  refine Eq.trans ?_ (congrArg _ ey.symm)
  have ew : outOf 0 x0 x1 x2 x3 x4 x5 x6 S (8 * k.val + n.val) = co0V (half 0 x4) (half 0 x5) x6 (chk 0 x0 (8 * k.val + n.val)) (chk 0 x1 (8 * k.val + n.val)) (chk 0 x2 (8 * k.val + n.val))
      (chk 0 x3 (8 * k.val + n.val)) (stOf 0 x1 x2 x4 x5 S (8 * k.val + n.val)) := rfl
  rw [ew, ← tst_eq0 arg3 arg4 harg3 harg4 arg6 arg7 harg6 harg7 arg10 x1 x2 x4 x5 S k f10 hf n.val (by omega)]
  rw [← rw0_eq arg6 harg6 x4, ← rw0_eq arg7 harg7 x5, ← rd1_eq arg2 harg2 x0 k n.val hn, ← rd1_eq arg3 harg3 x1 k n.val hn, ← rd1_eq arg4 harg4 x2 k n.val hn, ← rd1_eq arg5 harg5 x3 k n.val hn]
  have eg := rwg_eq arg8 harg8 x6
  unfold pc0
  rw [eg]

theorem sc0_agree (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg10 : Memref sig .tc .vmem S4x128x128 .f32) (x0 x1 x2 x3 : Vec F S1x2048x512 .f32) (x4 x5 : Vec F S1x512 .f32) (x6 : Vec F S1x128 .f32) (S : Vec F S4x128x128 .f32) (k : Fin k0_t1_loop.trips) (f10 : BufTy.Contents (Elt F) arg10.view.ty)
    (hf : arg10.view.read (Elt F) f10 = blockSt x1 x2 x4 x5 S (8 * k.val))
    (y : (sc0 arg2 arg3 arg4 arg5 arg6 arg7 arg8 arg10 (harg2.unread x0) (harg3.unread x1) (harg4.unread x2) (harg5.unread x3) (harg6.unread x4) (harg7.unread x5) (harg8.unread x6) k f10).1.shape.Idx) :
    (sc0 arg2 arg3 arg4 arg5 arg6 arg7 arg8 arg10 (harg2.unread x0) (harg3.unread x1) (harg4.unread x2) (harg5.unread x3) (harg6.unread x4) (harg7.unread x5) (harg8.unread x6) k f10).2 y = blockSt x1 x2 x4 x5 S (8 * (k.val + 1)) ((sc0 arg2 arg3 arg4 arg5 arg6 arg7 arg8 arg10 (harg2.unread x0) (harg3.unread x1) (harg4.unread x2) (harg5.unread x3) (harg6.unread x4) (harg7.unread x5) (harg8.unread x6) k f10).1.emb y) := by
  have y0 : (y 0 : ℕ) < 1 := (y 0).isLt
  have e0 : (((sc0 arg2 arg3 arg4 arg5 arg6 arg7 arg8 arg10 (harg2.unread x0) (harg3.unread x1) (harg4.unread x2) (harg5.unread x3) (harg6.unread x4) (harg7.unread x5) (harg8.unread x6) k f10).1.emb y 0 : Fin 4) : ℕ) = 0 := by
    show 0 + 1 * (y 0 : ℕ) = _; omega
  unfold blockSt
  rw [e0, show 8 * (k.val + 1) = 8 * k.val + 8 by ring, ← tst_eq0 arg3 arg4 harg3 harg4 arg6 arg7 harg6 harg7 arg10 x1 x2 x4 x5 S k f10 hf 8 le_rfl]
  have ey : (ix2 ((sc0 arg2 arg3 arg4 arg5 arg6 arg7 arg8 arg10 (harg2.unread x0) (harg3.unread x1) (harg4.unread x2) (harg5.unread x3) (harg6.unread x4) (harg7.unread x5) (harg8.unread x6) k f10).1.emb y 1 : Fin 128) ((sc0 arg2 arg3 arg4 arg5 arg6 arg7 arg8 arg10 (harg2.unread x0) (harg3.unread x1) (harg4.unread x2) (harg5.unread x3) (harg6.unread x4) (harg7.unread x5) (harg8.unread x6) k f10).1.emb y 2 : Fin 128) : S128x128.Idx) = ix2 (y 1 : Fin 128) (y 2 : Fin 128) := by
    congr 1
    · apply Fin.ext; show 0 + 1 * (y 1 : ℕ) = y 1; omega
    · apply Fin.ext; show 0 + 1 * (y 2 : ℕ) = y 2; omega
  rw [ey]
  unfold sc0
  have yy : y = (ix3 (0 : Fin 1) (y 1 : Fin 128) (y 2 : Fin 128) : S1x128x128.Idx) := by
    funext d
    apply Fin.ext
    fin_cases d
    · show (y 0 : ℕ) = 0; omega
    · rfl
    · rfl
  generalize tst0 (F := F) _ _ _ _ _ 8 = T
  rw [yy]
  pointwise

theorem tst_eq1 (arg3 arg4 : Memref sig .tc .vmem S1x2048x512 .f32) (harg3 : arg3.IsWhole) (harg4 : arg4.IsWhole) (arg6 arg7 : Memref sig .tc .vmem S1x512 .f32) (harg6 : arg6.IsWhole) (harg7 : arg7.IsWhole)
    (arg10 : Memref sig .tc .vmem S4x128x128 .f32) (x1 x2 : Vec F S1x2048x512 .f32) (x4 x5 : Vec F S1x512 .f32) (S : Vec F S4x128x128 .f32) (k : Fin k0_t1_loop.trips) (f10 : BufTy.Contents (Elt F) arg10.view.ty)
    (hf : arg10.view.read (Elt F) f10 = blockSt x1 x2 x4 x5 S (8 * k.val)) (n : ℕ) (hn : n ≤ 8) :
    tst1 (rw0 arg6 (harg6.unread x4)) (rw0 arg7 (harg7.unread x5)) (rd1 arg3 (harg3.unread x1) k) (rd1 arg4 (harg4.unread x2) k) (rs1 arg10 f10) n
      = stOf 1 x1 x2 x4 x5 S (8 * k.val + n) := by
  have e : ∀ m, stOf 1 x1 x2 x4 x5 S m = iter (fun n s => cs1V (half 0 x4) (half 0 x5) (chk 0 x1 n) (chk 0 x2 n) s) (head 1 S) m := fun m => rfl
  rw [e, iter_add, ← e, ← head_blockSt 1 (by norm_num), ← hf, rs1_eq, rw0_eq, rw0_eq]
  unfold tst1
  apply iter_congr
  intro j hj
  funext s
  rw [rd1_eq _ _ _ _ _ (by omega), rd1_eq _ _ _ _ _ (by omega)]

theorem pc1_agree (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg10 : Memref sig .tc .vmem S4x128x128 .f32) (x0 x1 x2 x3 : Vec F S1x2048x512 .f32) (x4 x5 : Vec F S1x512 .f32) (x6 : Vec F S1x128 .f32) (S : Vec F S4x128x128 .f32) (k : Fin k0_t1_loop.trips) (f10 : BufTy.Contents (Elt F) arg10.view.ty)
    (hf : arg10.view.read (Elt F) f10 = blockSt x1 x2 x4 x5 S (8 * k.val)) (n : Fin 8)
    (y : (pc1 arg2 arg3 arg4 arg5 arg6 arg7 arg8 arg10 (harg2.unread x0) (harg3.unread x1) (harg4.unread x2) (harg5.unread x3) (harg6.unread x4) (harg7.unread x5) (harg8.unread x6) k f10 n).1.shape.Idx) :
    (pc1 arg2 arg3 arg4 arg5 arg6 arg7 arg8 arg10 (harg2.unread x0) (harg3.unread x1) (harg4.unread x2) (harg5.unread x3) (harg6.unread x4) (harg7.unread x5) (harg8.unread x6) k f10 n).2 y = blockOut x0 x1 x2 x3 x4 x5 x6 S ((pc1 arg2 arg3 arg4 arg5 arg6 arg7 arg8 arg10 (harg2.unread x0) (harg3.unread x1) (harg4.unread x2) (harg5.unread x3) (harg6.unread x4) (harg7.unread x5) (harg8.unread x6) k f10 n).1.emb y) := by
  have hk : k.val < 4 := Nat.lt_of_lt_of_le k.isLt k0_t1_abs.2.1
  have hn := n.isLt
  have ho := k0_off3_eq k n
  have y1 : (y 1 : ℕ) < 64 := (y 1).isLt
  have y2 : (y 2 : ℕ) < 128 := (y 2).isLt
  have y0 : (y 0 : ℕ) < 1 := (y 0).isLt
  have e1 : (((pc1 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) = 512 * k.val + 64 * n.val + (y 1 : ℕ) := by
    show (k0_off3 k (BitVec.ofNat 32 (64 * n.val))) 1 + 1 * (y 1 : ℕ) = _
    rw [ho]
    show 512 * k.val + 64 * n.val + 1 * (y 1 : ℕ) = _; omega
  have e2 : (((pc1 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) = 128 + (y 2 : ℕ) := by
    show (k0_off3 k (BitVec.ofNat 32 (64 * n.val))) 2 + 1 * (y 2 : ℕ) = _
    rw [ho]
    show 128 + 1 * (y 2 : ℕ) = _; omega
  unfold blockOut
  have d1 : (((pc1 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) / 64 = 8 * k.val + n.val := by rw [e1]; omega
  have d2 : (((pc1 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) / 128 = 1 := by rw [e2]; omega
  have m1 : (((pc1 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) % 64 = (y 1 : ℕ) := by rw [e1]; omega
  have m2 : (((pc1 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) % 128 = (y 2 : ℕ) := by rw [e2]; omega
  rw [d1, d2]
  have ey : (ix3 (0 : Fin 1) (⟨(((pc1 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) % 64, Nat.mod_lt _ (by norm_num)⟩ : Fin 64)
      (⟨(((pc1 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) % 128, Nat.mod_lt _ (by norm_num)⟩ : Fin 128) : S1x64x128.Idx) = y := by
    funext d
    apply Fin.ext
    fin_cases d
    · show 0 = (y 0 : ℕ); omega
    · exact m1
    · exact m2
  refine Eq.trans ?_ (congrArg _ ey.symm)
  have ew : outOf 1 x0 x1 x2 x3 x4 x5 x6 S (8 * k.val + n.val) = co1V (half 0 x4) (half 0 x5) x6 (chk 0 x0 (8 * k.val + n.val)) (chk 0 x1 (8 * k.val + n.val)) (chk 0 x2 (8 * k.val + n.val))
      (chk 0 x3 (8 * k.val + n.val)) (stOf 1 x1 x2 x4 x5 S (8 * k.val + n.val)) := rfl
  rw [ew, ← tst_eq1 arg3 arg4 harg3 harg4 arg6 arg7 harg6 harg7 arg10 x1 x2 x4 x5 S k f10 hf n.val (by omega)]
  rw [← rw0_eq arg6 harg6 x4, ← rw0_eq arg7 harg7 x5, ← rd1_eq arg2 harg2 x0 k n.val hn, ← rd1_eq arg3 harg3 x1 k n.val hn, ← rd1_eq arg4 harg4 x2 k n.val hn, ← rd1_eq arg5 harg5 x3 k n.val hn]
  have eg := rwg_eq arg8 harg8 x6
  unfold pc1
  rw [eg]

theorem sc1_agree (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg10 : Memref sig .tc .vmem S4x128x128 .f32) (x0 x1 x2 x3 : Vec F S1x2048x512 .f32) (x4 x5 : Vec F S1x512 .f32) (x6 : Vec F S1x128 .f32) (S : Vec F S4x128x128 .f32) (k : Fin k0_t1_loop.trips) (f10 : BufTy.Contents (Elt F) arg10.view.ty)
    (hf : arg10.view.read (Elt F) f10 = blockSt x1 x2 x4 x5 S (8 * k.val))
    (y : (sc1 arg2 arg3 arg4 arg5 arg6 arg7 arg8 arg10 (harg2.unread x0) (harg3.unread x1) (harg4.unread x2) (harg5.unread x3) (harg6.unread x4) (harg7.unread x5) (harg8.unread x6) k f10).1.shape.Idx) :
    (sc1 arg2 arg3 arg4 arg5 arg6 arg7 arg8 arg10 (harg2.unread x0) (harg3.unread x1) (harg4.unread x2) (harg5.unread x3) (harg6.unread x4) (harg7.unread x5) (harg8.unread x6) k f10).2 y = blockSt x1 x2 x4 x5 S (8 * (k.val + 1)) ((sc1 arg2 arg3 arg4 arg5 arg6 arg7 arg8 arg10 (harg2.unread x0) (harg3.unread x1) (harg4.unread x2) (harg5.unread x3) (harg6.unread x4) (harg7.unread x5) (harg8.unread x6) k f10).1.emb y) := by
  have y0 : (y 0 : ℕ) < 1 := (y 0).isLt
  have e0 : (((sc1 arg2 arg3 arg4 arg5 arg6 arg7 arg8 arg10 (harg2.unread x0) (harg3.unread x1) (harg4.unread x2) (harg5.unread x3) (harg6.unread x4) (harg7.unread x5) (harg8.unread x6) k f10).1.emb y 0 : Fin 4) : ℕ) = 1 := by
    show 1 + 1 * (y 0 : ℕ) = _; omega
  unfold blockSt
  rw [e0, show 8 * (k.val + 1) = 8 * k.val + 8 by ring, ← tst_eq1 arg3 arg4 harg3 harg4 arg6 arg7 harg6 harg7 arg10 x1 x2 x4 x5 S k f10 hf 8 le_rfl]
  have ey : (ix2 ((sc1 arg2 arg3 arg4 arg5 arg6 arg7 arg8 arg10 (harg2.unread x0) (harg3.unread x1) (harg4.unread x2) (harg5.unread x3) (harg6.unread x4) (harg7.unread x5) (harg8.unread x6) k f10).1.emb y 1 : Fin 128) ((sc1 arg2 arg3 arg4 arg5 arg6 arg7 arg8 arg10 (harg2.unread x0) (harg3.unread x1) (harg4.unread x2) (harg5.unread x3) (harg6.unread x4) (harg7.unread x5) (harg8.unread x6) k f10).1.emb y 2 : Fin 128) : S128x128.Idx) = ix2 (y 1 : Fin 128) (y 2 : Fin 128) := by
    congr 1
    · apply Fin.ext; show 0 + 1 * (y 1 : ℕ) = y 1; omega
    · apply Fin.ext; show 0 + 1 * (y 2 : ℕ) = y 2; omega
  rw [ey]
  unfold sc1
  have yy : y = (ix3 (0 : Fin 1) (y 1 : Fin 128) (y 2 : Fin 128) : S1x128x128.Idx) := by
    funext d
    apply Fin.ext
    fin_cases d
    · show (y 0 : ℕ) = 0; omega
    · rfl
    · rfl
  generalize tst1 (F := F) _ _ _ _ _ 8 = T
  rw [yy]
  pointwise

theorem tst_eq2 (arg3 arg4 : Memref sig .tc .vmem S1x2048x512 .f32) (harg3 : arg3.IsWhole) (harg4 : arg4.IsWhole) (arg6 arg7 : Memref sig .tc .vmem S1x512 .f32) (harg6 : arg6.IsWhole) (harg7 : arg7.IsWhole)
    (arg10 : Memref sig .tc .vmem S4x128x128 .f32) (x1 x2 : Vec F S1x2048x512 .f32) (x4 x5 : Vec F S1x512 .f32) (S : Vec F S4x128x128 .f32) (k : Fin k0_t1_loop.trips) (f10 : BufTy.Contents (Elt F) arg10.view.ty)
    (hf : arg10.view.read (Elt F) f10 = blockSt x1 x2 x4 x5 S (8 * k.val)) (n : ℕ) (hn : n ≤ 8) :
    tst0 (rw1 arg6 (harg6.unread x4)) (rw1 arg7 (harg7.unread x5)) (rd4 arg3 (harg3.unread x1) k) (rd4 arg4 (harg4.unread x2) k) (rs2 arg10 f10) n
      = stOf 2 x1 x2 x4 x5 S (8 * k.val + n) := by
  have e : ∀ m, stOf 2 x1 x2 x4 x5 S m = iter (fun n s => cs0V (half 1 x4) (half 1 x5) (chk 1 x1 n) (chk 1 x2 n) s) (head 2 S) m := fun m => rfl
  rw [e, iter_add, ← e, ← head_blockSt 2 (by norm_num), ← hf, rs2_eq, rw1_eq, rw1_eq]
  unfold tst0
  apply iter_congr
  intro j hj
  funext s
  rw [rd4_eq _ _ _ _ _ (by omega), rd4_eq _ _ _ _ _ (by omega)]

theorem pc2_agree (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg10 : Memref sig .tc .vmem S4x128x128 .f32) (x0 x1 x2 x3 : Vec F S1x2048x512 .f32) (x4 x5 : Vec F S1x512 .f32) (x6 : Vec F S1x128 .f32) (S : Vec F S4x128x128 .f32) (k : Fin k0_t1_loop.trips) (f10 : BufTy.Contents (Elt F) arg10.view.ty)
    (hf : arg10.view.read (Elt F) f10 = blockSt x1 x2 x4 x5 S (8 * k.val)) (n : Fin 8)
    (y : (pc2 arg2 arg3 arg4 arg5 arg6 arg7 arg8 arg10 (harg2.unread x0) (harg3.unread x1) (harg4.unread x2) (harg5.unread x3) (harg6.unread x4) (harg7.unread x5) (harg8.unread x6) k f10 n).1.shape.Idx) :
    (pc2 arg2 arg3 arg4 arg5 arg6 arg7 arg8 arg10 (harg2.unread x0) (harg3.unread x1) (harg4.unread x2) (harg5.unread x3) (harg6.unread x4) (harg7.unread x5) (harg8.unread x6) k f10 n).2 y = blockOut x0 x1 x2 x3 x4 x5 x6 S ((pc2 arg2 arg3 arg4 arg5 arg6 arg7 arg8 arg10 (harg2.unread x0) (harg3.unread x1) (harg4.unread x2) (harg5.unread x3) (harg6.unread x4) (harg7.unread x5) (harg8.unread x6) k f10 n).1.emb y) := by
  have hk : k.val < 4 := Nat.lt_of_lt_of_le k.isLt k0_t1_abs.2.1
  have hn := n.isLt
  have ho := k0_off5_eq k n
  have y1 : (y 1 : ℕ) < 64 := (y 1).isLt
  have y2 : (y 2 : ℕ) < 128 := (y 2).isLt
  have y0 : (y 0 : ℕ) < 1 := (y 0).isLt
  have e1 : (((pc2 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) = 512 * k.val + 64 * n.val + (y 1 : ℕ) := by
    show (k0_off5 k (BitVec.ofNat 32 (64 * n.val))) 1 + 1 * (y 1 : ℕ) = _
    rw [ho]
    show 512 * k.val + 64 * n.val + 1 * (y 1 : ℕ) = _; omega
  have e2 : (((pc2 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) = 256 + (y 2 : ℕ) := by
    show (k0_off5 k (BitVec.ofNat 32 (64 * n.val))) 2 + 1 * (y 2 : ℕ) = _
    rw [ho]
    show 256 + 1 * (y 2 : ℕ) = _; omega
  unfold blockOut
  have d1 : (((pc2 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) / 64 = 8 * k.val + n.val := by rw [e1]; omega
  have d2 : (((pc2 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) / 128 = 2 := by rw [e2]; omega
  have m1 : (((pc2 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) % 64 = (y 1 : ℕ) := by rw [e1]; omega
  have m2 : (((pc2 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) % 128 = (y 2 : ℕ) := by rw [e2]; omega
  rw [d1, d2]
  have ey : (ix3 (0 : Fin 1) (⟨(((pc2 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) % 64, Nat.mod_lt _ (by norm_num)⟩ : Fin 64)
      (⟨(((pc2 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) % 128, Nat.mod_lt _ (by norm_num)⟩ : Fin 128) : S1x64x128.Idx) = y := by
    funext d
    apply Fin.ext
    fin_cases d
    · show 0 = (y 0 : ℕ); omega
    · exact m1
    · exact m2
  refine Eq.trans ?_ (congrArg _ ey.symm)
  have ew : outOf 2 x0 x1 x2 x3 x4 x5 x6 S (8 * k.val + n.val) = co0V (half 1 x4) (half 1 x5) x6 (chk 1 x0 (8 * k.val + n.val)) (chk 1 x1 (8 * k.val + n.val)) (chk 1 x2 (8 * k.val + n.val))
      (chk 1 x3 (8 * k.val + n.val)) (stOf 2 x1 x2 x4 x5 S (8 * k.val + n.val)) := rfl
  rw [ew, ← tst_eq2 arg3 arg4 harg3 harg4 arg6 arg7 harg6 harg7 arg10 x1 x2 x4 x5 S k f10 hf n.val (by omega)]
  rw [← rw1_eq arg6 harg6 x4, ← rw1_eq arg7 harg7 x5, ← rd4_eq arg2 harg2 x0 k n.val hn, ← rd4_eq arg3 harg3 x1 k n.val hn, ← rd4_eq arg4 harg4 x2 k n.val hn, ← rd4_eq arg5 harg5 x3 k n.val hn]
  have eg := rwg_eq arg8 harg8 x6
  unfold pc2
  rw [eg]

theorem sc2_agree (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg10 : Memref sig .tc .vmem S4x128x128 .f32) (x0 x1 x2 x3 : Vec F S1x2048x512 .f32) (x4 x5 : Vec F S1x512 .f32) (x6 : Vec F S1x128 .f32) (S : Vec F S4x128x128 .f32) (k : Fin k0_t1_loop.trips) (f10 : BufTy.Contents (Elt F) arg10.view.ty)
    (hf : arg10.view.read (Elt F) f10 = blockSt x1 x2 x4 x5 S (8 * k.val))
    (y : (sc2 arg2 arg3 arg4 arg5 arg6 arg7 arg8 arg10 (harg2.unread x0) (harg3.unread x1) (harg4.unread x2) (harg5.unread x3) (harg6.unread x4) (harg7.unread x5) (harg8.unread x6) k f10).1.shape.Idx) :
    (sc2 arg2 arg3 arg4 arg5 arg6 arg7 arg8 arg10 (harg2.unread x0) (harg3.unread x1) (harg4.unread x2) (harg5.unread x3) (harg6.unread x4) (harg7.unread x5) (harg8.unread x6) k f10).2 y = blockSt x1 x2 x4 x5 S (8 * (k.val + 1)) ((sc2 arg2 arg3 arg4 arg5 arg6 arg7 arg8 arg10 (harg2.unread x0) (harg3.unread x1) (harg4.unread x2) (harg5.unread x3) (harg6.unread x4) (harg7.unread x5) (harg8.unread x6) k f10).1.emb y) := by
  have y0 : (y 0 : ℕ) < 1 := (y 0).isLt
  have e0 : (((sc2 arg2 arg3 arg4 arg5 arg6 arg7 arg8 arg10 (harg2.unread x0) (harg3.unread x1) (harg4.unread x2) (harg5.unread x3) (harg6.unread x4) (harg7.unread x5) (harg8.unread x6) k f10).1.emb y 0 : Fin 4) : ℕ) = 2 := by
    show 2 + 1 * (y 0 : ℕ) = _; omega
  unfold blockSt
  rw [e0, show 8 * (k.val + 1) = 8 * k.val + 8 by ring, ← tst_eq2 arg3 arg4 harg3 harg4 arg6 arg7 harg6 harg7 arg10 x1 x2 x4 x5 S k f10 hf 8 le_rfl]
  have ey : (ix2 ((sc2 arg2 arg3 arg4 arg5 arg6 arg7 arg8 arg10 (harg2.unread x0) (harg3.unread x1) (harg4.unread x2) (harg5.unread x3) (harg6.unread x4) (harg7.unread x5) (harg8.unread x6) k f10).1.emb y 1 : Fin 128) ((sc2 arg2 arg3 arg4 arg5 arg6 arg7 arg8 arg10 (harg2.unread x0) (harg3.unread x1) (harg4.unread x2) (harg5.unread x3) (harg6.unread x4) (harg7.unread x5) (harg8.unread x6) k f10).1.emb y 2 : Fin 128) : S128x128.Idx) = ix2 (y 1 : Fin 128) (y 2 : Fin 128) := by
    congr 1
    · apply Fin.ext; show 0 + 1 * (y 1 : ℕ) = y 1; omega
    · apply Fin.ext; show 0 + 1 * (y 2 : ℕ) = y 2; omega
  rw [ey]
  unfold sc2
  have yy : y = (ix3 (0 : Fin 1) (y 1 : Fin 128) (y 2 : Fin 128) : S1x128x128.Idx) := by
    funext d
    apply Fin.ext
    fin_cases d
    · show (y 0 : ℕ) = 0; omega
    · rfl
    · rfl
  generalize tst0 (F := F) _ _ _ _ _ 8 = T
  rw [yy]
  pointwise

theorem tst_eq3 (arg3 arg4 : Memref sig .tc .vmem S1x2048x512 .f32) (harg3 : arg3.IsWhole) (harg4 : arg4.IsWhole) (arg6 arg7 : Memref sig .tc .vmem S1x512 .f32) (harg6 : arg6.IsWhole) (harg7 : arg7.IsWhole)
    (arg10 : Memref sig .tc .vmem S4x128x128 .f32) (x1 x2 : Vec F S1x2048x512 .f32) (x4 x5 : Vec F S1x512 .f32) (S : Vec F S4x128x128 .f32) (k : Fin k0_t1_loop.trips) (f10 : BufTy.Contents (Elt F) arg10.view.ty)
    (hf : arg10.view.read (Elt F) f10 = blockSt x1 x2 x4 x5 S (8 * k.val)) (n : ℕ) (hn : n ≤ 8) :
    tst1 (rw1 arg6 (harg6.unread x4)) (rw1 arg7 (harg7.unread x5)) (rd4 arg3 (harg3.unread x1) k) (rd4 arg4 (harg4.unread x2) k) (rs3 arg10 f10) n
      = stOf 3 x1 x2 x4 x5 S (8 * k.val + n) := by
  have e : ∀ m, stOf 3 x1 x2 x4 x5 S m = iter (fun n s => cs1V (half 1 x4) (half 1 x5) (chk 1 x1 n) (chk 1 x2 n) s) (head 3 S) m := fun m => rfl
  rw [e, iter_add, ← e, ← head_blockSt 3 (by norm_num), ← hf, rs3_eq, rw1_eq, rw1_eq]
  unfold tst1
  apply iter_congr
  intro j hj
  funext s
  rw [rd4_eq _ _ _ _ _ (by omega), rd4_eq _ _ _ _ _ (by omega)]

theorem pc3_agree (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg10 : Memref sig .tc .vmem S4x128x128 .f32) (x0 x1 x2 x3 : Vec F S1x2048x512 .f32) (x4 x5 : Vec F S1x512 .f32) (x6 : Vec F S1x128 .f32) (S : Vec F S4x128x128 .f32) (k : Fin k0_t1_loop.trips) (f10 : BufTy.Contents (Elt F) arg10.view.ty)
    (hf : arg10.view.read (Elt F) f10 = blockSt x1 x2 x4 x5 S (8 * k.val)) (n : Fin 8)
    (y : (pc3 arg2 arg3 arg4 arg5 arg6 arg7 arg8 arg10 (harg2.unread x0) (harg3.unread x1) (harg4.unread x2) (harg5.unread x3) (harg6.unread x4) (harg7.unread x5) (harg8.unread x6) k f10 n).1.shape.Idx) :
    (pc3 arg2 arg3 arg4 arg5 arg6 arg7 arg8 arg10 (harg2.unread x0) (harg3.unread x1) (harg4.unread x2) (harg5.unread x3) (harg6.unread x4) (harg7.unread x5) (harg8.unread x6) k f10 n).2 y = blockOut x0 x1 x2 x3 x4 x5 x6 S ((pc3 arg2 arg3 arg4 arg5 arg6 arg7 arg8 arg10 (harg2.unread x0) (harg3.unread x1) (harg4.unread x2) (harg5.unread x3) (harg6.unread x4) (harg7.unread x5) (harg8.unread x6) k f10 n).1.emb y) := by
  have hk : k.val < 4 := Nat.lt_of_lt_of_le k.isLt k0_t1_abs.2.1
  have hn := n.isLt
  have ho := k0_off6_eq k n
  have y1 : (y 1 : ℕ) < 64 := (y 1).isLt
  have y2 : (y 2 : ℕ) < 128 := (y 2).isLt
  have y0 : (y 0 : ℕ) < 1 := (y 0).isLt
  have e1 : (((pc3 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) = 512 * k.val + 64 * n.val + (y 1 : ℕ) := by
    show (k0_off6 k (BitVec.ofNat 32 (64 * n.val))) 1 + 1 * (y 1 : ℕ) = _
    rw [ho]
    show 512 * k.val + 64 * n.val + 1 * (y 1 : ℕ) = _; omega
  have e2 : (((pc3 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) = 384 + (y 2 : ℕ) := by
    show (k0_off6 k (BitVec.ofNat 32 (64 * n.val))) 2 + 1 * (y 2 : ℕ) = _
    rw [ho]
    show 384 + 1 * (y 2 : ℕ) = _; omega
  unfold blockOut
  have d1 : (((pc3 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) / 64 = 8 * k.val + n.val := by rw [e1]; omega
  have d2 : (((pc3 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) / 128 = 3 := by rw [e2]; omega
  have m1 : (((pc3 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) % 64 = (y 1 : ℕ) := by rw [e1]; omega
  have m2 : (((pc3 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) % 128 = (y 2 : ℕ) := by rw [e2]; omega
  rw [d1, d2]
  have ey : (ix3 (0 : Fin 1) (⟨(((pc3 arg2 arg3 arg4 arg5 arg6 arg7 arg8 arg10 (harg2.unread x0) (harg3.unread x1) (harg4.unread x2) (harg5.unread x3) (harg6.unread x4) (harg7.unread x5) (harg8.unread x6) k f10 n).1.emb y 1 : Fin 2048) : ℕ) % 64, Nat.mod_lt _ (by norm_num)⟩ : Fin 64)
      (⟨(((pc3 arg2 arg3 arg4 arg5 arg6 arg7 arg8 arg10 (harg2.unread x0) (harg3.unread x1) (harg4.unread x2) (harg5.unread x3) (harg6.unread x4) (harg7.unread x5) (harg8.unread x6) k f10 n).1.emb y 2 : Fin 512) : ℕ) % 128, Nat.mod_lt _ (by norm_num)⟩ : Fin 128) : S1x64x128.Idx) = y := by
    funext d
    apply Fin.ext
    fin_cases d
    · show 0 = (y 0 : ℕ); omega
    · exact m1
    · exact m2
  refine Eq.trans ?_ (congrArg _ ey.symm)
  have ew : outOf 3 x0 x1 x2 x3 x4 x5 x6 S (8 * k.val + n.val) = co1V (half 1 x4) (half 1 x5) x6 (chk 1 x0 (8 * k.val + n.val)) (chk 1 x1 (8 * k.val + n.val)) (chk 1 x2 (8 * k.val + n.val))
      (chk 1 x3 (8 * k.val + n.val)) (stOf 3 x1 x2 x4 x5 S (8 * k.val + n.val)) := rfl
  rw [ew, ← tst_eq3 arg3 arg4 harg3 harg4 arg6 arg7 harg6 harg7 arg10 x1 x2 x4 x5 S k f10 hf n.val (by omega)]
  rw [← rw1_eq arg6 harg6 x4, ← rw1_eq arg7 harg7 x5, ← rd4_eq arg2 harg2 x0 k n.val hn, ← rd4_eq arg3 harg3 x1 k n.val hn, ← rd4_eq arg4 harg4 x2 k n.val hn, ← rd4_eq arg5 harg5 x3 k n.val hn]
  have eg := rwg_eq arg8 harg8 x6
  unfold pc3
  rw [eg]

theorem sc3_agree (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg10 : Memref sig .tc .vmem S4x128x128 .f32) (x0 x1 x2 x3 : Vec F S1x2048x512 .f32) (x4 x5 : Vec F S1x512 .f32) (x6 : Vec F S1x128 .f32) (S : Vec F S4x128x128 .f32) (k : Fin k0_t1_loop.trips) (f10 : BufTy.Contents (Elt F) arg10.view.ty)
    (hf : arg10.view.read (Elt F) f10 = blockSt x1 x2 x4 x5 S (8 * k.val))
    (y : (sc3 arg2 arg3 arg4 arg5 arg6 arg7 arg8 arg10 (harg2.unread x0) (harg3.unread x1) (harg4.unread x2) (harg5.unread x3) (harg6.unread x4) (harg7.unread x5) (harg8.unread x6) k f10).1.shape.Idx) :
    (sc3 arg2 arg3 arg4 arg5 arg6 arg7 arg8 arg10 (harg2.unread x0) (harg3.unread x1) (harg4.unread x2) (harg5.unread x3) (harg6.unread x4) (harg7.unread x5) (harg8.unread x6) k f10).2 y = blockSt x1 x2 x4 x5 S (8 * (k.val + 1)) ((sc3 arg2 arg3 arg4 arg5 arg6 arg7 arg8 arg10 (harg2.unread x0) (harg3.unread x1) (harg4.unread x2) (harg5.unread x3) (harg6.unread x4) (harg7.unread x5) (harg8.unread x6) k f10).1.emb y) := by
  have y0 : (y 0 : ℕ) < 1 := (y 0).isLt
  have e0 : (((sc3 arg2 arg3 arg4 arg5 arg6 arg7 arg8 arg10 (harg2.unread x0) (harg3.unread x1) (harg4.unread x2) (harg5.unread x3) (harg6.unread x4) (harg7.unread x5) (harg8.unread x6) k f10).1.emb y 0 : Fin 4) : ℕ) = 3 := by
    show 3 + 1 * (y 0 : ℕ) = _; omega
  unfold blockSt
  rw [e0, show 8 * (k.val + 1) = 8 * k.val + 8 by ring, ← tst_eq3 arg3 arg4 harg3 harg4 arg6 arg7 harg6 harg7 arg10 x1 x2 x4 x5 S k f10 hf 8 le_rfl]
  have ey : (ix2 ((sc3 arg2 arg3 arg4 arg5 arg6 arg7 arg8 arg10 (harg2.unread x0) (harg3.unread x1) (harg4.unread x2) (harg5.unread x3) (harg6.unread x4) (harg7.unread x5) (harg8.unread x6) k f10).1.emb y 1 : Fin 128) ((sc3 arg2 arg3 arg4 arg5 arg6 arg7 arg8 arg10 (harg2.unread x0) (harg3.unread x1) (harg4.unread x2) (harg5.unread x3) (harg6.unread x4) (harg7.unread x5) (harg8.unread x6) k f10).1.emb y 2 : Fin 128) : S128x128.Idx) = ix2 (y 1 : Fin 128) (y 2 : Fin 128) := by
    congr 1
    · apply Fin.ext; show 0 + 1 * (y 1 : ℕ) = y 1; omega
    · apply Fin.ext; show 0 + 1 * (y 2 : ℕ) = y 2; omega
  rw [ey]
  unfold sc3
  have yy : y = (ix3 (0 : Fin 1) (y 1 : Fin 128) (y 2 : Fin 128) : S1x128x128.Idx) := by
    funext d
    apply Fin.ext
    fin_cases d
    · show (y 0 : ℕ) = 0; omega
    · rfl
    · rfl
  generalize tst1 (F := F) _ _ _ _ _ 8 = T
  rw [yy]
  pointwise

/-- After `k` trips: every piece of the result agrees with the block, and the state's buffer holds the state. -/
theorem trips_agree (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S1x2048x512 .bf16) (harg9 : arg9.IsWhole) (arg10 : Memref sig .tc .vmem S4x128x128 .f32) (harg10 : arg10.IsWhole) (x0 x1 x2 x3 : Vec F S1x2048x512 .f32) (x4 x5 : Vec F S1x512 .f32) (x6 : Vec F S1x128 .f32) (f9 : BufTy.Contents (Elt F) arg9.view.ty) (G10 : BufTy.Contents (Elt F) arg10.view.ty)
    (S : Vec F S4x128x128 .f32) (hG : arg10.view.read (Elt F) G10 = S) : ∀ k, k ≤ k0_t1_loop.trips →
    (∀ p ∈ (pb_k0_t1 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) f9 G10 k).1, ∀ y : p.1.shape.Idx, p.2 y = blockOut x0 x1 x2 x3 x4 x5 x6 S (p.1.emb y))
    ∧ arg10.view.read (Elt F) (arg10.view.writes (Elt F) G10 (pb_k0_t1 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) f9 G10 k).2) = blockSt x1 x2 x4 x5 S (8 * k) := by
  intro k
  induction k with
  | zero =>
    intro _
    refine ⟨fun p hp => ?_, ?_⟩
    · exact absurd hp List.not_mem_nil
    · exact hG.trans (blockSt_zero x1 x2 x4 x5 S).symm
  | succ k ih =>
    intro hk
    obtain ⟨ih1, ih2⟩ := ih (by omega)
    have hs := pb_k0_t1_succ (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) f9 G10 ⟨k, hk⟩
    rw [trip_eq] at hs
    have hs' : pb_k0_t1 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) f9 G10 (k + 1) = _ := hs
    rw [hs']
    constructor
    · intro p hp
      rcases List.mem_append.1 hp with hp | hp
      · simp only [List.mem_cons, List.not_mem_nil, or_false] at hp
        rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
        · exact pc3_agree arg2 harg2 arg3 harg3 arg4 harg4 arg5 harg5 arg6 harg6 arg7 harg7 arg8 harg8 arg10 x0 x1 x2 x3 x4 x5 x6 S ⟨k, hk⟩ _ ih2 7
        · exact pc2_agree arg2 harg2 arg3 harg3 arg4 harg4 arg5 harg5 arg6 harg6 arg7 harg7 arg8 harg8 arg10 x0 x1 x2 x3 x4 x5 x6 S ⟨k, hk⟩ _ ih2 7
        · exact pc3_agree arg2 harg2 arg3 harg3 arg4 harg4 arg5 harg5 arg6 harg6 arg7 harg7 arg8 harg8 arg10 x0 x1 x2 x3 x4 x5 x6 S ⟨k, hk⟩ _ ih2 6
        · exact pc2_agree arg2 harg2 arg3 harg3 arg4 harg4 arg5 harg5 arg6 harg6 arg7 harg7 arg8 harg8 arg10 x0 x1 x2 x3 x4 x5 x6 S ⟨k, hk⟩ _ ih2 6
        · exact pc3_agree arg2 harg2 arg3 harg3 arg4 harg4 arg5 harg5 arg6 harg6 arg7 harg7 arg8 harg8 arg10 x0 x1 x2 x3 x4 x5 x6 S ⟨k, hk⟩ _ ih2 5
        · exact pc2_agree arg2 harg2 arg3 harg3 arg4 harg4 arg5 harg5 arg6 harg6 arg7 harg7 arg8 harg8 arg10 x0 x1 x2 x3 x4 x5 x6 S ⟨k, hk⟩ _ ih2 5
        · exact pc3_agree arg2 harg2 arg3 harg3 arg4 harg4 arg5 harg5 arg6 harg6 arg7 harg7 arg8 harg8 arg10 x0 x1 x2 x3 x4 x5 x6 S ⟨k, hk⟩ _ ih2 4
        · exact pc2_agree arg2 harg2 arg3 harg3 arg4 harg4 arg5 harg5 arg6 harg6 arg7 harg7 arg8 harg8 arg10 x0 x1 x2 x3 x4 x5 x6 S ⟨k, hk⟩ _ ih2 4
        · exact pc3_agree arg2 harg2 arg3 harg3 arg4 harg4 arg5 harg5 arg6 harg6 arg7 harg7 arg8 harg8 arg10 x0 x1 x2 x3 x4 x5 x6 S ⟨k, hk⟩ _ ih2 3
        · exact pc2_agree arg2 harg2 arg3 harg3 arg4 harg4 arg5 harg5 arg6 harg6 arg7 harg7 arg8 harg8 arg10 x0 x1 x2 x3 x4 x5 x6 S ⟨k, hk⟩ _ ih2 3
        · exact pc3_agree arg2 harg2 arg3 harg3 arg4 harg4 arg5 harg5 arg6 harg6 arg7 harg7 arg8 harg8 arg10 x0 x1 x2 x3 x4 x5 x6 S ⟨k, hk⟩ _ ih2 2
        · exact pc2_agree arg2 harg2 arg3 harg3 arg4 harg4 arg5 harg5 arg6 harg6 arg7 harg7 arg8 harg8 arg10 x0 x1 x2 x3 x4 x5 x6 S ⟨k, hk⟩ _ ih2 2
        · exact pc3_agree arg2 harg2 arg3 harg3 arg4 harg4 arg5 harg5 arg6 harg6 arg7 harg7 arg8 harg8 arg10 x0 x1 x2 x3 x4 x5 x6 S ⟨k, hk⟩ _ ih2 1
        · exact pc2_agree arg2 harg2 arg3 harg3 arg4 harg4 arg5 harg5 arg6 harg6 arg7 harg7 arg8 harg8 arg10 x0 x1 x2 x3 x4 x5 x6 S ⟨k, hk⟩ _ ih2 1
        · exact pc3_agree arg2 harg2 arg3 harg3 arg4 harg4 arg5 harg5 arg6 harg6 arg7 harg7 arg8 harg8 arg10 x0 x1 x2 x3 x4 x5 x6 S ⟨k, hk⟩ _ ih2 0
        · exact pc2_agree arg2 harg2 arg3 harg3 arg4 harg4 arg5 harg5 arg6 harg6 arg7 harg7 arg8 harg8 arg10 x0 x1 x2 x3 x4 x5 x6 S ⟨k, hk⟩ _ ih2 0
        · exact pc1_agree arg2 harg2 arg3 harg3 arg4 harg4 arg5 harg5 arg6 harg6 arg7 harg7 arg8 harg8 arg10 x0 x1 x2 x3 x4 x5 x6 S ⟨k, hk⟩ _ ih2 7
        · exact pc0_agree arg2 harg2 arg3 harg3 arg4 harg4 arg5 harg5 arg6 harg6 arg7 harg7 arg8 harg8 arg10 x0 x1 x2 x3 x4 x5 x6 S ⟨k, hk⟩ _ ih2 7
        · exact pc1_agree arg2 harg2 arg3 harg3 arg4 harg4 arg5 harg5 arg6 harg6 arg7 harg7 arg8 harg8 arg10 x0 x1 x2 x3 x4 x5 x6 S ⟨k, hk⟩ _ ih2 6
        · exact pc0_agree arg2 harg2 arg3 harg3 arg4 harg4 arg5 harg5 arg6 harg6 arg7 harg7 arg8 harg8 arg10 x0 x1 x2 x3 x4 x5 x6 S ⟨k, hk⟩ _ ih2 6
        · exact pc1_agree arg2 harg2 arg3 harg3 arg4 harg4 arg5 harg5 arg6 harg6 arg7 harg7 arg8 harg8 arg10 x0 x1 x2 x3 x4 x5 x6 S ⟨k, hk⟩ _ ih2 5
        · exact pc0_agree arg2 harg2 arg3 harg3 arg4 harg4 arg5 harg5 arg6 harg6 arg7 harg7 arg8 harg8 arg10 x0 x1 x2 x3 x4 x5 x6 S ⟨k, hk⟩ _ ih2 5
        · exact pc1_agree arg2 harg2 arg3 harg3 arg4 harg4 arg5 harg5 arg6 harg6 arg7 harg7 arg8 harg8 arg10 x0 x1 x2 x3 x4 x5 x6 S ⟨k, hk⟩ _ ih2 4
        · exact pc0_agree arg2 harg2 arg3 harg3 arg4 harg4 arg5 harg5 arg6 harg6 arg7 harg7 arg8 harg8 arg10 x0 x1 x2 x3 x4 x5 x6 S ⟨k, hk⟩ _ ih2 4
        · exact pc1_agree arg2 harg2 arg3 harg3 arg4 harg4 arg5 harg5 arg6 harg6 arg7 harg7 arg8 harg8 arg10 x0 x1 x2 x3 x4 x5 x6 S ⟨k, hk⟩ _ ih2 3
        · exact pc0_agree arg2 harg2 arg3 harg3 arg4 harg4 arg5 harg5 arg6 harg6 arg7 harg7 arg8 harg8 arg10 x0 x1 x2 x3 x4 x5 x6 S ⟨k, hk⟩ _ ih2 3
        · exact pc1_agree arg2 harg2 arg3 harg3 arg4 harg4 arg5 harg5 arg6 harg6 arg7 harg7 arg8 harg8 arg10 x0 x1 x2 x3 x4 x5 x6 S ⟨k, hk⟩ _ ih2 2
        · exact pc0_agree arg2 harg2 arg3 harg3 arg4 harg4 arg5 harg5 arg6 harg6 arg7 harg7 arg8 harg8 arg10 x0 x1 x2 x3 x4 x5 x6 S ⟨k, hk⟩ _ ih2 2
        · exact pc1_agree arg2 harg2 arg3 harg3 arg4 harg4 arg5 harg5 arg6 harg6 arg7 harg7 arg8 harg8 arg10 x0 x1 x2 x3 x4 x5 x6 S ⟨k, hk⟩ _ ih2 1
        · exact pc0_agree arg2 harg2 arg3 harg3 arg4 harg4 arg5 harg5 arg6 harg6 arg7 harg7 arg8 harg8 arg10 x0 x1 x2 x3 x4 x5 x6 S ⟨k, hk⟩ _ ih2 1
        · exact pc1_agree arg2 harg2 arg3 harg3 arg4 harg4 arg5 harg5 arg6 harg6 arg7 harg7 arg8 harg8 arg10 x0 x1 x2 x3 x4 x5 x6 S ⟨k, hk⟩ _ ih2 0
        · exact pc0_agree arg2 harg2 arg3 harg3 arg4 harg4 arg5 harg5 arg6 harg6 arg7 harg7 arg8 harg8 arg10 x0 x1 x2 x3 x4 x5 x6 S ⟨k, hk⟩ _ ih2 0
      · exact ih1 p hp
    · rw [View.writes_append]
      funext y
      apply View.read_writes_apply_of_pieces
      · intro p hp
        simp only [List.mem_cons, List.not_mem_nil, or_false] at hp
        rcases hp with rfl | rfl | rfl | rfl
        · exact sc3_agree arg2 harg2 arg3 harg3 arg4 harg4 arg5 harg5 arg6 harg6 arg7 harg7 arg8 harg8 arg10 x0 x1 x2 x3 x4 x5 x6 S ⟨k, hk⟩ _ ih2
        · exact sc2_agree arg2 harg2 arg3 harg3 arg4 harg4 arg5 harg5 arg6 harg6 arg7 harg7 arg8 harg8 arg10 x0 x1 x2 x3 x4 x5 x6 S ⟨k, hk⟩ _ ih2
        · exact sc1_agree arg2 harg2 arg3 harg3 arg4 harg4 arg5 harg5 arg6 harg6 arg7 harg7 arg8 harg8 arg10 x0 x1 x2 x3 x4 x5 x6 S ⟨k, hk⟩ _ ih2
        · exact sc0_agree arg2 harg2 arg3 harg3 arg4 harg4 arg5 harg5 arg6 harg6 arg7 harg7 arg8 harg8 arg10 x0 x1 x2 x3 x4 x5 x6 S ⟨k, hk⟩ _ ih2
      · exact View.cover_of_tiledL (s := S4x128x128) _ ![1, 128, 128] (by sl_kernel_rfl) y

/-- The result's pieces cover its block. -/
theorem cover9 (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S1x2048x512 .bf16) (harg9 : arg9.IsWhole) (arg10 : Memref sig .tc .vmem S4x128x128 .f32) (harg10 : arg10.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (f9 : BufTy.Contents (Elt F) arg9.view.ty) (G10 : BufTy.Contents (Elt F) arg10.view.ty) (y : S1x2048x512.Idx) :
    ∃ p ∈ (pb_k0_t1 (F := F) Variants.none c none i arg2 harg2 arg3 harg3 arg4 harg4 arg5 harg5 arg6 harg6 arg7 harg7 arg8 harg8 arg9 harg9 arg10 harg10 X_arg2 X_arg3 X_arg4 X_arg5 X_arg6 X_arg7 X_arg8 f9 G10 k0_t1_loop.trips).1, y ∈ p.1.set :=
  View.cover_of_tiledL (s := S1x2048x512) _ ![1, 64, 128] (by sl_kernel_rfl) y

/-- What the loop leaves in the result's buffer. -/
theorem read9 (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S1x2048x512 .bf16) (harg9 : arg9.IsWhole) (arg10 : Memref sig .tc .vmem S4x128x128 .f32) (harg10 : arg10.IsWhole) (x0 x1 x2 x3 : Vec F S1x2048x512 .f32) (x4 x5 : Vec F S1x512 .f32) (x6 : Vec F S1x128 .f32) (f9 : BufTy.Contents (Elt F) arg9.view.ty) (G10 : BufTy.Contents (Elt F) arg10.view.ty)
    (S : Vec F S4x128x128 .f32) (hG : arg10.view.read (Elt F) G10 = S) (g9 : BufTy.Contents (Elt F) arg9.view.ty) :
    arg9.view.read (Elt F) (arg9.view.writes (Elt F) g9 (pb_k0_t1 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) f9 G10 k0_t1_loop.trips).1) = blockOut x0 x1 x2 x3 x4 x5 x6 S := by
  funext y
  exact View.read_writes_apply_of_pieces _ _ _ _ (trips_agree c i arg2 harg2 arg3 harg3 arg4 harg4 arg5 harg5 arg6 harg6 arg7 harg7 arg8 harg8 arg9 harg9 arg10 harg10 x0 x1 x2 x3 x4 x5 x6 f9 G10 S hG _ le_rfl).1 y
    (cover9 c i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) f9 G10 y)

/-- What the loop leaves in the state's buffer. -/
theorem read10 (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S1x2048x512 .bf16) (harg9 : arg9.IsWhole) (arg10 : Memref sig .tc .vmem S4x128x128 .f32) (harg10 : arg10.IsWhole) (x0 x1 x2 x3 : Vec F S1x2048x512 .f32) (x4 x5 : Vec F S1x512 .f32) (x6 : Vec F S1x128 .f32) (f9 : BufTy.Contents (Elt F) arg9.view.ty) (G10 : BufTy.Contents (Elt F) arg10.view.ty)
    (S : Vec F S4x128x128 .f32) (hG : arg10.view.read (Elt F) G10 = S) :
    arg10.view.read (Elt F) (arg10.view.writes (Elt F) G10 (pb_k0_t1 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) f9 G10 k0_t1_loop.trips).2) = blockSt x1 x2 x4 x5 S 32 := by
  have h := (trips_agree c i arg2 harg2 arg3 harg3 arg4 harg4 arg5 harg5 arg6 harg6 arg7 harg7 arg8 harg8 arg9 harg9 arg10 harg10 x0 x1 x2 x3 x4 x5 x6 f9 G10 S hG _ le_rfl).2
  rw [k0_trips] at h ⊢
  exact h

/-- The cleared state. -/
theorem clear10 (arg10 : Memref sig .tc .vmem S4x128x128 .f32) (g : BufTy.Contents (Elt F) arg10.view.ty) :
    arg10.view.read (Elt F) (arg10.view.writes (Elt F) g [⟨Rect.unit (s := S4x128x128) ![0, 0, 0] S4x128x128.size inb_S4x128x128_S4x128x128_0_0_0, k0_pay1 (F := F)⟩]) = k0_pay1 (F := F) := by
  funext y
  apply View.read_writes_apply_of_pieces
  · intro p hp x
    rw [List.mem_singleton] at hp
    subst hp
    congr 1
  · exact View.cover_of_tiledL (s := S4x128x128) _ ![4, 128, 128] (by sl_kernel_rfl) y

end Cert.Kernel4Ideal.Block

end
-- ==== Proof.RecRunIdeal.lean ====
module

public import proofs.«01_k».proof.Proof.Gen.Kernel4Ideal.Frame.Runs

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The body at a point that starts a sequence: the state is cleared, then the loop's trips store their pieces over what the
    output's buffer and the state's buffer held. -/
theorem run_A (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S1x2048x512 .bf16) (harg9 : arg9.IsWhole) (arg10 : Memref sig .tc .vmem S4x128x128 .f32) (harg10 : arg10.IsWhole) (hc0 : cond0_0 i)
    (x0 : Vec F S1x2048x512 .f32) (x1 : Vec F S1x2048x512 .f32) (x2 : Vec F S1x2048x512 .f32) (x3 : Vec F S1x2048x512 .f32) (x4 : Vec F S1x512 .f32) (x5 : Vec F S1x512 .f32) (x6 : Vec F S1x128 .f32) (f9 : BufTy.Contents (Elt F) arg9.view.ty) (f10 : BufTy.Contents (Elt F) arg10.view.ty)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} f9) ∗ (arg10.view.loc (c : Thread nD τ) ↦[arg10.view.set]{fullShare} f10)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) f9 (pb_k0_t1 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) f9 (arg10.view.writes (Elt F) arg10.view.junk [⟨Rect.unit (s := S4x128x128) ![0, 0, 0] S4x128x128.size inb_S4x128x128_S4x128x128_0_0_0, k0_pay1 (F := F)⟩]) k0_t1_loop.trips).1) ∗ (arg10.view.loc (c : Thread nD τ) ↦[arg10.view.set]{fullShare} arg10.view.writes (Elt F) arg10.view.junk ((pb_k0_t1 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) f9 (arg10.view.writes (Elt F) arg10.view.junk [⟨Rect.unit (s := S4x128x128) ![0, 0, 0] S4x128x128.size inb_S4x128x128_S4x128x128_0_0_0, k0_pay1 (F := F)⟩]) k0_t1_loop.trips).2 ++ [⟨Rect.unit (s := S4x128x128) ![0, 0, 0] S4x128x128.size inb_S4x128x128_S4x128x128_0_0_0, k0_pay1 (F := F)⟩]))) -∗ K ⟨⟩))
      ⊢ wp frame (wpE (defs₀ (F := F)) Variants.none c none) E (cc0_hgrn2 i arg2 harg2 arg3 harg3 arg4 harg4 arg5 harg5 arg6 harg6 arg7 harg7 arg8 harg8 arg9 harg9 arg10 harg10) K := by
  simp only [cc0_hgrn2_eq_skeleton]; unfold cc0_hgrn2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, H7, HS0, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]; · iexact H7
  iexact HS0

set_option maxHeartbeats 1600000 in
/-- The body at a point that continues a sequence: the loop's trips store their pieces over what the
    output's buffer and the state's buffer held. -/
theorem run_B (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S1x2048x512 .bf16) (harg9 : arg9.IsWhole) (arg10 : Memref sig .tc .vmem S4x128x128 .f32) (harg10 : arg10.IsWhole) (hc0 : ¬cond0_0 i)
    (x0 : Vec F S1x2048x512 .f32) (x1 : Vec F S1x2048x512 .f32) (x2 : Vec F S1x2048x512 .f32) (x3 : Vec F S1x2048x512 .f32) (x4 : Vec F S1x512 .f32) (x5 : Vec F S1x512 .f32) (x6 : Vec F S1x128 .f32) (f9 : BufTy.Contents (Elt F) arg9.view.ty) (f10 : BufTy.Contents (Elt F) arg10.view.ty)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} f9) ∗ (arg10.view.loc (c : Thread nD τ) ↦[arg10.view.set]{fullShare} f10)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) f9 (pb_k0_t1 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) f9 f10 k0_t1_loop.trips).1) ∗ (arg10.view.loc (c : Thread nD τ) ↦[arg10.view.set]{fullShare} arg10.view.writes (Elt F) f10 (pb_k0_t1 (F := F) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) (harg7.unread x5) (harg8.unread x6) f9 f10 k0_t1_loop.trips).2)) -∗ K ⟨⟩))
      ⊢ wp frame (wpE (defs₀ (F := F)) Variants.none c none) E (cc0_hgrn2 i arg2 harg2 arg3 harg3 arg4 harg4 arg5 harg5 arg6 harg6 arg7 harg7 arg8 harg8 arg9 harg9 arg10 harg10) K := by
  simp only [cc0_hgrn2_eq_skeleton]; unfold cc0_hgrn2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, H7, HS0, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]; · iexact H7
  iexact HS0

end Cert.Kernel4Ideal.Gen

end
-- ==== Proof.RecFrame.lean ====
/- The recurrence's call, point by point: its arguments end unchanged, its result and its state hold what the blocks say. -/
module

public import proofs.«01_k».proof.Proof.RecBlock
public import proofs.«01_k».proof.Proof.RecRunIdeal
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The state a point starts from: cleared at a sequence's first half, what the first half left at its second. -/
def entryAt (c : Dev nD) (t : Fin cfg0.N) : Vec F S4x128x128 .f32 :=
  if t.val % 2 = 0 then k0_pay1 (F := F)
  else
    let u : Fin cfg0.N := ⟨t.val - 1, Nat.lt_of_le_of_lt (Nat.sub_le _ _) t.isLt⟩
    Block.blockSt (iblk m c 1 u) (iblk m c 2 u) (iblk m c 4 u) (iblk m c 5 u) (k0_pay1 (F := F)) 32

/-- What the result's buffer holds after the body at point `t`. -/
def outAt (c : Dev nD) (t : Fin cfg0.N) : Vec F S1x2048x512 .bf16 :=
  Block.blockOut (iblk m c 0 t) (iblk m c 1 t) (iblk m c 2 t) (iblk m c 3 t) (iblk m c 4 t) (iblk m c 5 t) (iblk m c 6 t) (entryAt m c t)

/-- What the state's buffer holds after the body at point `t`. -/
def stateAt (c : Dev nD) (t : Fin cfg0.N) : Vec F S4x128x128 .f32 :=
  Block.blockSt (iblk m c 1 t) (iblk m c 2 t) (iblk m c 4 t) (iblk m c 5 t) (entryAt m c t) 32

/-- The region invariant: before the first point the state's buffer at anything, afterwards at what the point before left. -/
def PhiS (c : Dev nD) : (n : ℕ) → n ≤ cfg0.N → sProp 𝕄
  | 0, _ => Pipeline.ΦA spec0 c
  | n + 1, hn => iprop(iprop(owns (c : Thread nD τ) scM0_0 fullShare (stateAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (stateAt m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (stateAt m c ⟨n - 1, by omega⟩)) ∗ (∃ r, prngReg c r)) := by
  cases n with
  | zero => exact absurd rfl hz
  | succ n => rfl

/-- At a sequence's second half the state a point starts from is what the point before left. -/
theorem entryAt_odd (c : Dev nD) (t : Fin cfg0.N) (h0 : ¬t.val % 2 = 0) (hp : t.val - 1 < cfg0.N) : entryAt m c t = stateAt m c ⟨t.val - 1, hp⟩ := by
  unfold stateAt
  have e : entryAt m c ⟨t.val - 1, hp⟩ = k0_pay1 (F := F) := by
    unfold entryAt; rw [if_pos (by show (t.val - 1) % 2 = 0; omega)]
  rw [e]; unfold entryAt; rw [if_neg h0]

theorem entryAt_even (c : Dev nD) (t : Fin cfg0.N) (h0 : t.val % 2 = 0) : entryAt m c t = k0_pay1 (F := F) := by
  unfold entryAt; rw [if_pos h0]

/-! ## The pipeline's proof data -/

/-- The proof data: each argument's buffer at its block, the result's at `outAt`, the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q w := Pipeline.shareOf spec0 w
  owed _ := 0

/-- The arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 2000000 in
/-- The body at any point: the run of its case, its pieces read as the block and the state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 16 := lt_of_lt_of_eq t.isLt (show cfg0.N = 16 from N_0)
  by_cases h0 : t.val % 2 = 0
  · by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      icases HS0 with ⟨%ds, HS0⟩
      unfold owns
      icases H7 with ⟨%f7, %h7, H7⟩
      icases HS0 with ⟨%f10, %h10, HS0⟩
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) f7 f10 Set.univ _)
      isplitl [H0]; · unfold owns; iexact H0
      isplitl [H1]; · unfold owns; iexact H1
      isplitl [H2]; · unfold owns; iexact H2
      isplitl [H3]; · unfold owns; iexact H3
      isplitl [H4]; · unfold owns; iexact H4
      isplitl [H5]; · unfold owns; iexact H5
      isplitl [H6]; · unfold owns; iexact H6
      isplitl [H7]; · iexact H7
      isplitl [HS0]; · iexact HS0
      iintro ⟨H0, H1, H2, H3, H4, H5, H6, H7, HS0⟩
      isplitl [HS0 Hg]
      · isplitl [HS0]
        · iexists _; isplitr
          swap; · iexact HS0
          ipureintro
          rw [View.writes_append]; unfold stateAt; rw [entryAt_even m c t h0]; exact Block.read10 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) f7 _ _ (Block.clear10 _ _)
        iexact Hg
      isplitl [Ho]; · iexact Ho
      isplitl [H0]; · unfold owns; iexact H0
      isplitl [H1]; · unfold owns; iexact H1
      isplitl [H2]; · unfold owns; iexact H2
      isplitl [H3]; · unfold owns; iexact H3
      isplitl [H4]; · unfold owns; iexact H4
      isplitl [H5]; · unfold owns; iexact H5
      isplitl [H6]; · unfold owns; iexact H6
      iexists _; isplitr
      swap; · iexact H7
      ipureintro
      unfold outAt; rw [entryAt_even m c t h0]; exact Block.read9 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) f7 _ _ (Block.clear10 _ _) f7
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      unfold owns
      icases H7 with ⟨%f7, %h7, H7⟩
      icases HS0 with ⟨%f10, %h10, HS0⟩
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) f7 f10 Set.univ _)
      isplitl [H0]; · unfold owns; iexact H0
      isplitl [H1]; · unfold owns; iexact H1
      isplitl [H2]; · unfold owns; iexact H2
      isplitl [H3]; · unfold owns; iexact H3
      isplitl [H4]; · unfold owns; iexact H4
      isplitl [H5]; · unfold owns; iexact H5
      isplitl [H6]; · unfold owns; iexact H6
      isplitl [H7]; · iexact H7
      isplitl [HS0]; · iexact HS0
      iintro ⟨H0, H1, H2, H3, H4, H5, H6, H7, HS0⟩
      isplitl [HS0 Hg]
      · isplitl [HS0]
        · iexists _; isplitr
          swap; · iexact HS0
          ipureintro
          rw [View.writes_append]; unfold stateAt; rw [entryAt_even m c t h0]; exact Block.read10 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) f7 _ _ (Block.clear10 _ _)
        iexact Hg
      isplitl [Ho]; · iexact Ho
      isplitl [H0]; · unfold owns; iexact H0
      isplitl [H1]; · unfold owns; iexact H1
      isplitl [H2]; · unfold owns; iexact H2
      isplitl [H3]; · unfold owns; iexact H3
      isplitl [H4]; · unfold owns; iexact H4
      isplitl [H5]; · unfold owns; iexact H5
      isplitl [H6]; · unfold owns; iexact H6
      iexists _; isplitr
      swap; · iexact H7
      ipureintro
      unfold outAt; rw [entryAt_even m c t h0]; exact Block.read9 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) f7 _ _ (Block.clear10 _ _) f7
  · have hz : t.val ≠ 0 := fun h => h0 (by omega)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    unfold owns
    icases H7 with ⟨%f7, %h7, H7⟩
    icases HS0 with ⟨%f10, %h10, HS0⟩
    iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) f7 f10 Set.univ _)
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    isplitl [H7]; · iexact H7
    isplitl [HS0]; · iexact HS0
    iintro ⟨H0, H1, H2, H3, H4, H5, H6, H7, HS0⟩
    isplitl [HS0 Hg]
    · isplitl [HS0]
      · iexists _; isplitr
        swap; · iexact HS0
        ipureintro
        unfold stateAt; rw [entryAt_odd m c t h0 (by omega)]; exact Block.read10 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) f7 _ _ h10
      iexact Hg
    isplitl [Ho]; · iexact Ho
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    iexists _; isplitr
    swap; · iexact H7
    ipureintro
    unfold outAt; rw [entryAt_odd m c t h0 (by omega)]; exact Block.read9 c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) (iblk m c 6 t) f7 _ _ h10 f7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- The launch: every array of the region ends at what the proof data say, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch, without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (((dats m 0 c).arrAt_in 3 rfl _).trans ((A_eq m c 3).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

/-- The arguments end unchanged and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel4Ideal.Gen

end
-- ==== Proof.RecReal.lean ====
module

public import proofs.«01_k».proof.Proof.RecStage
public import Idealize.ShloMosaic.Lib.Pointwise

@[expose] public section

set_option maxRecDepth 16384

noncomputable section

namespace Cert.Kernel4Ideal.Block

open Cert.Kernel4Ideal Cert.Kernel4Ideal.Gen
open Idealize.ShloMosaic Idealize.ShloMosaic.TcCoe Idealize.ShloMosaic.Tactic

/-- A finite sum of reals, taken among the extended reals. -/
theorem csum {ι : Type} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

/-- The logarithm of two. -/
abbrev L2 : ℝ := Real.log 2

theorem L2_pos : 0 < L2 := Real.log_pos (by norm_num)

/-- Two to the power of a number taken in units of log 2. -/
theorem exp2_nat (x : ℝ) : FloatOps.exp2 (F := Ideal) (φ := .f32) ((x * L2⁻¹ : ℝ) : EReal) = ((Real.exp x : ℝ) : EReal) := by
  change Ideal.exp2 _ = _
  rw [Ideal.exp2_coe]
  congr 1
  change (2 : ℝ) ^ (x * L2⁻¹) = _
  rw [Real.rpow_def_of_pos (by norm_num)]
  congr 1
  have := L2_pos.ne'
  field_simp

theorem exp2_real (y : ℝ) : FloatOps.exp2 (F := Ideal) (φ := .f32) ((y : ℝ) : EReal) = ((Real.exp (y * L2) : ℝ) : EReal) := by
  rw [← exp2_nat, mul_assoc, mul_inv_cancel₀ L2_pos.ne', mul_one]

/-- The logarithm of one plus a positive number. -/
theorem log_real (y : ℝ) (hy : 0 < y) : Ideal.log ((y : ℝ) : EReal) = ((Real.log y : ℝ) : EReal) := by
  rw [Ideal.log_coe, if_neg (not_le.2 hy)]

theorem abs_real (y : ℝ) : FloatOps.absf (F := Ideal) (φ := .f32) ((y : ℝ) : EReal) = ((|y| : ℝ) : EReal) := by
  rw [abs_eq_max_neg, EReal.coe_strictMono.monotone.map_max]; rfl

theorem max_real (x y : ℝ) : max (x : EReal) (y : EReal) = ((max x y : ℝ) : EReal) := (EReal.coe_strictMono.monotone.map_max).symm
theorem min_real (x y : ℝ) : min (x : EReal) (y : EReal) = ((min x y : ℝ) : EReal) := (EReal.coe_strictMono.monotone.map_min).symm

theorem named_log2e : Named.named (F := Ideal) κ (φ := .f32) "log2e" 1069066811#32 = ((L2⁻¹ : ℝ) : EReal) := rfl
theorem named_neg_log2e : Named.named (F := Ideal) κ (φ := .f32) "neg_log2e" 3216550459#32 = ((-L2⁻¹ : ℝ) : EReal) := by
  have h : Named.named (F := Ideal) κ (φ := .f32) "neg_log2e" 3216550459#32 = (((-1) * L2⁻¹ : ℝ) : EReal) := rfl
  rw [h, neg_one_mul]

theorem clip_hi : Ideal.ofBits FTy.f32 1122424010#32 = ((15127754 / 131072 : ℝ) : EReal) := by
  simp [Ideal.ofBits, Ideal.ieee, -EReal.coe_mul]; norm_num
theorem clip_lo : Ideal.ofBits FTy.f32 3269907658#32 = ((-(15127754 / 131072) : ℝ) : EReal) := by
  simp [Ideal.ofBits, Ideal.ieee, -EReal.coe_mul, -EReal.coe_neg]; norm_num

/-- Holding within bounds does nothing to what is within them. -/
theorem clip (x : ℝ) (hx : |x| ≤ 78) :
    min (Ideal.ofBits FTy.f32 1122424010#32) (max (Ideal.ofBits FTy.f32 3269907658#32) ((x * L2⁻¹ : ℝ) : EReal)) = ((x * L2⁻¹ : ℝ) : EReal) := by
  have h2 : (0.68 : ℝ) < L2 := by
    unfold L2
    rw [Real.lt_log_iff_exp_lt (by norm_num)]
    have := Real.exp_bound' (x := 0.68) (by norm_num) (by norm_num) (n := 5) (by norm_num)
    simp only [Finset.sum_range_succ, Finset.sum_range_zero, Nat.factorial] at this
    norm_num at this ⊢
    linarith
  have h3 : |x * L2⁻¹| ≤ 15127754 / 131072 := by
    rw [abs_mul, abs_of_pos (inv_pos.2 L2_pos), ← div_eq_mul_inv, div_le_iff₀ L2_pos]
    nlinarith
  rw [clip_hi, clip_lo, max_real, min_real, max_eq_right (abs_le.1 h3).1, min_eq_right (abs_le.1 h3).2]

/-- The logistic function. -/
abbrev sg (x : ℝ) : ℝ := (1 + Real.exp (-x))⁻¹

theorem sg_pos (x : ℝ) : 0 < sg x := by unfold sg; positivity
theorem sg_lt (x : ℝ) : sg x < 1 := by
  unfold sg; exact inv_lt_one_of_one_lt₀ (by linarith [Real.exp_pos (-x)])

/-- The logarithm of the logistic function, taken without overflow. -/
theorem log_sg (x : ℝ) : min x 0 - Real.log (1 + Real.exp (-|x|)) = Real.log (sg x) := by
  unfold sg
  rw [Real.log_inv]
  rcases le_total 0 x with h | h
  · rw [min_eq_right h, abs_of_nonneg h]; ring
  · rw [min_eq_left h, abs_of_nonpos h, neg_neg]
    have e : (1 + Real.exp (-x)) = Real.exp (-x) * (1 + Real.exp x) := by
      rw [mul_add, ← Real.exp_add]; simp; ring
    rw [e, Real.log_mul (Real.exp_pos _).ne' (by positivity), Real.log_exp]; ring

/-- The logarithm of a sum, taken without overflow. -/
theorem log_sum (a b : ℝ) : max a b + Real.log (1 + Real.exp (-|a - b|)) = Real.log (Real.exp a + Real.exp b) := by
  rcases le_total a b with h | h
  · rw [max_eq_right h, abs_of_nonpos (by linarith)]
    have e : Real.exp a + Real.exp b = Real.exp b * (1 + Real.exp (a - b)) := by
      rw [mul_add, ← Real.exp_add]; simp; ring
    rw [e, Real.log_mul (Real.exp_pos _).ne' (by positivity), Real.log_exp]; congr 3; ring_nf
  · rw [max_eq_left h, abs_of_nonneg (by linarith)]
    have e : Real.exp a + Real.exp b = Real.exp a * (1 + Real.exp (b - a)) := by
      rw [mul_add, ← Real.exp_add]; simp
    rw [e, Real.log_mul (Real.exp_pos _).ne' (by positivity), Real.log_exp]; congr 3; ring_nf

/-- The forget gate. -/
abbrev fg (lb x : ℝ) : ℝ := lb + (1 - lb) * sg x

/-- The lower bound's logarithm in units of log 2. -/
abbrev llbE (lb : ℝ) : EReal := Ideal.log (lb : EReal) * ((L2⁻¹ : ℝ) : EReal)

/-- The logarithm of one less the lower bound, in units of log 2. -/
abbrev l1mE (lb : ℝ) : EReal := ((Real.log (1 - lb) * L2⁻¹ : ℝ) : EReal)

/-- The exponent both gates are made of. -/
theorem wexp (lb x : ℝ) :
    (l1mE lb + (min ((x : EReal) * ((L2⁻¹ : ℝ) : EReal)) 0 -
      Ideal.log (1 + FloatOps.exp2 (F := Ideal) (φ := .f32) (0 - FloatOps.absf (F := Ideal) (φ := .f32) ((x : EReal) * ((L2⁻¹ : ℝ) : EReal)))) * ((L2⁻¹ : ℝ) : EReal)) : EReal)
    = (((Real.log (1 - lb) + Real.log (sg x)) * L2⁻¹ : ℝ) : EReal) := by
  have hL := L2_pos
  rw [← EReal.coe_mul, abs_real, ← EReal.coe_zero, ← EReal.coe_sub, abs_mul, abs_of_pos (inv_pos.2 hL), zero_sub, ← neg_mul,
    exp2_nat, ← EReal.coe_one, ← EReal.coe_add, log_real _ (by positivity), min_real, ← EReal.coe_mul, ← EReal.coe_sub, ← EReal.coe_add]
  congr 1
  rw [← log_sg]
  have : min (x * L2⁻¹) 0 = min x 0 * L2⁻¹ := by
    rcases le_total x 0 with h | h
    · rw [min_eq_left h, min_eq_left (mul_nonpos_of_nonpos_of_nonneg h (inv_pos.2 hL).le)]
    · rw [min_eq_right h, min_eq_right (by positivity), zero_mul]
  rw [this]; ring

theorem fg_pos {lb : ℝ} (h0 : 0 ≤ lb) (h1 : lb < 1) (x : ℝ) : 0 < fg lb x := by
  have := sg_pos x; have : 0 < (1 - lb) * sg x := mul_pos (by linarith) this; unfold fg; linarith

theorem fg_le {lb : ℝ} (h0 : 0 ≤ lb) (h1 : lb < 1) (x : ℝ) : fg lb x ≤ 1 := by
  have h := (sg_lt x).le
  have : (1 - lb) * sg x ≤ (1 - lb) * 1 := mul_le_mul_of_nonneg_left h (by linarith)
  unfold fg; linarith

/-- The forget gate is never far below one. -/
theorem log_fg_ge {lb : ℝ} (h0 : 0 ≤ lb) (h1 : lb < 1) (x : ℝ) (hx : -9 ≤ x) : -(19 / 2) ≤ Real.log (fg lb x) := by
  have h2 : sg x ≤ fg lb x := by
    have := (sg_lt x).le
    have : lb * sg x ≤ lb * 1 := mul_le_mul_of_nonneg_left this h0
    unfold fg; linarith [this]
  have h3 : Real.exp (-(19 / 2)) ≤ sg x := by
    unfold sg
    rw [Real.exp_neg]
    apply inv_anti₀ (by positivity)
    have a : Real.exp (-x) ≤ Real.exp 9 := Real.exp_le_exp.2 (by linarith)
    have b : Real.exp (19 / 2) = Real.exp 9 * Real.exp (1 / 2) := by rw [← Real.exp_add]; norm_num
    have d : (1 / 2 : ℝ) + 1 ≤ Real.exp (1 / 2) := Real.add_one_le_exp _
    have e : (9 : ℝ) + 1 ≤ Real.exp 9 := Real.add_one_le_exp _
    rw [b]
    nlinarith [Real.exp_pos 9]
  calc -(19 / 2) = Real.log (Real.exp (-(19 / 2))) := (Real.log_exp _).symm
    _ ≤ _ := Real.log_le_log (Real.exp_pos _) (h3.trans h2)

theorem log_fg_le {lb : ℝ} (h0 : 0 ≤ lb) (h1 : lb < 1) (x : ℝ) : Real.log (fg lb x) ≤ 0 :=
  Real.log_nonpos (fg_pos h0 h1 x).le (fg_le h0 h1 x)

/-- The sum of the lower bound and the rest of the gate, by their logarithms. -/
theorem gexp {lb : ℝ} (h0 : 0 ≤ lb) (h1 : lb < 1) (x w : ℝ) (hw : w = Real.log (1 - lb) + Real.log (sg x)) :
    (max (llbE lb) ((w * L2⁻¹ : ℝ) : EReal) +
      Ideal.log (1 + FloatOps.exp2 (F := Ideal) (φ := .f32) (0 - FloatOps.absf (F := Ideal) (φ := .f32) (llbE lb - ((w * L2⁻¹ : ℝ) : EReal)))) * ((L2⁻¹ : ℝ) : EReal) : EReal)
    = ((Real.log (fg lb x) * L2⁻¹ : ℝ) : EReal) := by
  have hL := L2_pos
  have ew : Real.exp w = (1 - lb) * sg x := by
    rw [hw, Real.exp_add, Real.exp_log (by linarith), Real.exp_log (sg_pos x)]
  rcases h0.eq_or_lt with h | h
  · subst h
    have e : llbE 0 = ⊥ := by
      unfold llbE
      rw [Ideal.log_coe, if_pos le_rfl, EReal.bot_mul_coe_of_pos (inv_pos.2 hL)]
    rw [e]
    have e2 : FloatOps.absf (F := Ideal) (φ := .f32) ((⊥ : EReal) - ((w * L2⁻¹ : ℝ) : EReal)) = ⊤ := by
      rw [EReal.bot_sub]; change max (⊥ : EReal) (-⊥) = ⊤; simp
    have e3 : FloatOps.exp2 (F := Ideal) (φ := .f32) (⊥ : EReal) = 0 := rfl
    rw [e2, EReal.sub_top, e3, add_zero, ← EReal.coe_one, log_real _ one_pos, Real.log_one, EReal.coe_zero, zero_mul, add_zero, max_eq_right bot_le]
    congr 2
    unfold fg
    rw [hw, zero_add, sub_zero, Real.log_one, zero_add, one_mul]
  · have e : llbE lb = ((Real.log lb * L2⁻¹ : ℝ) : EReal) := by
      unfold llbE; rw [log_real _ h, EReal.coe_mul]
    rw [e, ← EReal.coe_sub, ← sub_mul, abs_real, ← EReal.coe_zero, ← EReal.coe_sub, abs_mul, abs_of_pos (inv_pos.2 hL), zero_sub, ← neg_mul,
      exp2_nat, ← EReal.coe_one, ← EReal.coe_add, log_real _ (by positivity), max_real, ← EReal.coe_mul, ← EReal.coe_add]
    congr 1
    have : max (Real.log lb * L2⁻¹) (w * L2⁻¹) = max (Real.log lb) w * L2⁻¹ := (max_mul_of_nonneg _ _ (inv_pos.2 hL).le).symm
    rw [this, ← add_mul, log_sum, Real.exp_log h, ew]

/-- One less the forget gate. -/
theorem kexp {lb : ℝ} (h1 : lb < 1) (x w : ℝ) (hw : w = Real.log (1 - lb) + Real.log (sg x)) :
    FloatOps.exp2 (F := Ideal) (φ := .f32) (((w * L2⁻¹ : ℝ) : EReal) - (x : EReal) * ((L2⁻¹ : ℝ) : EReal)) = ((1 - fg lb x : ℝ) : EReal) := by
  rw [← EReal.coe_mul, ← EReal.coe_sub, ← sub_mul, exp2_nat]
  congr 1
  rw [Real.exp_sub, hw, Real.exp_add, Real.exp_log (by linarith), Real.exp_log (sg_pos x)]
  unfold fg sg
  rw [Real.exp_neg]
  have := Real.exp_pos x
  field_simp
  ring

theorem qexp (x : ℝ) : Ideal.div (x : EReal) (1 + FloatOps.exp2 (F := Ideal) (φ := .f32) ((x : EReal) * ((-L2⁻¹ : ℝ) : EReal))) = ((x * sg x : ℝ) : EReal) := by
  rw [← EReal.coe_mul, show x * -L2⁻¹ = -x * L2⁻¹ by ring, exp2_nat, ← EReal.coe_one, ← EReal.coe_add, Ideal.div_coe (by positivity), ← EReal.coe_mul]
  congr 2
  unfold sg
  rw [one_div]

/-- The two rows of logarithms the call is given, and what they are in units of log 2. -/
def llbIn (lb : ℝ) : EReal := Ideal.log (lb : EReal)
def l1mIn (lb : ℝ) : EReal := ((Real.log (1 - lb) : ℝ) : EReal)

theorem llb_scaled (lb : ℝ) : llbIn lb * ((L2⁻¹ : ℝ) : EReal) = llbE lb := rfl
theorem l1m_scaled (lb : ℝ) : l1mIn lb * ((L2⁻¹ : ℝ) : EReal) = l1mE lb := (EReal.coe_mul _ _).symm

end Cert.Kernel4Ideal.Block

end
-- ==== Proof.RecEntry.lean ====
/- The blocks the recurrence's call works on, as entries of the three arguments. -/
module

public import proofs.«01_k».proof.Proof.RecFrame
public import Idealize.ShloMosaic.Lib.StableHlo.ReadAt
public import Idealize.ShloMosaic.Lib.Pipeline.ValueKit.Point
public import proofs.«01_k».proof.Proof.RecReal

@[expose] public section

set_option maxRecDepth 16384

noncomputable section

namespace Cert.Kernel4Ideal.Block

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem index0 : ∀ t : Fin cfg0.N, win0_0.index t = ![t.val / 2, t.val % 2, 0] :=
  (by decide +kernel : ∀ t : Fin grid0.N, win0_0.index t = ![t.val / 2, t.val % 2, 0])
theorem index1 : ∀ t : Fin cfg0.N, win0_1.index t = ![t.val / 2, t.val % 2, 1] :=
  (by decide +kernel : ∀ t : Fin grid0.N, win0_1.index t = ![t.val / 2, t.val % 2, 1])
theorem index2 : ∀ t : Fin cfg0.N, win0_2.index t = ![t.val / 2, t.val % 2, 2] :=
  (by decide +kernel : ∀ t : Fin grid0.N, win0_2.index t = ![t.val / 2, t.val % 2, 2])
theorem index3 : ∀ t : Fin cfg0.N, win0_3.index t = ![t.val / 2, t.val % 2, 3] :=
  (by decide +kernel : ∀ t : Fin grid0.N, win0_3.index t = ![t.val / 2, t.val % 2, 3])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![t.val / 2, t.val % 2, 0] :=
  (by decide +kernel : ∀ t : Fin grid0.N, win0_7.index t = ![t.val / 2, t.val % 2, 0])

theorem pt_lt (t : Fin cfg0.N) : t.val < 16 := by
  have := t.isLt
  have : cfg0.N = 16 := N_0
  omega

/-- The sequence and the row of row `r` of point `t`'s blocks. -/
abbrev seqAt (t : Fin cfg0.N) : Fin 8 := ⟨t.val / 2, by have := pt_lt t; omega⟩
abbrev rowAt (t : Fin cfg0.N) (r : Fin 2048) : Fin 4096 := ⟨2048 * (t.val % 2) + r, by omega⟩

theorem blk0 (c : Dev nD) (t : Fin cfg0.N) (r : Fin 2048) (k : Fin 512) :
    iblk m c 0 t (ix3 0 r k) = m ((c : Thread nD τ).loc main_arg0) (ix3 (seqAt t) (rowAt t r) ⟨k, by omega⟩) := by
  blk_simp [iblk, index0 t]
  entry_read
  pointwise
  blk_ext [index0 t]

theorem blk1 (c : Dev nD) (t : Fin cfg0.N) (r : Fin 2048) (k : Fin 512) :
    iblk m c 1 t (ix3 0 r k) = m ((c : Thread nD τ).loc main_arg0) (ix3 (seqAt t) (rowAt t r) ⟨512 + k, by omega⟩) := by
  blk_simp [iblk, index1 t]
  entry_read
  pointwise
  blk_ext [index1 t]

theorem blk2 (c : Dev nD) (t : Fin cfg0.N) (r : Fin 2048) (k : Fin 512) :
    iblk m c 2 t (ix3 0 r k) = m ((c : Thread nD τ).loc main_arg0) (ix3 (seqAt t) (rowAt t r) ⟨1024 + k, by omega⟩) := by
  blk_simp [iblk, index2 t]
  entry_read
  pointwise
  blk_ext [index2 t]

theorem blk3 (c : Dev nD) (t : Fin cfg0.N) (r : Fin 2048) (k : Fin 512) :
    iblk m c 3 t (ix3 0 r k) = m ((c : Thread nD τ).loc main_arg0) (ix3 (seqAt t) (rowAt t r) ⟨1536 + k, by omega⟩) := by
  blk_simp [iblk, index3 t]
  entry_read
  pointwise
  blk_ext [index3 t]

theorem emb4 (t : Fin cfg0.N) (k : Fin 512) : (win0_4.blk t).view.emb (ix2 0 k) = (ix2 0 k : S1x512.Idx) := by
  blk_ext [index4 t]

theorem emb5 (t : Fin cfg0.N) (k : Fin 512) : (win0_5.blk t).view.emb (ix2 0 k) = (ix2 0 k : S1x512.Idx) := by
  blk_ext [index5 t]

theorem blk4 (c : Dev nD) (t : Fin cfg0.N) (k : Fin 512) :
    iblk m c 4 t (ix2 0 k) = Ideal.log (m ((c : Thread nD τ).loc main_arg1) (ix1 k)) := by
  blk_simp [iblk, index4 t]
  entry_read
  pointwise
  rw [emb4]
  rfl

theorem blk5 (c : Dev nD) (t : Fin cfg0.N) (k : Fin 512) :
    iblk m c 5 t (ix2 0 k) = Ideal.log1p (Neg.neg (α := EReal) (m ((c : Thread nD τ).loc main_arg1) (ix1 k))) := by
  blk_simp [iblk, index5 t]
  entry_read
  pointwise
  rw [emb5]
  rfl

theorem blk6 (c : Dev nD) (t : Fin cfg0.N) (k : Fin 128) :
    iblk m c 6 t (ix2 0 k) = m ((c : Thread nD τ).loc main_arg2) (ix1 k) := by
  blk_simp [iblk, index6 t]
  entry_read
  pointwise
  blk_ext [index6 t]

theorem emb7 (t : Fin cfg0.N) (r : Fin 2048) (k : Fin 512) :
    (win0_7.blk t).view.emb (ix3 0 r k) = (ix3 (seqAt t) (rowAt t r) k : S8x4096x512.Idx) := by
  blk_ext [index7 t]

theorem cover7 (i : S8x4096x512.Idx) : ∃ t : Fin cfg0.N, (cfg0.win 7).flush t = true ∧ i ∈ ((cfg0.win 7).blk t).view.set := by
  obtain ⟨b, s, k, rfl⟩ : ∃ (b : Fin 8) (s : Fin 4096) (k : Fin 512), i = ix3 b s k := ⟨i 0, i 1, i 2, eq_ix3 i⟩
  let t : Fin cfg0.N := ⟨2 * b + s / 2048, by have : cfg0.N = 16 := N_0; omega⟩
  refine ⟨t, flush0_7 _, ?_⟩
  have e := emb7 t ⟨s % 2048, by omega⟩ k
  have e1 : seqAt t = b := Fin.ext (by show (2 * b.val + s.val / 2048) / 2 = b.val; omega)
  have e2 : rowAt t ⟨s % 2048, by omega⟩ = s := Fin.ext (by show 2048 * ((2 * b.val + s.val / 2048) % 2) + s.val % 2048 = s.val; omega)
  rw [e1, e2] at e
  rw [← e]
  exact Finset.mem_map_of_mem _ (Finset.mem_univ _)

end Cert.Kernel4Ideal.Block

end
-- ==== Proof.RecChunk.lean ====
module

public import proofs.«01_k».proof.Proof.RecReal
public import Idealize.ShloMosaic.Lib.Pointwise

@[expose] public section

set_option maxRecDepth 16384

noncomputable section

namespace Cert.Kernel4Ideal.Block

open Cert.Kernel4Ideal Cert.Kernel4Ideal.Gen
open Idealize.ShloMosaic Idealize.ShloMosaic.TcCoe Idealize.ShloMosaic.Tactic

/-- The forget gate's logarithm, of a chunk. -/
theorem g_apply (llb l1m : Vec Ideal S1x256 .f32) (rf : Vec Ideal S1x64x256 .f32) (lb : Fin 256 → ℝ) (X : Fin 64 → Fin 256 → ℝ)
    (h0 : ∀ c, 0 ≤ lb c) (h1 : ∀ c, lb c < 1) (hl : ∀ c, llb (ix2 0 c) = llbIn (lb c)) (hm : ∀ c, l1m (ix2 0 c) = l1mIn (lb c))
    (hr : ∀ r c, rf (ix3 0 r c) = (X r c : EReal)) (r : Fin 64) (c : Fin 256) :
    gV llb l1m rf (ix2 r c) = ((Real.log (fg (lb c) (X r c)) * L2⁻¹ : ℝ) : EReal) := by
  pointwise [gV, k0_pay13, k0_pay12, k0_pay11, k0_pay5, k0_pay6, k0_pay9, k0_pay8, k0_pay10]
  rw [hl, hm, hr, named_log2e, llb_scaled, l1m_scaled, wexp]
  exact gexp (h0 c) (h1 c) _ _ rfl

theorem kin_apply (l1m : Vec Ideal S1x256 .f32) (rf : Vec Ideal S1x64x256 .f32) (lb : Fin 256 → ℝ) (X : Fin 64 → Fin 256 → ℝ)
    (h1 : ∀ c, lb c < 1) (hm : ∀ c, l1m (ix2 0 c) = l1mIn (lb c))
    (hr : ∀ r c, rf (ix3 0 r c) = (X r c : EReal)) (r : Fin 64) (c : Fin 256) :
    kinV l1m rf (ix2 r c) = ((1 - fg (lb c) (X r c) : ℝ) : EReal) := by
  pointwise [kinV, k0_pay14, k0_pay12, k0_pay11, k0_pay6, k0_pay9, k0_pay8, k0_pay10]
  rw [hm, hr, named_log2e, l1m_scaled, wexp]
  exact kexp (h1 c) _ _ rfl

theorem q_apply (rq : Vec Ideal S1x64x256 .f32) (X : Fin 64 → Fin 256 → ℝ)
    (hr : ∀ r c, rq (ix3 0 r c) = (X r c : EReal)) (r : Fin 64) (c : Fin 256) :
    qV rq (ix2 r c) = ((X r c * sg (X r c) : ℝ) : EReal) := by
  pointwise [qV, k0_pay15, k0_pay7]
  rw [hr, named_neg_log2e, qexp]

theorem v_apply (ri : Vec Ideal S1x64x256 .f32) (r : Fin 64) (c : Fin 256) : vV ri (ix2 r c) = ri (ix3 0 r c) := by
  pointwise [vV, k0_pay16]

theorem cmp_le : ∀ a b : Fin 64, IntOp.cmpi CmpIPredicate.sle (BitVec.ofNat 32 a) (BitVec.ofNat 32 b) = if a ≤ b then 1#1 else 0#1 := by
  decide +kernel

theorem le_bit (a b : Fin 64) : FloatOps.sitofp (F := Ideal) FTy.f32 (BitVec.setWidth 32 (IntOp.cmpi CmpIPredicate.sle (BitVec.ofNat 32 a) (BitVec.ofNat 32 b)))
    = ((if a ≤ b then 1 else 0 : ℝ) : EReal) := by
  rw [cmp_le]
  split
  · change (((((BitVec.setWidth 32 1#1).toInt : ℤ) : ℝ)) : EReal) = _
    rw [show (BitVec.setWidth 32 1#1).toInt = 1 by decide]; simp
  · change (((((BitVec.setWidth 32 0#1).toInt : ℤ) : ℝ)) : EReal) = _
    rw [show (BitVec.setWidth 32 0#1).toInt = 0 by decide]; simp

/-- The running sums of a chunk. -/
theorem bc_apply (g : FVec Ideal S64x256 .f32) (G : Fin 64 → Fin 256 → ℝ) (hg : ∀ r c, g (ix2 r c) = ((G r c * L2⁻¹ : ℝ) : EReal))
    (r : Fin 64) (c : Fin 256) : bcV g (ix2 r c) = (((∑ s : Fin 64, if s ≤ r then G s c else 0) * L2⁻¹ : ℝ) : EReal) := by
  pointwise [bcV, r1V, r2V, k0_pay4, k0_pay3]
  simp only [hg, ← EReal.coe_sub, sub_self, EReal.coe_zero]
  rw [Fin.sum_univ_add (a := 64) (b := 128)]
  rw [Finset.sum_eq_zero (s := Finset.univ (α := Fin 128)), add_zero]
  · have e : ∀ s : Fin 64, ((Fin.castAdd 128 s : Fin (64 + 128)) : ℕ) = s := fun s => rfl
    simp only [e, Fin.is_lt, dite_true]
    rw [Finset.sum_mul, ← csum]
    apply Finset.sum_congr rfl
    intro s _
    rw [le_bit, ← EReal.coe_mul]
    congr 1
    split <;> simp
  · intro s _
    have e : ((Fin.natAdd 64 s : Fin (64 + 128)) : ℕ) = 64 + s := rfl
    have e2 : ¬ (64 + (s : ℕ) < 64) := by omega
    simp only [e, e2, dite_false, dite_eq_ite, ite_self, mul_zero, sub_zero]

section Scores

variable {q kin bc : FVec Ideal S64x256 .f32} {v : FVec Ideal S64x256 .bf16} {st : FVec Ideal S128x128 .f32}
  {Q K B V : Fin 64 → Fin 256 → ℝ} {S : Fin 128 → Fin 128 → ℝ}

theorem u0_apply (hb : ∀ r c, bc (ix2 r c) = ((B r c * L2⁻¹ : ℝ) : EReal)) (hc : ∀ (r s : Fin 64) c, (r : ℕ) ≤ s + 8 → (s : ℕ) ≤ r + 8 → |B r c - B s c| ≤ 78) (r : Fin 16) (c : Fin 256) :
    u0V bc (ix2 r c) = (((B ⟨r, by omega⟩ c - B 8 c) * L2⁻¹ : ℝ) : EReal) := by
  pointwise [u0V]
  simp only [hb, ← EReal.coe_sub, ← sub_mul]
  convert clip _ ?_ using 4
  all_goals first | exact hc _ _ _ (by show (r : ℕ) ≤ 8 + 8; omega) (by show 8 ≤ (r : ℕ) + 8; omega)

theorem u1_apply (hb : ∀ r c, bc (ix2 r c) = ((B r c * L2⁻¹ : ℝ) : EReal)) (hc : ∀ (r s : Fin 64) c, (r : ℕ) ≤ s + 8 → (s : ℕ) ≤ r + 8 → |B r c - B s c| ≤ 78) (r : Fin 16) (c : Fin 256) :
    u1V bc (ix2 r c) = (((B ⟨16 + r, by omega⟩ c - B 24 c) * L2⁻¹ : ℝ) : EReal) := by
  pointwise [u1V]
  simp only [hb, ← EReal.coe_sub, ← sub_mul]
  convert clip _ ?_ using 4
  all_goals first | exact hc _ _ _ (by show 16 + (r : ℕ) ≤ 24 + 8; omega) (by show 24 ≤ 16 + (r : ℕ) + 8; omega)

theorem u2_apply (hb : ∀ r c, bc (ix2 r c) = ((B r c * L2⁻¹ : ℝ) : EReal)) (hc : ∀ (r s : Fin 64) c, (r : ℕ) ≤ s + 8 → (s : ℕ) ≤ r + 8 → |B r c - B s c| ≤ 78) (r : Fin 16) (c : Fin 256) :
    u2V bc (ix2 r c) = (((B ⟨32 + r, by omega⟩ c - B 40 c) * L2⁻¹ : ℝ) : EReal) := by
  pointwise [u2V]
  simp only [hb, ← EReal.coe_sub, ← sub_mul]
  convert clip _ ?_ using 4
  all_goals first | exact hc _ _ _ (by show 32 + (r : ℕ) ≤ 40 + 8; omega) (by show 40 ≤ 32 + (r : ℕ) + 8; omega)

theorem u3_apply (hb : ∀ r c, bc (ix2 r c) = ((B r c * L2⁻¹ : ℝ) : EReal)) (hc : ∀ (r s : Fin 64) c, (r : ℕ) ≤ s + 8 → (s : ℕ) ≤ r + 8 → |B r c - B s c| ≤ 78) (r : Fin 16) (c : Fin 256) :
    u3V bc (ix2 r c) = (((B ⟨48 + r, by omega⟩ c - B 56 c) * L2⁻¹ : ℝ) : EReal) := by
  pointwise [u3V]
  simp only [hb, ← EReal.coe_sub, ← sub_mul]
  convert clip _ ?_ using 4
  all_goals first | exact hc _ _ _ (by show 48 + (r : ℕ) ≤ 56 + 8; omega) (by show 56 ≤ 48 + (r : ℕ) + 8; omega)

theorem b0_0_apply (hq : ∀ r c, q (ix2 r c) = (Q r c : EReal)) (hk : ∀ r c, kin (ix2 r c) = (K r c : EReal)) (hb : ∀ r c, bc (ix2 r c) = ((B r c * L2⁻¹ : ℝ) : EReal)) (hc : ∀ (r s : Fin 64) c, (r : ℕ) ≤ s + 8 → (s : ℕ) ≤ r + 8 → |B r c - B s c| ≤ 78) (r : Fin 16) (j : Fin 64) :
    b0_0V q kin bc (ix2 r j) = ((if (j : ℕ) < 16 then
      ∑ x : Fin 128, Q ⟨r, by omega⟩ ⟨x, by omega⟩ * K j ⟨x, by omega⟩ * Real.exp (B ⟨r, by omega⟩ ⟨x, by omega⟩ - B j ⟨x, by omega⟩) else 0 : ℝ) : EReal) := by
  have ej : ∀ h, (⟨0 + ((j : ℕ) - 0), h⟩ : Fin 64) = j ∨ (j : ℕ) < 0 := fun h => by
    by_cases h' : (j : ℕ) < 0
    · exact Or.inr h'
    · exact Or.inl (Fin.ext (by show 0 + ((j : ℕ) - 0) = j; omega))
  pointwise [b0_0V, qd0V, kdp0V, kd0V]
  simp only [u0_apply hb hc]
  rcases lt_or_ge (j : ℕ) 0 with h1 | h1
  · omega
  · have n1 : ¬ (j : ℕ) < 0 := by omega
    rcases lt_or_ge (j : ℕ) 16 with h2 | h2
    · have c3 : (j : ℕ) - 0 < 16 := by omega
      have e : ∀ h, (⟨0 + ((j : ℕ) - 0), h⟩ : Fin 64) = j := fun h => (ej h).resolve_right n1
      simp only [n1, h2, c3, dite_true, dite_false, if_true, mul_zero, Finset.sum_const_zero, zero_add, add_zero, e]
      simp only [hq, hk, hb, ← EReal.coe_sub, ← sub_mul, ← EReal.coe_zero, zero_sub, ← neg_mul, exp2_nat, ← EReal.coe_mul, csum]
      congr 1
      apply Finset.sum_congr rfl
      intro x _
      rw [mul_mul_mul_comm, ← Real.exp_add]
      congr 2
      ring
    · have c3 : ¬ (j : ℕ) - 0 < 16 := by omega
      have c4 : ¬ (j : ℕ) < 16 := by omega
      simp only [n1, c3, c4, dite_false, if_false, mul_zero, Finset.sum_const_zero, add_zero, EReal.coe_zero]

theorem b1_0_apply (hq : ∀ r c, q (ix2 r c) = (Q r c : EReal)) (hk : ∀ r c, kin (ix2 r c) = (K r c : EReal)) (hb : ∀ r c, bc (ix2 r c) = ((B r c * L2⁻¹ : ℝ) : EReal)) (hc : ∀ (r s : Fin 64) c, (r : ℕ) ≤ s + 8 → (s : ℕ) ≤ r + 8 → |B r c - B s c| ≤ 78) (r : Fin 16) (j : Fin 64) :
    b1_0V q kin bc (ix2 r j) = ((if (j : ℕ) < 32 then
      ∑ x : Fin 128, Q ⟨16 + r, by omega⟩ ⟨x, by omega⟩ * K j ⟨x, by omega⟩ * Real.exp (B ⟨16 + r, by omega⟩ ⟨x, by omega⟩ - B j ⟨x, by omega⟩) else 0 : ℝ) : EReal) := by
  have ej : ∀ h, (⟨16 + ((j : ℕ) - 16), h⟩ : Fin 64) = j ∨ (j : ℕ) < 16 := fun h => by
    by_cases h' : (j : ℕ) < 16
    · exact Or.inr h'
    · exact Or.inl (Fin.ext (by show 16 + ((j : ℕ) - 16) = j; omega))
  pointwise [b1_0V, qo1V, ko1V, qd1V, kdp1V, kd1V]
  simp only [u1_apply hb hc]
  rcases lt_or_ge (j : ℕ) 16 with h1 | h1
  · have c2 : (j : ℕ) < 32 := by omega
    simp only [h1, c2, dite_true, if_true, mul_zero, Finset.sum_const_zero, add_zero]
    simp only [hq, hk, hb, ← EReal.coe_sub, ← sub_mul, ← EReal.coe_zero, zero_sub, ← neg_mul, exp2_nat, ← EReal.coe_mul, csum]
    congr 1
    apply Finset.sum_congr rfl
    intro x _
    rw [mul_mul_mul_comm, ← Real.exp_add]
    congr 2
    ring
  · have n1 : ¬ (j : ℕ) < 16 := by omega
    rcases lt_or_ge (j : ℕ) 32 with h2 | h2
    · have c3 : (j : ℕ) - 16 < 16 := by omega
      have e : ∀ h, (⟨16 + ((j : ℕ) - 16), h⟩ : Fin 64) = j := fun h => (ej h).resolve_right n1
      simp only [n1, h2, c3, dite_true, dite_false, if_true, mul_zero, Finset.sum_const_zero, zero_add, add_zero, e]
      simp only [hq, hk, hb, ← EReal.coe_sub, ← sub_mul, ← EReal.coe_zero, zero_sub, ← neg_mul, exp2_nat, ← EReal.coe_mul, csum]
      congr 1
      apply Finset.sum_congr rfl
      intro x _
      rw [mul_mul_mul_comm, ← Real.exp_add]
      congr 2
      ring
    · have c3 : ¬ (j : ℕ) - 16 < 16 := by omega
      have c4 : ¬ (j : ℕ) < 32 := by omega
      simp only [n1, c3, c4, dite_false, if_false, mul_zero, Finset.sum_const_zero, add_zero, EReal.coe_zero]

theorem b2_0_apply (hq : ∀ r c, q (ix2 r c) = (Q r c : EReal)) (hk : ∀ r c, kin (ix2 r c) = (K r c : EReal)) (hb : ∀ r c, bc (ix2 r c) = ((B r c * L2⁻¹ : ℝ) : EReal)) (hc : ∀ (r s : Fin 64) c, (r : ℕ) ≤ s + 8 → (s : ℕ) ≤ r + 8 → |B r c - B s c| ≤ 78) (r : Fin 16) (j : Fin 64) :
    b2_0V q kin bc (ix2 r j) = ((if (j : ℕ) < 48 then
      ∑ x : Fin 128, Q ⟨32 + r, by omega⟩ ⟨x, by omega⟩ * K j ⟨x, by omega⟩ * Real.exp (B ⟨32 + r, by omega⟩ ⟨x, by omega⟩ - B j ⟨x, by omega⟩) else 0 : ℝ) : EReal) := by
  have ej : ∀ h, (⟨32 + ((j : ℕ) - 32), h⟩ : Fin 64) = j ∨ (j : ℕ) < 32 := fun h => by
    by_cases h' : (j : ℕ) < 32
    · exact Or.inr h'
    · exact Or.inl (Fin.ext (by show 32 + ((j : ℕ) - 32) = j; omega))
  pointwise [b2_0V, qo2V, ko2V, qd2V, kdp2V, kd2V]
  simp only [u2_apply hb hc]
  rcases lt_or_ge (j : ℕ) 32 with h1 | h1
  · have c2 : (j : ℕ) < 48 := by omega
    simp only [h1, c2, dite_true, if_true, mul_zero, Finset.sum_const_zero, add_zero]
    simp only [hq, hk, hb, ← EReal.coe_sub, ← sub_mul, ← EReal.coe_zero, zero_sub, ← neg_mul, exp2_nat, ← EReal.coe_mul, csum]
    congr 1
    apply Finset.sum_congr rfl
    intro x _
    rw [mul_mul_mul_comm, ← Real.exp_add]
    congr 2
    ring
  · have n1 : ¬ (j : ℕ) < 32 := by omega
    rcases lt_or_ge (j : ℕ) 48 with h2 | h2
    · have c3 : (j : ℕ) - 32 < 16 := by omega
      have e : ∀ h, (⟨32 + ((j : ℕ) - 32), h⟩ : Fin 64) = j := fun h => (ej h).resolve_right n1
      simp only [n1, h2, c3, dite_true, dite_false, if_true, mul_zero, Finset.sum_const_zero, zero_add, add_zero, e]
      simp only [hq, hk, hb, ← EReal.coe_sub, ← sub_mul, ← EReal.coe_zero, zero_sub, ← neg_mul, exp2_nat, ← EReal.coe_mul, csum]
      congr 1
      apply Finset.sum_congr rfl
      intro x _
      rw [mul_mul_mul_comm, ← Real.exp_add]
      congr 2
      ring
    · have c3 : ¬ (j : ℕ) - 32 < 16 := by omega
      have c4 : ¬ (j : ℕ) < 48 := by omega
      simp only [n1, c3, c4, dite_false, if_false, mul_zero, Finset.sum_const_zero, add_zero, EReal.coe_zero]

theorem b3_0_apply (hq : ∀ r c, q (ix2 r c) = (Q r c : EReal)) (hk : ∀ r c, kin (ix2 r c) = (K r c : EReal)) (hb : ∀ r c, bc (ix2 r c) = ((B r c * L2⁻¹ : ℝ) : EReal)) (hc : ∀ (r s : Fin 64) c, (r : ℕ) ≤ s + 8 → (s : ℕ) ≤ r + 8 → |B r c - B s c| ≤ 78) (r : Fin 16) (j : Fin 64) :
    b3_0V q kin bc (ix2 r j) = ((if (j : ℕ) < 64 then
      ∑ x : Fin 128, Q ⟨48 + r, by omega⟩ ⟨x, by omega⟩ * K j ⟨x, by omega⟩ * Real.exp (B ⟨48 + r, by omega⟩ ⟨x, by omega⟩ - B j ⟨x, by omega⟩) else 0 : ℝ) : EReal) := by
  have ej : ∀ h, (⟨48 + ((j : ℕ) - 48), h⟩ : Fin 64) = j ∨ (j : ℕ) < 48 := fun h => by
    by_cases h' : (j : ℕ) < 48
    · exact Or.inr h'
    · exact Or.inl (Fin.ext (by show 48 + ((j : ℕ) - 48) = j; omega))
  pointwise [b3_0V, qo3V, ko3V, qd3V, kdp3V, kd3V]
  simp only [u3_apply hb hc]
  rcases lt_or_ge (j : ℕ) 48 with h1 | h1
  · have c2 : (j : ℕ) < 64 := by omega
    simp only [h1, c2, dite_true, if_true, mul_zero, Finset.sum_const_zero, add_zero]
    simp only [hq, hk, hb, ← EReal.coe_sub, ← sub_mul, ← EReal.coe_zero, zero_sub, ← neg_mul, exp2_nat, ← EReal.coe_mul, csum]
    congr 1
    apply Finset.sum_congr rfl
    intro x _
    rw [mul_mul_mul_comm, ← Real.exp_add]
    congr 2
    ring
  · have n1 : ¬ (j : ℕ) < 48 := by omega
    rcases lt_or_ge (j : ℕ) 64 with h2 | h2
    · have c3 : (j : ℕ) - 48 < 16 := by omega
      have e : ∀ h, (⟨48 + ((j : ℕ) - 48), h⟩ : Fin 64) = j := fun h => (ej h).resolve_right n1
      simp only [n1, h2, c3, dite_true, dite_false, if_true, mul_zero, Finset.sum_const_zero, zero_add, add_zero, e]
      simp only [hq, hk, hb, ← EReal.coe_sub, ← sub_mul, ← EReal.coe_zero, zero_sub, ← neg_mul, exp2_nat, ← EReal.coe_mul, csum]
      congr 1
      apply Finset.sum_congr rfl
      intro x _
      rw [mul_mul_mul_comm, ← Real.exp_add]
      congr 2
      ring
    · exfalso; have := j.isLt; omega

/-- The causal scores of head 0 of the pair. -/
theorem a0_apply (hq : ∀ r c, q (ix2 r c) = (Q r c : EReal)) (hk : ∀ r c, kin (ix2 r c) = (K r c : EReal)) (hb : ∀ r c, bc (ix2 r c) = ((B r c * L2⁻¹ : ℝ) : EReal)) (hc : ∀ (r s : Fin 64) c, (r : ℕ) ≤ s + 8 → (s : ℕ) ≤ r + 8 → |B r c - B s c| ≤ 78) (r j : Fin 64) :
    a0V q kin bc (ix2 r j) = ((if j ≤ r then
      ∑ x : Fin 128, Q r ⟨x, by omega⟩ * K j ⟨x, by omega⟩ * Real.exp (B r ⟨x, by omega⟩ - B j ⟨x, by omega⟩) else 0 : ℝ) : EReal) := by
  pointwise [a0V, k0_pay3]
  rw [cmp_le]
  by_cases hj : j ≤ r
  · rw [if_pos hj, if_pos hj]
    have hj' : (j : ℕ) ≤ r := hj
    change (if h : (r : ℕ) < 16 then _ else _ : EReal) = _
    split
    · rw [b0_0_apply hq hk hb hc, if_pos (by omega)]
    · split
      · rw [b1_0_apply hq hk hb hc, if_pos (by omega)]
        have e : ∀ h, (⟨16 + ((r : ℕ) - 16), h⟩ : Fin 64) = r := fun h => Fin.ext (by show 16 + ((r : ℕ) - 16) = r; omega)
        simp only [e]
      · split
        · rw [b2_0_apply hq hk hb hc, if_pos (by omega)]
          have e : ∀ h, (⟨32 + ((r : ℕ) - 16 - 16), h⟩ : Fin 64) = r := fun h => Fin.ext (by show 32 + ((r : ℕ) - 16 - 16) = r; omega)
          simp only [e]
        · rw [b3_0_apply hq hk hb hc, if_pos (by omega)]
          have e : ∀ h, (⟨48 + ((r : ℕ) - 16 - 16 - 16), h⟩ : Fin 64) = r := fun h => Fin.ext (by show 48 + ((r : ℕ) - 16 - 16 - 16) = r; omega)
          simp only [e]
  · rw [if_neg hj, if_neg hj]
    rfl

/-- What head 0 of the pair reads from the state and from the chunk. -/
theorem o0_apply (hq : ∀ r c, q (ix2 r c) = (Q r c : EReal)) (hk : ∀ r c, kin (ix2 r c) = (K r c : EReal)) (hb : ∀ r c, bc (ix2 r c) = ((B r c * L2⁻¹ : ℝ) : EReal)) (hc : ∀ (r s : Fin 64) c, (r : ℕ) ≤ s + 8 → (s : ℕ) ≤ r + 8 → |B r c - B s c| ≤ 78) (hv : ∀ r c, v (ix2 r c) = (V r c : EReal)) (hs : ∀ a b, st (ix2 a b) = (S a b : EReal)) (r : Fin 64) (e : Fin 128) :
    o0V q kin bc v st (ix2 r e) = ((∑ x : Fin 128, Q r ⟨x, by omega⟩ * Real.exp (B r ⟨x, by omega⟩) * S e x
      + ∑ j : Fin 64, (if j ≤ r then ∑ x : Fin 128, Q r ⟨x, by omega⟩ * K j ⟨x, by omega⟩ * Real.exp (B r ⟨x, by omega⟩ - B j ⟨x, by omega⟩) else 0) * V j ⟨e, by omega⟩ : ℝ) : EReal) := by
  pointwise [o0V, qeV]
  simp only [a0_apply hq hk hb hc, hv, hs, hq, hb, exp2_nat, ← EReal.coe_mul, csum, ← EReal.coe_add]

/-- The state of head 0 of the pair after the chunk. -/
theorem st0_apply (hk : ∀ r c, kin (ix2 r c) = (K r c : EReal)) (hb : ∀ r c, bc (ix2 r c) = ((B r c * L2⁻¹ : ℝ) : EReal)) (hv : ∀ r c, v (ix2 r c) = (V r c : EReal)) (hs : ∀ a b, st (ix2 a b) = (S a b : EReal)) (e d : Fin 128) :
    st0V kin bc v st (ix2 e d) = ((S e d * Real.exp (B 63 ⟨d, by omega⟩)
      + ∑ j : Fin 64, V j ⟨e, by omega⟩ * (K j ⟨d, by omega⟩ * Real.exp (B 63 ⟨d, by omega⟩ - B j ⟨d, by omega⟩)) : ℝ) : EReal) := by
  pointwise [st0V, keV, blV]
  simp only [hv, hs, hk, hb, ← EReal.coe_sub, ← sub_mul, exp2_nat, ← EReal.coe_mul, csum, ← EReal.coe_add]

theorem b0_1_apply (hq : ∀ r c, q (ix2 r c) = (Q r c : EReal)) (hk : ∀ r c, kin (ix2 r c) = (K r c : EReal)) (hb : ∀ r c, bc (ix2 r c) = ((B r c * L2⁻¹ : ℝ) : EReal)) (hc : ∀ (r s : Fin 64) c, (r : ℕ) ≤ s + 8 → (s : ℕ) ≤ r + 8 → |B r c - B s c| ≤ 78) (r : Fin 16) (j : Fin 64) :
    b0_1V q kin bc (ix2 r j) = ((if (j : ℕ) < 16 then
      ∑ x : Fin 128, Q ⟨r, by omega⟩ ⟨128 + x, by omega⟩ * K j ⟨128 + x, by omega⟩ * Real.exp (B ⟨r, by omega⟩ ⟨128 + x, by omega⟩ - B j ⟨128 + x, by omega⟩) else 0 : ℝ) : EReal) := by
  have ej : ∀ h, (⟨0 + ((j : ℕ) - 0), h⟩ : Fin 64) = j ∨ (j : ℕ) < 0 := fun h => by
    by_cases h' : (j : ℕ) < 0
    · exact Or.inr h'
    · exact Or.inl (Fin.ext (by show 0 + ((j : ℕ) - 0) = j; omega))
  pointwise [b0_1V, qd0V, kdp0V, kd0V]
  simp only [u0_apply hb hc]
  rcases lt_or_ge (j : ℕ) 0 with h1 | h1
  · omega
  · have n1 : ¬ (j : ℕ) < 0 := by omega
    rcases lt_or_ge (j : ℕ) 16 with h2 | h2
    · have c3 : (j : ℕ) - 0 < 16 := by omega
      have e : ∀ h, (⟨0 + ((j : ℕ) - 0), h⟩ : Fin 64) = j := fun h => (ej h).resolve_right n1
      simp only [n1, h2, c3, dite_true, dite_false, if_true, mul_zero, Finset.sum_const_zero, zero_add, add_zero, e]
      simp only [hq, hk, hb, ← EReal.coe_sub, ← sub_mul, ← EReal.coe_zero, zero_sub, ← neg_mul, exp2_nat, ← EReal.coe_mul, csum]
      congr 1
      apply Finset.sum_congr rfl
      intro x _
      rw [mul_mul_mul_comm, ← Real.exp_add]
      congr 2
      ring
    · have c3 : ¬ (j : ℕ) - 0 < 16 := by omega
      have c4 : ¬ (j : ℕ) < 16 := by omega
      simp only [n1, c3, c4, dite_false, if_false, mul_zero, Finset.sum_const_zero, add_zero, EReal.coe_zero]

theorem b1_1_apply (hq : ∀ r c, q (ix2 r c) = (Q r c : EReal)) (hk : ∀ r c, kin (ix2 r c) = (K r c : EReal)) (hb : ∀ r c, bc (ix2 r c) = ((B r c * L2⁻¹ : ℝ) : EReal)) (hc : ∀ (r s : Fin 64) c, (r : ℕ) ≤ s + 8 → (s : ℕ) ≤ r + 8 → |B r c - B s c| ≤ 78) (r : Fin 16) (j : Fin 64) :
    b1_1V q kin bc (ix2 r j) = ((if (j : ℕ) < 32 then
      ∑ x : Fin 128, Q ⟨16 + r, by omega⟩ ⟨128 + x, by omega⟩ * K j ⟨128 + x, by omega⟩ * Real.exp (B ⟨16 + r, by omega⟩ ⟨128 + x, by omega⟩ - B j ⟨128 + x, by omega⟩) else 0 : ℝ) : EReal) := by
  have ej : ∀ h, (⟨16 + ((j : ℕ) - 16), h⟩ : Fin 64) = j ∨ (j : ℕ) < 16 := fun h => by
    by_cases h' : (j : ℕ) < 16
    · exact Or.inr h'
    · exact Or.inl (Fin.ext (by show 16 + ((j : ℕ) - 16) = j; omega))
  pointwise [b1_1V, qo1V, ko1V, qd1V, kdp1V, kd1V]
  simp only [u1_apply hb hc]
  rcases lt_or_ge (j : ℕ) 16 with h1 | h1
  · have c2 : (j : ℕ) < 32 := by omega
    simp only [h1, c2, dite_true, if_true, mul_zero, Finset.sum_const_zero, add_zero]
    simp only [hq, hk, hb, ← EReal.coe_sub, ← sub_mul, ← EReal.coe_zero, zero_sub, ← neg_mul, exp2_nat, ← EReal.coe_mul, csum]
    congr 1
    apply Finset.sum_congr rfl
    intro x _
    rw [mul_mul_mul_comm, ← Real.exp_add]
    congr 2
    ring
  · have n1 : ¬ (j : ℕ) < 16 := by omega
    rcases lt_or_ge (j : ℕ) 32 with h2 | h2
    · have c3 : (j : ℕ) - 16 < 16 := by omega
      have e : ∀ h, (⟨16 + ((j : ℕ) - 16), h⟩ : Fin 64) = j := fun h => (ej h).resolve_right n1
      simp only [n1, h2, c3, dite_true, dite_false, if_true, mul_zero, Finset.sum_const_zero, zero_add, add_zero, e]
      simp only [hq, hk, hb, ← EReal.coe_sub, ← sub_mul, ← EReal.coe_zero, zero_sub, ← neg_mul, exp2_nat, ← EReal.coe_mul, csum]
      congr 1
      apply Finset.sum_congr rfl
      intro x _
      rw [mul_mul_mul_comm, ← Real.exp_add]
      congr 2
      ring
    · have c3 : ¬ (j : ℕ) - 16 < 16 := by omega
      have c4 : ¬ (j : ℕ) < 32 := by omega
      simp only [n1, c3, c4, dite_false, if_false, mul_zero, Finset.sum_const_zero, add_zero, EReal.coe_zero]

theorem b2_1_apply (hq : ∀ r c, q (ix2 r c) = (Q r c : EReal)) (hk : ∀ r c, kin (ix2 r c) = (K r c : EReal)) (hb : ∀ r c, bc (ix2 r c) = ((B r c * L2⁻¹ : ℝ) : EReal)) (hc : ∀ (r s : Fin 64) c, (r : ℕ) ≤ s + 8 → (s : ℕ) ≤ r + 8 → |B r c - B s c| ≤ 78) (r : Fin 16) (j : Fin 64) :
    b2_1V q kin bc (ix2 r j) = ((if (j : ℕ) < 48 then
      ∑ x : Fin 128, Q ⟨32 + r, by omega⟩ ⟨128 + x, by omega⟩ * K j ⟨128 + x, by omega⟩ * Real.exp (B ⟨32 + r, by omega⟩ ⟨128 + x, by omega⟩ - B j ⟨128 + x, by omega⟩) else 0 : ℝ) : EReal) := by
  have ej : ∀ h, (⟨32 + ((j : ℕ) - 32), h⟩ : Fin 64) = j ∨ (j : ℕ) < 32 := fun h => by
    by_cases h' : (j : ℕ) < 32
    · exact Or.inr h'
    · exact Or.inl (Fin.ext (by show 32 + ((j : ℕ) - 32) = j; omega))
  pointwise [b2_1V, qo2V, ko2V, qd2V, kdp2V, kd2V]
  simp only [u2_apply hb hc]
  rcases lt_or_ge (j : ℕ) 32 with h1 | h1
  · have c2 : (j : ℕ) < 48 := by omega
    simp only [h1, c2, dite_true, if_true, mul_zero, Finset.sum_const_zero, add_zero]
    simp only [hq, hk, hb, ← EReal.coe_sub, ← sub_mul, ← EReal.coe_zero, zero_sub, ← neg_mul, exp2_nat, ← EReal.coe_mul, csum]
    congr 1
    apply Finset.sum_congr rfl
    intro x _
    rw [mul_mul_mul_comm, ← Real.exp_add]
    congr 2
    ring
  · have n1 : ¬ (j : ℕ) < 32 := by omega
    rcases lt_or_ge (j : ℕ) 48 with h2 | h2
    · have c3 : (j : ℕ) - 32 < 16 := by omega
      have e : ∀ h, (⟨32 + ((j : ℕ) - 32), h⟩ : Fin 64) = j := fun h => (ej h).resolve_right n1
      simp only [n1, h2, c3, dite_true, dite_false, if_true, mul_zero, Finset.sum_const_zero, zero_add, add_zero, e]
      simp only [hq, hk, hb, ← EReal.coe_sub, ← sub_mul, ← EReal.coe_zero, zero_sub, ← neg_mul, exp2_nat, ← EReal.coe_mul, csum]
      congr 1
      apply Finset.sum_congr rfl
      intro x _
      rw [mul_mul_mul_comm, ← Real.exp_add]
      congr 2
      ring
    · have c3 : ¬ (j : ℕ) - 32 < 16 := by omega
      have c4 : ¬ (j : ℕ) < 48 := by omega
      simp only [n1, c3, c4, dite_false, if_false, mul_zero, Finset.sum_const_zero, add_zero, EReal.coe_zero]

theorem b3_1_apply (hq : ∀ r c, q (ix2 r c) = (Q r c : EReal)) (hk : ∀ r c, kin (ix2 r c) = (K r c : EReal)) (hb : ∀ r c, bc (ix2 r c) = ((B r c * L2⁻¹ : ℝ) : EReal)) (hc : ∀ (r s : Fin 64) c, (r : ℕ) ≤ s + 8 → (s : ℕ) ≤ r + 8 → |B r c - B s c| ≤ 78) (r : Fin 16) (j : Fin 64) :
    b3_1V q kin bc (ix2 r j) = ((if (j : ℕ) < 64 then
      ∑ x : Fin 128, Q ⟨48 + r, by omega⟩ ⟨128 + x, by omega⟩ * K j ⟨128 + x, by omega⟩ * Real.exp (B ⟨48 + r, by omega⟩ ⟨128 + x, by omega⟩ - B j ⟨128 + x, by omega⟩) else 0 : ℝ) : EReal) := by
  have ej : ∀ h, (⟨48 + ((j : ℕ) - 48), h⟩ : Fin 64) = j ∨ (j : ℕ) < 48 := fun h => by
    by_cases h' : (j : ℕ) < 48
    · exact Or.inr h'
    · exact Or.inl (Fin.ext (by show 48 + ((j : ℕ) - 48) = j; omega))
  pointwise [b3_1V, qo3V, ko3V, qd3V, kdp3V, kd3V]
  simp only [u3_apply hb hc]
  rcases lt_or_ge (j : ℕ) 48 with h1 | h1
  · have c2 : (j : ℕ) < 64 := by omega
    simp only [h1, c2, dite_true, if_true, mul_zero, Finset.sum_const_zero, add_zero]
    simp only [hq, hk, hb, ← EReal.coe_sub, ← sub_mul, ← EReal.coe_zero, zero_sub, ← neg_mul, exp2_nat, ← EReal.coe_mul, csum]
    congr 1
    apply Finset.sum_congr rfl
    intro x _
    rw [mul_mul_mul_comm, ← Real.exp_add]
    congr 2
    ring
  · have n1 : ¬ (j : ℕ) < 48 := by omega
    rcases lt_or_ge (j : ℕ) 64 with h2 | h2
    · have c3 : (j : ℕ) - 48 < 16 := by omega
      have e : ∀ h, (⟨48 + ((j : ℕ) - 48), h⟩ : Fin 64) = j := fun h => (ej h).resolve_right n1
      simp only [n1, h2, c3, dite_true, dite_false, if_true, mul_zero, Finset.sum_const_zero, zero_add, add_zero, e]
      simp only [hq, hk, hb, ← EReal.coe_sub, ← sub_mul, ← EReal.coe_zero, zero_sub, ← neg_mul, exp2_nat, ← EReal.coe_mul, csum]
      congr 1
      apply Finset.sum_congr rfl
      intro x _
      rw [mul_mul_mul_comm, ← Real.exp_add]
      congr 2
      ring
    · exfalso; have := j.isLt; omega

/-- The causal scores of head 1 of the pair. -/
theorem a1_apply (hq : ∀ r c, q (ix2 r c) = (Q r c : EReal)) (hk : ∀ r c, kin (ix2 r c) = (K r c : EReal)) (hb : ∀ r c, bc (ix2 r c) = ((B r c * L2⁻¹ : ℝ) : EReal)) (hc : ∀ (r s : Fin 64) c, (r : ℕ) ≤ s + 8 → (s : ℕ) ≤ r + 8 → |B r c - B s c| ≤ 78) (r j : Fin 64) :
    a1V q kin bc (ix2 r j) = ((if j ≤ r then
      ∑ x : Fin 128, Q r ⟨128 + x, by omega⟩ * K j ⟨128 + x, by omega⟩ * Real.exp (B r ⟨128 + x, by omega⟩ - B j ⟨128 + x, by omega⟩) else 0 : ℝ) : EReal) := by
  pointwise [a1V, k0_pay3]
  rw [cmp_le]
  by_cases hj : j ≤ r
  · rw [if_pos hj, if_pos hj]
    have hj' : (j : ℕ) ≤ r := hj
    change (if h : (r : ℕ) < 16 then _ else _ : EReal) = _
    split
    · rw [b0_1_apply hq hk hb hc, if_pos (by omega)]
    · split
      · rw [b1_1_apply hq hk hb hc, if_pos (by omega)]
        have e : ∀ h, (⟨16 + ((r : ℕ) - 16), h⟩ : Fin 64) = r := fun h => Fin.ext (by show 16 + ((r : ℕ) - 16) = r; omega)
        simp only [e]
      · split
        · rw [b2_1_apply hq hk hb hc, if_pos (by omega)]
          have e : ∀ h, (⟨32 + ((r : ℕ) - 16 - 16), h⟩ : Fin 64) = r := fun h => Fin.ext (by show 32 + ((r : ℕ) - 16 - 16) = r; omega)
          simp only [e]
        · rw [b3_1_apply hq hk hb hc, if_pos (by omega)]
          have e : ∀ h, (⟨48 + ((r : ℕ) - 16 - 16 - 16), h⟩ : Fin 64) = r := fun h => Fin.ext (by show 48 + ((r : ℕ) - 16 - 16 - 16) = r; omega)
          simp only [e]
  · rw [if_neg hj, if_neg hj]
    rfl

/-- What head 1 of the pair reads from the state and from the chunk. -/
theorem o1_apply (hq : ∀ r c, q (ix2 r c) = (Q r c : EReal)) (hk : ∀ r c, kin (ix2 r c) = (K r c : EReal)) (hb : ∀ r c, bc (ix2 r c) = ((B r c * L2⁻¹ : ℝ) : EReal)) (hc : ∀ (r s : Fin 64) c, (r : ℕ) ≤ s + 8 → (s : ℕ) ≤ r + 8 → |B r c - B s c| ≤ 78) (hv : ∀ r c, v (ix2 r c) = (V r c : EReal)) (hs : ∀ a b, st (ix2 a b) = (S a b : EReal)) (r : Fin 64) (e : Fin 128) :
    o1V q kin bc v st (ix2 r e) = ((∑ x : Fin 128, Q r ⟨128 + x, by omega⟩ * Real.exp (B r ⟨128 + x, by omega⟩) * S e x
      + ∑ j : Fin 64, (if j ≤ r then ∑ x : Fin 128, Q r ⟨128 + x, by omega⟩ * K j ⟨128 + x, by omega⟩ * Real.exp (B r ⟨128 + x, by omega⟩ - B j ⟨128 + x, by omega⟩) else 0) * V j ⟨128 + e, by omega⟩ : ℝ) : EReal) := by
  pointwise [o1V, qeV]
  simp only [a1_apply hq hk hb hc, hv, hs, hq, hb, exp2_nat, ← EReal.coe_mul, csum, ← EReal.coe_add]

/-- The state of head 1 of the pair after the chunk. -/
theorem st1_apply (hk : ∀ r c, kin (ix2 r c) = (K r c : EReal)) (hb : ∀ r c, bc (ix2 r c) = ((B r c * L2⁻¹ : ℝ) : EReal)) (hv : ∀ r c, v (ix2 r c) = (V r c : EReal)) (hs : ∀ a b, st (ix2 a b) = (S a b : EReal)) (e d : Fin 128) :
    st1V kin bc v st (ix2 e d) = ((S e d * Real.exp (B 63 ⟨128 + d, by omega⟩)
      + ∑ j : Fin 64, V j ⟨128 + e, by omega⟩ * (K j ⟨128 + d, by omega⟩ * Real.exp (B 63 ⟨128 + d, by omega⟩ - B j ⟨128 + d, by omega⟩)) : ℝ) : EReal) := by
  pointwise [st1V, keV, blV]
  simp only [hv, hs, hk, hb, ← EReal.coe_sub, ← sub_mul, exp2_nat, ← EReal.coe_mul, csum, ← EReal.coe_add]

end Scores

end Cert.Kernel4Ideal.Block

end
-- ==== Proof.RecMath.lean ====
/- The linear recurrence with a decaying state, over the reals: what the chunks carry and give sums up to the attention-like sum
   over all the rows up to the present one. -/
module

public import proofs.«01_k».proof.Proof.RecReal

@[expose] public section

noncomputable section

namespace Cert.Kernel4Ideal.Block

section Recurrence

variable (q k g v : ℕ → ℕ → ℝ)

/-- The running sum of the log gates, before row `t`. -/
def PS (t d : ℕ) : ℝ := ∑ s ∈ Finset.range t, g s d

/-- The state before row `n` of the head whose columns start at `a`. -/
def TS (n a e d : ℕ) : ℝ := ∑ s ∈ Finset.range n, v s (a + e) * (k s (a + d) * Real.exp (PS g n (a + d) - PS g (s + 1) (a + d)))

/-- The result at row `t` of the head whose columns start at `a`. -/
def OS (t a e : ℕ) : ℝ := ∑ s ∈ Finset.range (t + 1),
  (∑ x : Fin 128, q t (a + x) * k s (a + x) * Real.exp (PS g (t + 1) (a + x) - PS g (s + 1) (a + x))) * v s (a + e)

/-- The running sum within a chunk is the difference of the running sums. -/
theorem chunk_sum (n d : ℕ) (r : Fin 64) : (∑ s : Fin 64, if s ≤ r then g (n + s) d else 0) = PS g (n + r + 1) d - PS g n d := by
  have h1 : (∑ s : Fin 64, if s ≤ r then g (n + s) d else 0) = ∑ s ∈ Finset.range 64, if s ≤ (r : ℕ) then g (n + s) d else 0 := by
    rw [← Fin.sum_univ_eq_sum_range (fun s => if s ≤ (r : ℕ) then g (n + s) d else 0)]
    rfl
  have h2 : ((Finset.range 64).filter fun s => s ≤ (r : ℕ)) = Finset.range (r + 1) := by
    ext s
    rw [Finset.mem_filter, Finset.mem_range, Finset.mem_range]
    have := r.isLt
    omega
  rw [h1, ← Finset.sum_filter, h2]
  unfold PS
  rw [add_assoc, Finset.sum_range_add (fun s => g s d) n, add_sub_cancel_left]

/-- The running sums of rows near each other are near each other. -/
theorem PS_near (hg : ∀ t d, g t d ≤ 0) (hg' : ∀ t d, -(19 / 2) ≤ g t d) (d a b : ℕ) (h1 : a ≤ b + 8) (h2 : b ≤ a + 8) :
    |PS g a d - PS g b d| ≤ 78 := by
  have key : ∀ a n : ℕ, n ≤ 8 → |PS g (a + n) d - PS g a d| ≤ 78 := fun a n hn => by
    have e : PS g (a + n) d - PS g a d = ∑ s ∈ Finset.range n, g (a + s) d := by
      unfold PS; rw [Finset.sum_range_add, add_sub_cancel_left]
    have u : ∑ s ∈ Finset.range n, g (a + s) d ≤ 0 := Finset.sum_nonpos fun s _ => hg _ _
    have l : ∑ _s ∈ Finset.range n, (-(19 / 2) : ℝ) ≤ ∑ s ∈ Finset.range n, g (a + s) d := Finset.sum_le_sum fun s _ => hg' _ _
    rw [Finset.sum_const, Finset.card_range, nsmul_eq_mul] at l
    have hn' : (n : ℝ) ≤ 8 := by exact_mod_cast hn
    rw [e, abs_le]
    constructor <;> linarith
  rcases le_total a b with h | h
  · obtain ⟨n, rfl⟩ := Nat.exists_eq_add_of_le h
    rw [abs_sub_comm]; exact key a n (by omega)
  · obtain ⟨n, rfl⟩ := Nat.exists_eq_add_of_le h
    exact key b n (by omega)

/-- The state after a chunk. -/
theorem TS_step (n a e d : ℕ) : TS k g v n a e d * Real.exp (PS g (n + 64) (a + d) - PS g n (a + d))
    + ∑ j : Fin 64, v (n + j) (a + e) * (k (n + j) (a + d) * Real.exp (PS g (n + 64) (a + d) - PS g (n + j + 1) (a + d)))
    = TS k g v (n + 64) a e d := by
  unfold TS
  rw [Finset.sum_range_add, Finset.sum_mul,
    ← Fin.sum_univ_eq_sum_range (fun j => v (n + j) (a + e) * (k (n + j) (a + d) * Real.exp (PS g (n + 64) (a + d) - PS g (n + j + 1) (a + d))))]
  congr 1
  refine Finset.sum_congr rfl fun s _ => ?_
  rw [mul_assoc, mul_assoc, ← Real.exp_add]
  congr 3; ring_nf

/-- The result within a chunk: the state's part and the chunk's own. -/
theorem OS_chunk (n a e : ℕ) (r : Fin 64) :
    ∑ x : Fin 128, q (n + r) (a + x) * Real.exp (PS g (n + r + 1) (a + x) - PS g n (a + x)) * TS k g v n a e x
      + ∑ j : Fin 64, (if j ≤ r then ∑ x : Fin 128, q (n + r) (a + x) * k (n + j) (a + x)
          * Real.exp (PS g (n + r + 1) (a + x) - PS g (n + j + 1) (a + x)) else 0) * v (n + j) (a + e)
    = OS q k g v (n + r) a e := by
  unfold OS
  rw [add_assoc n, Finset.sum_range_add]
  congr 1
  · unfold TS
    simp only [Finset.mul_sum, Finset.sum_mul]
    rw [Finset.sum_comm]
    refine Finset.sum_congr rfl fun s _ => Finset.sum_congr rfl fun x _ => ?_
    have e2 : Real.exp (PS g (n + (r + 1)) (a + x) - PS g (s + 1) (a + x))
        = Real.exp (PS g (n + (r + 1)) (a + x) - PS g n (a + x)) * Real.exp (PS g n (a + x) - PS g (s + 1) (a + x)) := by
      rw [← Real.exp_add]; congr 1; ring
    rw [e2]; ring
  · have h2 : ((Finset.range 64).filter fun s => s ≤ (r : ℕ)) = Finset.range (r + 1) := by
      ext s
      rw [Finset.mem_filter, Finset.mem_range, Finset.mem_range]
      have := r.isLt
      omega
    rw [← h2, Finset.sum_filter, ← Fin.sum_univ_eq_sum_range (fun s => if s ≤ (r : ℕ) then _ else 0)]
    refine Finset.sum_congr rfl fun j _ => ?_
    have hj : (j ≤ r) ↔ ((j : ℕ) ≤ (r : ℕ)) := Iff.rfl
    by_cases h : j ≤ r
    · rw [if_pos h, if_pos (hj.1 h)]
    · rw [if_neg h, if_neg (fun h' => h (hj.2 h')), zero_mul]

end Recurrence

end Cert.Kernel4Ideal.Block

end
-- ==== Proof.RecLayer.lean ====
/- One block of the recurrence, over the reals: the state after each chunk and the result at each row, head by head. -/
module

public import proofs.«01_k».proof.Proof.RecChunk
public import proofs.«01_k».proof.Proof.RecTrip
public import proofs.«01_k».proof.Proof.RecMath

@[expose] public section

set_option maxRecDepth 16384

noncomputable section

namespace Cert.Kernel4Ideal.Block

open Cert.Kernel4Ideal Cert.Kernel4Ideal.Gen
open Idealize.ShloMosaic Idealize.ShloMosaic.TcCoe Idealize.ShloMosaic.Tactic

/-- A head's result at a row, normalised over the head's columns and gated. -/
def finish (o : Fin 128 → ℝ) (w : EReal) (z : ℝ) (e : Fin 128) : EReal :=
  (o e : EReal) * Ideal.rsqrt (Ideal.div (∑ x, (o x : EReal) * (o x : EReal)) (Ideal.ofBits FTy.f32 1124073472#32) + Ideal.ofBits FTy.f32 897988541#32)
    * w * ((z * sg z : ℝ) : EReal)

theorem out0_apply (o : FVec Ideal S64x128 .f32) (gw : Vec Ideal S1x128 .f32) (rg : Vec Ideal S1x64x256 .f32) (r : Fin 64) (e : Fin 128) :
    out0V o gw rg (ix3 0 r e) = o (ix2 r e) * Ideal.rsqrt (Ideal.div (∑ x : Fin 128, o (ix2 r x) * o (ix2 r x)) (Ideal.ofBits FTy.f32 1124073472#32) + Ideal.ofBits FTy.f32 897988541#32)
      * gw (ix2 0 e) * Ideal.div (rg (ix3 0 r (⟨e, by omega⟩ : Fin 256))) (1 + FloatOps.exp2 (F := Ideal) (φ := .f32) (rg (ix3 0 r (⟨e, by omega⟩ : Fin 256)) * Named.named (F := Ideal) κ (φ := .f32) "neg_log2e" 3216550459#32)) := by
  pointwise [out0V, qV, k0_pay15, k0_pay7]

theorem out1_apply (o : FVec Ideal S64x128 .f32) (gw : Vec Ideal S1x128 .f32) (rg : Vec Ideal S1x64x256 .f32) (r : Fin 64) (e : Fin 128) :
    out1V o gw rg (ix3 0 r e) = o (ix2 r e) * Ideal.rsqrt (Ideal.div (∑ x : Fin 128, o (ix2 r x) * o (ix2 r x)) (Ideal.ofBits FTy.f32 1124073472#32) + Ideal.ofBits FTy.f32 897988541#32)
      * gw (ix2 0 e) * Ideal.div (rg (ix3 0 r (⟨128 + e, by omega⟩ : Fin 256))) (1 + FloatOps.exp2 (F := Ideal) (φ := .f32) (rg (ix3 0 r (⟨128 + e, by omega⟩ : Fin 256)) * Named.named (F := Ideal) κ (φ := .f32) "neg_log2e" 3216550459#32)) := by
  pointwise [out1V, qV, k0_pay15, k0_pay7]

/-- The query, one minus the forget gate, and the log of the forget gate, from the projected entries. -/
def qf (zq : ℕ → ℕ → ℝ) (t k : ℕ) : ℝ := zq t k * sg (zq t k)
def kf (L : ℕ → ℝ) (zf : ℕ → ℕ → ℝ) (t k : ℕ) : ℝ := 1 - fg (L k) (zf t k)
def gf (L : ℕ → ℝ) (zf : ℕ → ℕ → ℝ) (t k : ℕ) : ℝ := Real.log (fg (L k) (zf t k))

section Chunk

variable {L : ℕ → ℝ} {zq zf zi zg : ℕ → ℕ → ℝ} {n0 : ℕ} {x0 x1 x2 x3 : Vec Ideal S1x2048x512 .f32} {x4 x5 : Vec Ideal S1x512 .f32} {x6 : Vec Ideal S1x128 .f32}

/-- The entries of pair `p`'s columns in the chunk that starts at row `N`. -/
def Qc (zq : ℕ → ℕ → ℝ) (N p : ℕ) (r : Fin 64) (c : Fin 256) : ℝ := qf zq (N + r) (256 * p + c)
def Kc (L : ℕ → ℝ) (zf : ℕ → ℕ → ℝ) (N p : ℕ) (r : Fin 64) (c : Fin 256) : ℝ := kf L zf (N + r) (256 * p + c)
def Vc (zi : ℕ → ℕ → ℝ) (N p : ℕ) (r : Fin 64) (c : Fin 256) : ℝ := zi (N + r) (256 * p + c)
def Bc (L : ℕ → ℝ) (zf : ℕ → ℕ → ℝ) (N p : ℕ) (r : Fin 64) (c : Fin 256) : ℝ :=
  PS (gf L zf) (N + r + 1) (256 * p + c) - PS (gf L zf) N (256 * p + c)

theorem chk_real {x : Vec Ideal S1x2048x512 .f32} {z : ℕ → ℕ → ℝ} (hx : ∀ (r : Fin 2048) (k : Fin 512), x (ix3 0 r k) = ((z (n0 + r) k : ℝ) : EReal))
    {n p : ℕ} (hn : n < 32) (hp : p < 2) (r : Fin 64) (c : Fin 256) : chk p x n (ix3 0 r c) = ((z (n0 + 64 * n + r) (256 * p + c) : ℝ) : EReal) := by
  refine (hx _ _).trans ?_
  have e1 : (64 * n + (r : ℕ)) % 2048 = 64 * n + r := Nat.mod_eq_of_lt (by omega)
  have e2 : (256 * p + (c : ℕ)) % 512 = 256 * p + c := Nat.mod_eq_of_lt (by omega)
  show ((z (n0 + (64 * n + (r : ℕ)) % 2048) ((256 * p + (c : ℕ)) % 512) : ℝ) : EReal) = _
  rw [e1, e2, Nat.add_assoc]

theorem half_real {x : Vec Ideal S1x512 .f32} {f : ℝ → EReal} (hx : ∀ k : Fin 512, x (ix2 0 k) = f (L k))
    {p : ℕ} (hp : p < 2) (c : Fin 256) : half p x (ix2 0 c) = f (L (256 * p + c)) := by
  refine (hx _).trans ?_
  have e2 : (256 * p + (c : ℕ)) % 512 = 256 * p + c := Nat.mod_eq_of_lt (by omega)
  show f (L ((256 * p + (c : ℕ)) % 512)) = _
  rw [e2]

theorem q_real (hx0 : ∀ (r : Fin 2048) (k : Fin 512), x0 (ix3 0 r k) = ((zq (n0 + r) k : ℝ) : EReal)) {n p : ℕ} (hn : n < 32) (hp : p < 2) (r : Fin 64) (c : Fin 256) :
    qV (chk p x0 n) (ix2 r c) = ((Qc zq (n0 + 64 * n) p r c : ℝ) : EReal) :=
  q_apply _ (fun r c => zq (n0 + 64 * n + r) (256 * p + c)) (chk_real hx0 hn hp) r c

theorem v_real (hx2 : ∀ (r : Fin 2048) (k : Fin 512), x2 (ix3 0 r k) = ((zi (n0 + r) k : ℝ) : EReal)) {n p : ℕ} (hn : n < 32) (hp : p < 2) (r : Fin 64) (c : Fin 256) :
    vV (chk p x2 n) (ix2 r c) = ((Vc zi (n0 + 64 * n) p r c : ℝ) : EReal) :=
  (v_apply _ r c).trans (chk_real hx2 hn hp r c)

theorem kin_real (h1 : ∀ k, L k < 1) (h5 : ∀ k : Fin 512, x5 (ix2 0 k) = l1mIn (L k))
    (hx1 : ∀ (r : Fin 2048) (k : Fin 512), x1 (ix3 0 r k) = ((zf (n0 + r) k : ℝ) : EReal)) {n p : ℕ} (hn : n < 32) (hp : p < 2) (r : Fin 64) (c : Fin 256) :
    kinV (half p x5) (chk p x1 n) (ix2 r c) = ((Kc L zf (n0 + 64 * n) p r c : ℝ) : EReal) :=
  kin_apply _ _ (fun c => L (256 * p + c)) (fun r c => zf (n0 + 64 * n + r) (256 * p + c)) (fun _ => h1 _) (half_real h5 hp) (chk_real hx1 hn hp) r c

theorem bc_real (h0 : ∀ k, 0 ≤ L k) (h1 : ∀ k, L k < 1) (h4 : ∀ k : Fin 512, x4 (ix2 0 k) = llbIn (L k)) (h5 : ∀ k : Fin 512, x5 (ix2 0 k) = l1mIn (L k))
    (hx1 : ∀ (r : Fin 2048) (k : Fin 512), x1 (ix3 0 r k) = ((zf (n0 + r) k : ℝ) : EReal)) {n p : ℕ} (hn : n < 32) (hp : p < 2) (r : Fin 64) (c : Fin 256) :
    bcV (gV (half p x4) (half p x5) (chk p x1 n)) (ix2 r c) = ((Bc L zf (n0 + 64 * n) p r c * L2⁻¹ : ℝ) : EReal) := by
  rw [bc_apply _ (fun r c => gf L zf (n0 + 64 * n + r) (256 * p + c)) (g_apply _ _ _ (fun c => L (256 * p + c)) (fun r c => zf (n0 + 64 * n + r) (256 * p + c)) (fun _ => h0 _) (fun _ => h1 _)
    (half_real h4 hp) (half_real h5 hp) (chk_real hx1 hn hp)) r c]
  rw [chunk_sum]
  rfl

theorem Bc_near (h0 : ∀ k, 0 ≤ L k) (h1 : ∀ k, L k < 1) (h9 : ∀ t k, -9 ≤ zf t k) (N p : ℕ) (r s : Fin 64) (c : Fin 256)
    (hr : (r : ℕ) ≤ s + 8) (hs : (s : ℕ) ≤ r + 8) : |Bc L zf N p r c - Bc L zf N p s c| ≤ 78 := by
  unfold Bc
  rw [sub_sub_sub_cancel_right]
  exact PS_near (gf L zf) (fun t d => log_fg_le (h0 _) (h1 _) _) (fun t d => log_fg_ge (h0 _) (h1 _) _ (h9 _ _)) _ _ _ (by omega) (by omega)

variable (h0 : ∀ k, 0 ≤ L k) (h1 : ∀ k, L k < 1) (h9 : ∀ t k, -9 ≤ zf t k)
  (hx0 : ∀ (r : Fin 2048) (k : Fin 512), x0 (ix3 0 r k) = ((zq (n0 + r) k : ℝ) : EReal))
  (hx1 : ∀ (r : Fin 2048) (k : Fin 512), x1 (ix3 0 r k) = ((zf (n0 + r) k : ℝ) : EReal))
  (hx2 : ∀ (r : Fin 2048) (k : Fin 512), x2 (ix3 0 r k) = ((zi (n0 + r) k : ℝ) : EReal))
  (hx3 : ∀ (r : Fin 2048) (k : Fin 512), x3 (ix3 0 r k) = ((zg (n0 + r) k : ℝ) : EReal))
  (h4 : ∀ k : Fin 512, x4 (ix2 0 k) = llbIn (L k)) (h5 : ∀ k : Fin 512, x5 (ix2 0 k) = l1mIn (L k))

include h0 h1 h4 h5 hx1 hx2

/-- Head 0 of pair `p`: the state, `n` chunks into the block. -/
theorem tst0_real (p : ℕ) (hp : p < 2) (s0 : FVec Ideal S128x128 .f32)
    (hs : ∀ e d : Fin 128, s0 (ix2 e d) = ((TS (kf L zf) (gf L zf) zi n0 (256 * p) e d : ℝ) : EReal)) :
    ∀ n : ℕ, n ≤ 32 → ∀ e d : Fin 128, tst0 (half p x4) (half p x5) (chk p x1) (chk p x2) s0 n (ix2 e d)
      = ((TS (kf L zf) (gf L zf) zi (n0 + 64 * n) (256 * p) e d : ℝ) : EReal)
  | 0, _ => hs
  | n + 1, hn => fun e d => by
    have ih := tst0_real p hp s0 hs n (by omega)
    change cs0V (half p x4) (half p x5) (chk p x1 n) (chk p x2 n) (tst0 (half p x4) (half p x5) (chk p x1) (chk p x2) s0 n) (ix2 e d) = _
    unfold cs0V
    rw [st0_apply (kin_real h1 h5 hx1 (by omega) hp) (bc_real h0 h1 h4 h5 hx1 (by omega) hp) (v_real hx2 (by omega) hp) ih e d]
    congr 1
    have e1 := TS_step (kf L zf) (gf L zf) zi (n0 + 64 * n) (256 * p) e d
    rw [show n0 + 64 * (n + 1) = n0 + 64 * n + 64 by ring]
    rw [← e1]
    simp only [Kc, Bc, Vc, sub_sub_sub_cancel_right, ← Nat.add_assoc]
    rfl

/-- Head 1 of pair `p`: the state, `n` chunks into the block. -/
theorem tst1_real (p : ℕ) (hp : p < 2) (s0 : FVec Ideal S128x128 .f32)
    (hs : ∀ e d : Fin 128, s0 (ix2 e d) = ((TS (kf L zf) (gf L zf) zi n0 (256 * p + 128) e d : ℝ) : EReal)) :
    ∀ n : ℕ, n ≤ 32 → ∀ e d : Fin 128, tst1 (half p x4) (half p x5) (chk p x1) (chk p x2) s0 n (ix2 e d)
      = ((TS (kf L zf) (gf L zf) zi (n0 + 64 * n) (256 * p + 128) e d : ℝ) : EReal)
  | 0, _ => hs
  | n + 1, hn => fun e d => by
    have ih := tst1_real p hp s0 hs n (by omega)
    change cs1V (half p x4) (half p x5) (chk p x1 n) (chk p x2 n) (tst1 (half p x4) (half p x5) (chk p x1) (chk p x2) s0 n) (ix2 e d) = _
    unfold cs1V
    rw [st1_apply (kin_real h1 h5 hx1 (by omega) hp) (bc_real h0 h1 h4 h5 hx1 (by omega) hp) (v_real hx2 (by omega) hp) ih e d]
    congr 1
    have e1 := TS_step (kf L zf) (gf L zf) zi (n0 + 64 * n) (256 * p + 128) e d
    rw [show n0 + 64 * (n + 1) = n0 + 64 * n + 64 by ring]
    rw [← e1]
    simp only [Kc, Bc, Vc, sub_sub_sub_cancel_right, ← Nat.add_assoc]
    rfl

/-- The state of head `h`, `n` chunks into the block. -/
theorem stOf_real (S : Vec Ideal S4x128x128 .f32)
    (hS : ∀ (h : Fin 4) (e d : Fin 128), S (ix3 h e d) = ((TS (kf L zf) (gf L zf) zi n0 (128 * h) e d : ℝ) : EReal))
    (n : ℕ) (hn : n ≤ 32) (h : ℕ) (hh : h < 4) (e d : Fin 128) : stOf h x1 x2 x4 x5 S n (ix2 e d) = ((TS (kf L zf) (gf L zf) zi (n0 + 64 * n) (128 * h) e d : ℝ) : EReal) := by
  have hd : ∀ e d : Fin 128, head h S (ix2 e d) = ((TS (kf L zf) (gf L zf) zi n0 (128 * h) e d : ℝ) : EReal) := fun e d => by
    refine (hS ⟨h % 4, _⟩ e d).trans ?_
    show ((TS (kf L zf) (gf L zf) zi n0 (128 * (h % 4)) e d : ℝ) : EReal) = _
    rw [Nat.mod_eq_of_lt hh]
  unfold stOf
  split
  · have e1 : 128 * h = 256 * (h / 2) := by omega
    rw [e1] at hd ⊢
    exact tst0_real h0 h1 hx1 hx2 h4 h5 (h / 2) (by omega) _ hd n hn e d
  · have e1 : 128 * h = 256 * (h / 2) + 128 := by omega
    rw [e1] at hd ⊢
    exact tst1_real h0 h1 hx1 hx2 h4 h5 (h / 2) (by omega) _ hd n hn e d

include h9 hx0 hx3

/-- Head 0 of pair `p`: the result of a chunk. -/
theorem co0_real (p : ℕ) (hp : p < 2) (n : ℕ) (hn : n < 32) (st : FVec Ideal S128x128 .f32)
    (hs : ∀ e d : Fin 128, st (ix2 e d) = ((TS (kf L zf) (gf L zf) zi (n0 + 64 * n) (256 * p) e d : ℝ) : EReal)) (r : Fin 64) (e : Fin 128) :
    co0V (half p x4) (half p x5) x6 (chk p x0 n) (chk p x1 n) (chk p x2 n) (chk p x3 n) st (ix3 0 r e)
      = finish (fun x => OS (qf zq) (kf L zf) (gf L zf) zi (n0 + 64 * n + r) (256 * p) x) (x6 (ix2 0 e)) (zg (n0 + 64 * n + r) (256 * p + e)) e := by
  have ho : ∀ e : Fin 128, o0V (qV (chk p x0 n)) (kinV (half p x5) (chk p x1 n)) (bcV (gV (half p x4) (half p x5) (chk p x1 n))) (vV (chk p x2 n)) st (ix2 r e)
      = ((OS (qf zq) (kf L zf) (gf L zf) zi (n0 + 64 * n + r) (256 * p) e : ℝ) : EReal) := fun e => by
    rw [o0_apply (q_real hx0 hn hp) (kin_real h1 h5 hx1 hn hp) (bc_real h0 h1 h4 h5 hx1 hn hp) (Bc_near h0 h1 h9 (n0 + 64 * n) p) (v_real hx2 hn hp) hs r e]
    congr 1
    rw [← OS_chunk (qf zq) (kf L zf) (gf L zf) zi (n0 + 64 * n) (256 * p) e r]
    simp only [Qc, Kc, Bc, Vc, sub_sub_sub_cancel_right, ← Nat.add_assoc]
  unfold co0V
  rw [out0_apply, chk_real hx3 hn hp]
  simp only [ho]
  rw [named_neg_log2e, qexp]
  unfold finish
  simp only [← Nat.add_assoc]

/-- Head 1 of pair `p`: the result of a chunk. -/
theorem co1_real (p : ℕ) (hp : p < 2) (n : ℕ) (hn : n < 32) (st : FVec Ideal S128x128 .f32)
    (hs : ∀ e d : Fin 128, st (ix2 e d) = ((TS (kf L zf) (gf L zf) zi (n0 + 64 * n) (256 * p + 128) e d : ℝ) : EReal)) (r : Fin 64) (e : Fin 128) :
    co1V (half p x4) (half p x5) x6 (chk p x0 n) (chk p x1 n) (chk p x2 n) (chk p x3 n) st (ix3 0 r e)
      = finish (fun x => OS (qf zq) (kf L zf) (gf L zf) zi (n0 + 64 * n + r) (256 * p + 128) x) (x6 (ix2 0 e)) (zg (n0 + 64 * n + r) (256 * p + 128 + e)) e := by
  have ho : ∀ e : Fin 128, o1V (qV (chk p x0 n)) (kinV (half p x5) (chk p x1 n)) (bcV (gV (half p x4) (half p x5) (chk p x1 n))) (vV (chk p x2 n)) st (ix2 r e)
      = ((OS (qf zq) (kf L zf) (gf L zf) zi (n0 + 64 * n + r) (256 * p + 128) e : ℝ) : EReal) := fun e => by
    rw [o1_apply (q_real hx0 hn hp) (kin_real h1 h5 hx1 hn hp) (bc_real h0 h1 h4 h5 hx1 hn hp) (Bc_near h0 h1 h9 (n0 + 64 * n) p) (v_real hx2 hn hp) hs r e]
    congr 1
    rw [← OS_chunk (qf zq) (kf L zf) (gf L zf) zi (n0 + 64 * n) (256 * p + 128) e r]
    simp only [Qc, Kc, Bc, Vc, sub_sub_sub_cancel_right, ← Nat.add_assoc]
  unfold co1V
  rw [out1_apply, chk_real hx3 hn hp]
  simp only [ho]
  rw [named_neg_log2e, qexp]
  unfold finish
  simp only [← Nat.add_assoc]

/-- The block's result. -/
theorem blockOut_real (S : Vec Ideal S4x128x128 .f32)
    (hS : ∀ (h : Fin 4) (e d : Fin 128), S (ix3 h e d) = ((TS (kf L zf) (gf L zf) zi n0 (128 * h) e d : ℝ) : EReal))
    (r : Fin 2048) (k : Fin 512) : blockOut x0 x1 x2 x3 x4 x5 x6 S (ix3 0 r k)
      = finish (fun x => OS (qf zq) (kf L zf) (gf L zf) zi (n0 + r) (128 * (k / 128)) x) (x6 (ix2 0 (⟨k % 128, Nat.mod_lt _ (by norm_num)⟩ : Fin 128)))
          (zg (n0 + r) k) ⟨k % 128, Nat.mod_lt _ (by norm_num)⟩ := by
  have hs := stOf_real h0 h1 hx1 hx2 h4 h5 S hS (r / 64) (by omega) (k / 128) (by omega)
  have er : n0 + 64 * ((r : ℕ) / 64) + (r : ℕ) % 64 = n0 + r := by omega
  have ek : 128 * ((k : ℕ) / 128) + (k : ℕ) % 128 = k := by omega
  show outOf ((k : ℕ) / 128) x0 x1 x2 x3 x4 x5 x6 S ((r : ℕ) / 64) (ix3 0 (⟨(r : ℕ) % 64, _⟩ : Fin 64) (⟨(k : ℕ) % 128, _⟩ : Fin 128)) = _
  unfold outOf
  split
  · have e1 : 128 * ((k : ℕ) / 128) = 256 * ((k : ℕ) / 128 / 2) := by omega
    rw [e1] at hs
    rw [co0_real h0 h1 h9 hx0 hx1 hx2 hx3 h4 h5 ((k : ℕ) / 128 / 2) (by omega) _ (by omega) _ hs]
    simp only [er, ← e1, ek]
  · have e1 : 128 * ((k : ℕ) / 128) = 256 * ((k : ℕ) / 128 / 2) + 128 := by omega
    rw [e1] at hs
    rw [co1_real h0 h1 h9 hx0 hx1 hx2 hx3 h4 h5 ((k : ℕ) / 128 / 2) (by omega) _ (by omega) _ hs]
    simp only [er, ← e1, ek]

end Chunk

end Cert.Kernel4Ideal.Block

end
-- ==== Proof.RecArray.lean ====
/- The recurrence's result array, as a function of the three arguments. -/
module

public import proofs.«01_k».proof.Proof.RecEntry
public import proofs.«01_k».proof.Proof.RecLayer

@[expose] public section

set_option maxRecDepth 16384

noncomputable section

namespace Cert.Kernel4Ideal.Block

open Cert.Kernel4Ideal Cert.Kernel4Ideal.Gen Idealize.ShloMosaic Idealize.ShloMosaic.TcCoe Idealize.SL.Sem
open Idealize.ShloMosaic.Pipeline (Dat)

section Arguments

variable (x : S8x4096x2048.Idx → EReal) (lb : S512.Idx → EReal) (g : S128.Idx → EReal)

/-- An entry of the projected array, at any two numbers. -/
def Zr (b : Fin 8) (t k : ℕ) : ℝ := (x (ix3 b (⟨t % 4096, Nat.mod_lt _ (by norm_num)⟩ : Fin 4096) (⟨k % 2048, Nat.mod_lt _ (by norm_num)⟩ : Fin 2048))).toReal

/-- The lower bounds of the gates. -/
def Lr (k : ℕ) : ℝ := (lb (ix1 (⟨k % 512, Nat.mod_lt _ (by norm_num)⟩ : Fin 512))).toReal

/-- The four groups of columns: query, gate, value, output gate. -/
def zqOf (b : Fin 8) (t k : ℕ) : ℝ := Zr x b t (k % 512)
def zfOf (b : Fin 8) (t k : ℕ) : ℝ := Zr x b t (512 + k % 512)
def ziOf (b : Fin 8) (t k : ℕ) : ℝ := Zr x b t (1024 + k % 512)
def zgOf (b : Fin 8) (t k : ℕ) : ℝ := Zr x b t (1536 + k % 512)

/-- What the precondition says of the arguments. -/
structure Open : Prop where
  fin : ∀ b s k, x (ix3 b s k) = ((x (ix3 b s k)).toReal : EReal)
  low : ∀ (b : Fin 8) (s : Fin 4096) (k : Fin 512), -9 ≤ (x (ix3 b s (⟨512 + k, by omega⟩ : Fin 2048))).toReal
  real : ∀ k, lb (ix1 k) = ((lb (ix1 k)).toReal : EReal)
  nonneg : ∀ k, 0 ≤ (lb (ix1 k)).toReal
  below : ∀ k, (lb (ix1 k)).toReal < 1

/-- The layer's value at one place. -/
def layerAt (b : Fin 8) (t : Fin 4096) (k : Fin 512) : EReal :=
  finish (fun e => OS (qf (zqOf x b)) (kf (Lr lb) (zfOf x b)) (gf (Lr lb) (zfOf x b)) (ziOf x b) t (128 * (k / 128)) e)
    (g (ix1 (⟨k % 128, Nat.mod_lt _ (by norm_num)⟩ : Fin 128))) (zgOf x b t k) ⟨k % 128, Nat.mod_lt _ (by norm_num)⟩

/-- The layer's value. -/
def layer : S8x4096x512.Idx → EReal := fun i => layerAt x lb g (i 0) (i 1) (i 2)

variable {x lb g} (hO : Open x lb)
include hO

theorem Open.zr (b : Fin 8) (s : Fin 4096) (k : ℕ) (hk : k < 2048) : x (ix3 b s (⟨k, hk⟩ : Fin 2048)) = ((Zr x b s k : ℝ) : EReal) := by
  unfold Zr
  have e1 : (⟨(s : ℕ) % 4096, Nat.mod_lt _ (by norm_num)⟩ : Fin 4096) = s := Fin.ext (Nat.mod_eq_of_lt s.isLt)
  have e2 : (⟨k % 2048, Nat.mod_lt _ (by norm_num)⟩ : Fin 2048) = ⟨k, hk⟩ := Fin.ext (Nat.mod_eq_of_lt hk)
  rw [e1, e2]
  exact hO.fin _ _ _

theorem Open.zq (b : Fin 8) (s : Fin 4096) (k : Fin 512) (h) : x (ix3 b s (⟨k, h⟩ : Fin 2048)) = ((zqOf x b s k : ℝ) : EReal) := by
  rw [hO.zr b s k (by omega), zqOf, Nat.mod_eq_of_lt k.isLt]
theorem Open.zf (b : Fin 8) (s : Fin 4096) (k : Fin 512) (h) : x (ix3 b s (⟨512 + k, h⟩ : Fin 2048)) = ((zfOf x b s k : ℝ) : EReal) := by
  rw [hO.zr b s (512 + k) (by omega), zfOf, Nat.mod_eq_of_lt k.isLt]
theorem Open.zi (b : Fin 8) (s : Fin 4096) (k : Fin 512) (h) : x (ix3 b s (⟨1024 + k, h⟩ : Fin 2048)) = ((ziOf x b s k : ℝ) : EReal) := by
  rw [hO.zr b s (1024 + k) (by omega), ziOf, Nat.mod_eq_of_lt k.isLt]
theorem Open.zg (b : Fin 8) (s : Fin 4096) (k : Fin 512) (h) : x (ix3 b s (⟨1536 + k, h⟩ : Fin 2048)) = ((zgOf x b s k : ℝ) : EReal) := by
  rw [hO.zr b s (1536 + k) (by omega), zgOf, Nat.mod_eq_of_lt k.isLt]

theorem Open.L0 (k : ℕ) : 0 ≤ Lr lb k := hO.nonneg _
theorem Open.L1 (k : ℕ) : Lr lb k < 1 := hO.below _
theorem Open.f9 (b : Fin 8) (t k : ℕ) : -9 ≤ zfOf x b t k := by
  unfold zfOf Zr
  have e : (⟨(512 + k % 512) % 2048, Nat.mod_lt _ (by norm_num)⟩ : Fin 2048) = ⟨512 + (⟨k % 512, Nat.mod_lt _ (by norm_num)⟩ : Fin 512), by show 512 + k % 512 < 2048; omega⟩ :=
    Fin.ext (Nat.mod_eq_of_lt (by omega))
  rw [e]
  exact hO.low _ _ _

theorem Open.lr (k : Fin 512) : lb (ix1 k) = ((Lr lb k : ℝ) : EReal) := by
  unfold Lr
  have e1 : (⟨(k : ℕ) % 512, Nat.mod_lt _ (by norm_num)⟩ : Fin 512) = k := Fin.ext (Nat.mod_eq_of_lt k.isLt)
  rw [e1]
  exact hO.real _

theorem Open.log1p (k : Fin 512) : Ideal.log1p (-(lb (ix1 k))) = l1mIn (Lr lb k) := by
  rw [hO.lr k]
  unfold Ideal.log1p l1mIn
  have : (1 : EReal) + -((Lr lb k : ℝ) : EReal) = ((1 - Lr lb k : ℝ) : EReal) := by
    rw [← EReal.coe_neg, ← EReal.coe_one, ← EReal.coe_add, sub_eq_add_neg]
  rw [this]
  exact log_real _ (by have := hO.L1 k; linarith)

end Arguments

variable (m : (ℓ : Loc nD τ sig) → Buf (Elt Ideal) ℓ) (ρ : Dev nD → PrngReg)

abbrev argX (c : Dev nD) : S8x4096x2048.Idx → EReal := m ((c : Thread nD τ).loc main_arg0)
abbrev argL (c : Dev nD) : S512.Idx → EReal := m ((c : Thread nD τ).loc main_arg1)
abbrev argG (c : Dev nD) : S128.Idx → EReal := m ((c : Thread nD τ).loc main_arg2)

theorem clear_apply (h : Fin 4) (e d : Fin 128) : k0_pay1 (F := Ideal) (ix3 h e d) = (0 : EReal) := by
  pointwise [k0_pay1]

section Point

variable {m} {c : Dev nD} (hO : Open (argX m c) (argL m c))
include hO

theorem entry_real (t : Fin cfg0.N) (h : Fin 4) (e d : Fin 128) : entryAt m c t (ix3 h e d)
    = ((TS (kf (Lr (argL m c)) (zfOf (argX m c) (seqAt t))) (gf (Lr (argL m c)) (zfOf (argX m c) (seqAt t))) (ziOf (argX m c) (seqAt t)) (2048 * (t.val % 2)) (128 * h) e d : ℝ) : EReal) := by
  have zero : ∀ (L : ℕ → ℝ) (zf zi : ℕ → ℕ → ℝ) (h : Fin 4) (e d : Fin 128), k0_pay1 (F := Ideal) (ix3 h e d) = ((TS (kf L zf) (gf L zf) zi 0 (128 * h) e d : ℝ) : EReal) :=
    fun L zf zi h e d => by rw [clear_apply]; simp [TS]
  by_cases h0 : t.val % 2 = 0
  · rw [entryAt_even m c t h0, h0]
    exact zero _ _ _ _ _ _
  · have h1 : t.val % 2 = 1 := by omega
    have hp : t.val - 1 < cfg0.N := by have := t.isLt; omega
    have hs : seqAt (⟨t.val - 1, hp⟩ : Fin cfg0.N) = seqAt t := Fin.ext (by show (t.val - 1) / 2 = t.val / 2; omega)
    have hr : ∀ r : Fin 2048, (rowAt (⟨t.val - 1, hp⟩ : Fin cfg0.N) r : ℕ) = 0 + r := fun r => by show 2048 * ((t.val - 1) % 2) + r.val = 0 + r.val; omega
    rw [entryAt_odd m c t h0 hp, h1]
    unfold stateAt
    rw [entryAt_even m c ⟨t.val - 1, hp⟩ (by show (t.val - 1) % 2 = 0; omega)]
    refine (stOf_real (n0 := 0) (L := Lr (argL m c)) (zf := zfOf (argX m c) (seqAt t)) (zi := ziOf (argX m c) (seqAt t)) hO.L0 hO.L1 (fun r k => ?_) (fun r k => ?_) (fun k => ?_) (fun k => ?_) _ (zero _ _ _) 32 (by norm_num) h h.isLt e d).trans (by norm_num)
    · refine ((blk1 m c _ r k).trans (hO.zf _ _ k _)).trans ?_
      rw [hs, hr]
    · refine ((blk2 m c _ r k).trans (hO.zi _ _ k _)).trans ?_
      rw [hs, hr]
    · exact (blk4 m c _ k).trans (congrArg Ideal.log (hO.lr k))
    · exact (blk5 m c _ k).trans (hO.log1p k)

theorem outAt_real (t : Fin cfg0.N) (r : Fin 2048) (k : Fin 512) : outAt m c t (ix3 0 r k) = layerAt (argX m c) (argL m c) (argG m c) (seqAt t) (rowAt t r) k := by
  unfold outAt
  refine (blockOut_real (n0 := 2048 * (t.val % 2)) (L := Lr (argL m c)) (zq := zqOf (argX m c) (seqAt t)) (zf := zfOf (argX m c) (seqAt t)) (zi := ziOf (argX m c) (seqAt t))
    (zg := zgOf (argX m c) (seqAt t)) hO.L0 hO.L1 (hO.f9 _) (fun r k => ?_) (fun r k => ?_) (fun r k => ?_) (fun r k => ?_) (fun k => ?_) (fun k => ?_) _ (entry_real hO t) r k).trans ?_
  · exact (blk0 m c t r k).trans (hO.zq _ _ k _)
  · exact (blk1 m c t r k).trans (hO.zf _ _ k _)
  · exact (blk2 m c t r k).trans (hO.zi _ _ k _)
  · exact (blk3 m c t r k).trans (hO.zg _ _ k _)
  · exact (blk4 m c t k).trans (congrArg Ideal.log (hO.lr k))
  · exact (blk5 m c t k).trans (hO.log1p k)
  · rw [blk6]; rfl

end Point

/-- The result array over the arguments the run starts from. -/
abbrev result (c : Dev nD) : Vec Ideal S8x4096x512 .bf16 := layer (argX m c) (argL m c) (argG m c)

theorem flushed7 (c : Dev nD) (hO : Open (argX m c) (argL m c)) (t : Fin cfg0.N) :
    (dats m 0 c).flushed 7 t = (win0_7.blk t).view.read (Elt Ideal) (result m c) := by
  show (cfg0.win 7).cut (grid0.coords t) ((dats m 0 c).after 7 t) = _
  rw [after0_7]
  funext y
  obtain ⟨z, r, k, rfl⟩ : ∃ (z : Fin 1) (r : Fin 2048) (k : Fin 512), y = ix3 z r k := ⟨y 0, y 1, y 2, eq_ix3 y⟩
  obtain rfl : z = 0 := Subsingleton.elim _ _
  show outAt m c t (ix3 0 r k) = result m c ((win0_7.blk t).view.emb (ix3 0 r k))
  rw [emb7, outAt_real hO]
  rfl

/-- The launch: the result array holds the layer's value, and the arguments end unchanged. -/
theorem run (hO : ∀ c, Open (argX m c) (argL m c)) : θ_run defs (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 7).trans ((dats m 0 c).arrAt_eq_of_cover 7 (result m c) (fun t _ => flushed7 m c (hO c) t) cover7), h.2 c⟩)
    (θ_run_and (run_main m ρ) (unchanged m ρ))

end Cert.Kernel4Ideal.Block

end
-- ==== Proof.RecPre.lean ====
/- The precondition, as what it says of the arguments' entries. -/
module

public import proofs.«01_k».proof.Proof.RecArray
public import proofs.«01_k».proof.Defs
public import Idealize.ShloMosaic.Lib.ReduceAll
public import Idealize.ShloMosaic.Lib.Pointwise

@[expose] public section

set_option maxRecDepth 16384

noncomputable section

namespace Cert.Kernel4Ideal.Block

open Idealize.ShloMosaic Idealize.ShloMosaic.TcCoe Idealize.SL.Sem

theorem top_word : Ideal.ofBits .f32 0x7F800000#32 = (⊤ : EReal) := by simp [Ideal.ofBits, Ideal.ieee]
theorem nine_word : Ideal.ofBits .f32 0xC1100000#32 = ((-9 : ℝ) : EReal) := by
  simp [Ideal.ofBits, Ideal.ieee, -EReal.coe_mul, -EReal.coe_neg]; norm_num

theorem and_one : ∀ a b : BitVec 1, IntOp.andi a b = 1#1 → a = 1#1 ∧ b = 1#1 := by decide

theorem ofBool_one {p : Prop} [Decidable p] (h : BitVec.ofBool (decide p) = 1#1) : p := by
  by_contra hp
  rw [decide_eq_false hp] at h
  exact absurd h (by decide)

theorem real_of_abs {y : EReal} (h : max y (-y) < ⊤) : y = ((y.toReal : ℝ) : EReal) := by
  refine (EReal.coe_toReal (fun e => ?_) (fun e => ?_)).symm
  · rw [e] at h; simp at h
  · rw [e] at h; simp at h

variable [Cert.Pre_gates_open.Facts]

theorem open_of (x : S8x4096x2048.Idx → EReal) (l : S512.Idx → EReal) (g : S128.Idx → EReal)
    (h : Cert.Pre_gates_open.fn (F := Ideal) x l g = fun _ => 1#1) : Open x l := by
  have h0 := congrFun h ix0
  unfold Cert.Pre_gates_open.fn Cert.Pre_gates_open.fn_part1 at h0
  obtain ⟨h012, h3⟩ := and_one _ _ h0
  obtain ⟨h01, h2⟩ := and_one _ _ h012
  obtain ⟨h0, h1⟩ := and_one _ _ h01
  have : Subsingleton Cert.Pre_gates_open.S_.Idx := ⟨fun a b => funext fun i => i.elim0⟩
  have a0 : ∀ i, max (x i) (-(x i)) < (⊤ : EReal) := fun i => by
    have e := Host.reduce_andi_all _ _ _ _ _ h0 i
    have e' : x i ⊔ -(x i) < Ideal.ofBits .f32 0x7F800000#32 := ofBool_one e
    rwa [top_word] at e'
  have a1 : ∀ (b : Fin 8) (s : Fin 4096) (k : Fin 512), ((-9 : ℝ) : EReal) ≤ x (ix3 b s (⟨512 + k, by omega⟩ : Fin 2048)) := fun b s k => by
    have e := Host.reduce_andi_all _ _ _ _ _ h1 (ix3 b s k)
    have e' : Ideal.ofBits .f32 0xC1100000#32 ≤ _ := ofBool_one e
    rw [nine_word] at e'
    refine e'.trans (le_of_eq ?_)
    pointwise
  have a2 : ∀ k, (0 : EReal) ≤ l (ix1 k) := fun k => by
    have e := Host.reduce_andi_all _ _ _ _ _ h2 (ix1 k)
    have e' : Ideal.ofBits .f32 0x00000000#32 ≤ l (ix1 k) := ofBool_one e
    simpa using e'
  have a3 : ∀ k, l (ix1 k) < (1 : EReal) := fun k => by
    have e := Host.reduce_andi_all _ _ _ _ _ h3 (ix1 k)
    have e' : l (ix1 k) < Ideal.ofBits .f32 0x3F800000#32 := ofBool_one e
    simpa using e'
  have lr : ∀ k, l (ix1 k) = (((l (ix1 k)).toReal : ℝ) : EReal) := fun k =>
    (EReal.coe_toReal (ne_top_of_lt (a3 k)) (fun e => by have := a2 k; rw [e] at this; simp at this)).symm
  have xr : ∀ i, x i = (((x i).toReal : ℝ) : EReal) := fun i => real_of_abs (a0 i)
  refine ⟨fun b s k => xr _, fun b s k => ?_, lr, fun k => ?_, fun k => ?_⟩
  · have := a1 b s k
    rw [xr] at this
    exact EReal.coe_le_coe_iff.1 this
  · have := a2 k
    rw [lr k, ← EReal.coe_zero] at this
    exact EReal.coe_le_coe_iff.1 this
  · have := a3 k
    rw [lr k, ← EReal.coe_one] at this
    exact EReal.coe_lt_coe_iff.1 this

end Cert.Kernel4Ideal.Block

end
-- ==== Proof.RecSum.lean ====
/- The host's running sum along the third axis, read at an index. -/
module

public import proofs.«01_k».proof.Proof.Gen.Reference4Ideal.Read
public import Idealize.ShloMosaic.Lib.Pointwise
public import Idealize.ShloMosaic.Lib.IdealHost

@[expose] public section

set_option maxRecDepth 16384

noncomputable section

namespace Cert.Reference4Ideal.Layer

open Cert.Reference4Ideal Cert.Reference4Ideal.Gen Cert.Reference4Ideal.Read
open Idealize.ShloMosaic Idealize.ShloMosaic.TcCoe Idealize.SL.Sem

/-- A fold of additions is a sum over what is folded. -/
theorem foldl_add {n : ℕ} (f : Fin n → EReal) (z : EReal) : (List.finRange n).foldl (fun r i => r + f i) z = z + ∑ i, f i := by
  have h : ∀ (l : List (Fin n)) (z : EReal), l.foldl (fun r i => r + f i) z = z + (l.map f).sum := fun l => by
    induction l with
    | nil => intro z; simp
    | cons a l ih => intro z; rw [List.foldl_cons, ih, List.map_cons, List.sum_cons, add_assoc]
  rw [h, ← List.ofFn_eq_map, List.sum_ofFn]

/-- The window: one position along the axis summed, none along the others. -/
abbrev W : Shape := ⟨4, ![1, 1, 4096, 1]⟩

def winIdx (i : Fin 4096) : W.Idx := fun a => match a with
  | ⟨0, _⟩ => (0 : Fin 1)
  | ⟨1, _⟩ => (0 : Fin 1)
  | ⟨2, _⟩ => (i : Fin 4096)
  | ⟨3, _⟩ => (0 : Fin 1)

def winEquiv : W.Idx ≃ Fin 4096 where
  toFun w := w 2
  invFun := winIdx
  left_inv w := funext fun a => match a with
    | ⟨0, _⟩ => Subsingleton.elim (α := Fin 1) _ _
    | ⟨1, _⟩ => Subsingleton.elim (α := Fin 1) _ _
    | ⟨2, _⟩ => rfl
    | ⟨3, _⟩ => Subsingleton.elim (α := Fin 1) _ _
  right_inv _ := rfl

/-- The running sum at a row: the sum over the rows up to it. -/
theorem running (x : S8x4x4096x128.Idx → EReal) (z : S_.Idx → EReal) (hz : ∀ i, z i = 0) (h) (hu) (b : Fin 8) (a : Fin 4) (t : Fin 4096) (d : Fin 128) :
    Host.reduceWindowAdd (F := Ideal) (φ := .f32) (s := S8x4x4096x128) (t := S8x4x4096x128) (u := S_) ![1, 1, 4096, 1] ![1, 1, 1, 1] ![0, 0, 4095, 0] ![0, 0, 0, 0] x z h hu (ix4 b a t d)
      = ∑ s : Fin 4096, if s ≤ t then x (ix4 b a s d) else 0 := by
  unfold Host.reduceWindowAdd
  rw [Ideal.hostReduceWindowAdd_def]
  unfold Ideal.hostReduceWindowAdd Host.reduceWindow
  simp only []
  rw [foldl_add, hz, zero_add]
  refine (Equiv.sum_comp W.rowMajor.symm (fun w : W.Idx => if hin : ∀ c : Fin 4, (![0, 0, 4095, 0] : Fin 4 → ℕ) c ≤ ((ix4 b a t d : S8x4x4096x128.Idx) c).val * (![1, 1, 1, 1] : Fin 4 → ℕ) c + (w c).val
        ∧ ((ix4 b a t d : S8x4x4096x128.Idx) c).val * (![1, 1, 1, 1] : Fin 4 → ℕ) c + (w c).val - (![0, 0, 4095, 0] : Fin 4 → ℕ) c < S8x4x4096x128.size c
      then x (fun c => ⟨_, (hin c).2⟩) else 0)).trans ?_
  rw [← Equiv.sum_comp winEquiv.symm]
  have key : ∀ i : Fin 4096, (if hin : ∀ c : Fin 4, (![0, 0, 4095, 0] : Fin 4 → ℕ) c ≤ ((ix4 b a t d : S8x4x4096x128.Idx) c).val * (![1, 1, 1, 1] : Fin 4 → ℕ) c + (winEquiv.symm i c).val
        ∧ ((ix4 b a t d : S8x4x4096x128.Idx) c).val * (![1, 1, 1, 1] : Fin 4 → ℕ) c + (winEquiv.symm i c).val - (![0, 0, 4095, 0] : Fin 4 → ℕ) c < S8x4x4096x128.size c
      then x (fun c => ⟨_, (hin c).2⟩) else 0) = if hi : 4095 ≤ t.val + i.val then x (ix4 b a ⟨t.val + i.val - 4095, by omega⟩ d) else 0 := fun i => by
    by_cases hi : 4095 ≤ t.val + i.val
    · rw [dif_pos hi, dif_pos fun c => by
        match c with
        | ⟨0, _⟩ => show 0 ≤ b.val * 1 + 0 ∧ b.val * 1 + 0 - 0 < 8; omega
        | ⟨1, _⟩ => show 0 ≤ a.val * 1 + 0 ∧ a.val * 1 + 0 - 0 < 4; omega
        | ⟨2, _⟩ => show 4095 ≤ t.val * 1 + i.val ∧ t.val * 1 + i.val - 4095 < 4096; omega
        | ⟨3, _⟩ => show 0 ≤ d.val * 1 + 0 ∧ d.val * 1 + 0 - 0 < 128; omega]
      refine congrArg x (funext fun c => Fin.ext ?_)
      match c with
      | ⟨0, _⟩ => show b.val * 1 + 0 - 0 = b.val; omega
      | ⟨1, _⟩ => show a.val * 1 + 0 - 0 = a.val; omega
      | ⟨2, _⟩ => show t.val * 1 + i.val - 4095 = t.val + i.val - 4095; omega
      | ⟨3, _⟩ => show d.val * 1 + 0 - 0 = d.val; omega
    · rw [dif_neg hi, dif_neg fun hin => hi (by have := (hin 2).1; change 4095 ≤ t.val * 1 + i.val at this; omega)]
  rw [Finset.sum_congr rfl fun i _ => key i]
  rw [← Finset.sum_filter_add_sum_filter_not Finset.univ (fun i : Fin 4096 => 4095 ≤ t.val + i.val),
    Finset.sum_eq_zero (s := Finset.filter (fun i : Fin 4096 => ¬ 4095 ≤ t.val + i.val) _) (fun i hi => dif_neg (Finset.mem_filter.1 hi).2), add_zero,
    ← Finset.sum_filter]
  refine Finset.sum_bij' (fun i hi => ⟨t.val + i.val - 4095, by omega⟩) (fun s hs => ⟨s.val + 4095 - t.val, by
      have : s.val ≤ t.val := (Finset.mem_filter.1 hs).2
      have := s.isLt
      omega⟩) (fun i hi => ?_) (fun s hs => ?_) (fun i hi => ?_) (fun s hs => ?_) (fun i hi => ?_)
  · exact Finset.mem_filter.2 ⟨Finset.mem_univ _, by show t.val + i.val - 4095 ≤ t.val; omega⟩
  · have : s.val ≤ t.val := (Finset.mem_filter.1 hs).2
    exact Finset.mem_filter.2 ⟨Finset.mem_univ _, by show 4095 ≤ t.val + (s.val + 4095 - t.val); omega⟩
  · have : 4095 ≤ t.val + i.val := (Finset.mem_filter.1 hi).2
    exact Fin.ext (by show t.val + i.val - 4095 + 4095 - t.val = i.val; omega)
  · have : s.val ≤ t.val := (Finset.mem_filter.1 hs).2
    exact Fin.ext (by show t.val + (s.val + 4095 - t.val) - 4095 = s.val; omega)
  · exact dif_pos (Finset.mem_filter.1 hi).2

end Cert.Reference4Ideal.Layer

end
-- ==== Proof.RecRead.lean ====
/- The reference's stages, each read at an index. -/
module

public import proofs.«01_k».proof.Proof.RecSum
public import Idealize.ShloMosaic.Lib.WordCmp

@[expose] public section

set_option maxRecDepth 16384

noncomputable section

namespace Cert.Reference4Ideal.Layer

open Cert.Reference4Ideal Cert.Reference4Ideal.Gen Cert.Reference4Ideal.Read
open Idealize.ShloMosaic Idealize.ShloMosaic.TcCoe Idealize.SL.Sem

variable (x : S8x4096x2048.Idx → EReal) (l : S512.Idx → EReal) (g : S128.Idx → EReal)

theorem f_apply (b : Fin 8) (a : Fin 4) (s : Fin 4096) (d : Fin 128) : val_main_v19 (F := Ideal) x l (ix4 b a s d)
    = l (ix1 (⟨a * 128 + d, by omega⟩ : Fin 512)) + (1 - l (ix1 (⟨a * 128 + d, by omega⟩ : Fin 512)))
      * Ideal.div 1 (1 + Ideal.exp (-x (ix3 b s (⟨512 + (a * 128 + d), by omega⟩ : Fin 2048)))) := by
  pointwise [val_main_v19, val_main_v18, val_main_v17, val_main_v16, val_main_v15, val_main_v14, val_main_v13, val_main_v12, val_main_v11, val_main_v10, val_main_cst_1, val_main_v9, val_main_v8, val_main_cst_0, val_main_v7, val_main_v6, val_main_v5, val_main_v4, val_main_cst, val_main_v1]

theorem q_apply (b : Fin 8) (a : Fin 4) (s : Fin 4096) (d : Fin 128) : val_main_v22 (F := Ideal) x (ix4 b a s d)
    = x (ix3 b s (⟨a * 128 + d, by omega⟩ : Fin 2048)) * Ideal.div 1 (1 + Ideal.exp (-x (ix3 b s (⟨a * 128 + d, by omega⟩ : Fin 2048)))) := by
  pointwise [val_main_v22, val_main_v21, val_main_v20, val_main_call0_v5, val_main_call0_v4, val_main_call0_cst_0, val_main_call0_v3, val_main_call0_v2, val_main_call0_cst, val_main_call0_v1, val_main_call0_v0, val_main_v0]

theorem v_apply (b : Fin 8) (a : Fin 4) (s : Fin 4096) (d : Fin 128) : val_main_v24 (F := Ideal) x (ix4 b a s d)
    = x (ix3 b s (⟨1024 + (a * 128 + d), by omega⟩ : Fin 2048)) := by
  pointwise [val_main_v24, val_main_v23, val_main_v2]

theorem gate_apply (b : Fin 8) (s : Fin 4096) (d : Fin 512) : val_main_v62 (F := Ideal) x (ix3 b s d)
    = x (ix3 b s (⟨1536 + d, by omega⟩ : Fin 2048)) * Ideal.div 1 (1 + Ideal.exp (-x (ix3 b s (⟨1536 + d, by omega⟩ : Fin 2048)))) := by
  pointwise [val_main_v62, val_main_call4_v5, val_main_call4_v4, val_main_call4_cst_0, val_main_call4_v3, val_main_call4_v2, val_main_call4_cst, val_main_call4_v1, val_main_call4_v0, val_main_v3]

theorem log_apply (b : Fin 8) (a : Fin 4) (s : Fin 4096) (d : Fin 128) : val_main_v25 (F := Ideal) x l (ix4 b a s d) = Ideal.log (val_main_v19 (F := Ideal) x l (ix4 b a s d)) := by
  pointwise [val_main_v25]

theorem sum_apply (b : Fin 8) (a : Fin 4) (t : Fin 4096) (d : Fin 128) : val_main_v26 (F := Ideal) x l (ix4 b a t d)
    = ∑ s : Fin 4096, if s ≤ t then val_main_v25 (F := Ideal) x l (ix4 b a s d) else 0 := by
  unfold val_main_v26
  exact running _ _ (fun i => by pointwise [val_main_call1_call0_v0, val_main_call1_call0_cst]) _ _ b a t d

theorem decay_apply (b : Fin 8) (a : Fin 4) (t s : Fin 4096) (d : Fin 128) : val_main_v44 (F := Ideal) x l (ix5 b a t s d)
    = val_main_v22 (F := Ideal) x (ix4 b a t d) * Ideal.exp (Scalar.select
        (Scalar.select (IntOp.cmpi CmpIPredicate.sge (IntOp.addi (BitVec.ofNat 32 t) 0#32) (BitVec.ofNat 32 s)) 1#1 0#1)
        (val_main_v26 (F := Ideal) x l (ix4 b a t d) - val_main_v26 (F := Ideal) x l (ix4 b a s d) : EReal) (Ideal.ofBits .f32 4286578688#32))
      * (1 - val_main_v19 (F := Ideal) x l (ix4 b a s d)) := by
  pointwise [val_main_v44, val_main_v43, val_main_v42, val_main_v41, val_main_v40, val_main_cst_3, val_main_v39, val_main_v38, val_main_v37, val_main_v36, val_main_v35, val_main_call3_v2, val_main_call3_v1, val_main_call3_v0, val_main_cst_2, val_main_v34, val_main_v33, val_main_v32, val_main_v31, val_main_v30, val_main_v29, val_main_v28, val_main_call2_v5, val_main_call2_c_0, val_main_call2_v4, val_main_call2_v3, val_main_call2_v2, val_main_call2_v1, val_main_call2_c, val_main_call2_v0, val_main_v27, val_main_c]
  rfl

theorem o_apply (b : Fin 8) (a : Fin 4) (t : Fin 4096) (e : Fin 128) : val_main_v46 (F := Ideal) x l (ix4 b a t e)
    = ∑ s : Fin 4096, (∑ d : Fin 128, val_main_v44 (F := Ideal) x l (ix5 b a t s d)) * val_main_v24 (F := Ideal) x (ix4 b a s e) := by
  pointwise [val_main_v46, val_main_v45, val_main_cst_4]

theorem out_apply (b : Fin 8) (t : Fin 4096) (e : Fin 512) : val_main_v64 (F := Ideal) x l g (ix3 b t e)
    = val_main_v46 (F := Ideal) x l (ix4 b (⟨e / 128, by omega⟩ : Fin 4) t (⟨e % 128, by omega⟩ : Fin 128))
      * Ideal.rsqrt (Ideal.div (∑ k : Fin 128, val_main_v46 (F := Ideal) x l (ix4 b (⟨e / 128, by omega⟩ : Fin 4) t k) * val_main_v46 (F := Ideal) x l (ix4 b (⟨e / 128, by omega⟩ : Fin 4) t k))
          (Ideal.ofBits FTy.f32 1124073472#32) + Ideal.ofBits FTy.f32 897988541#32)
      * g (ix1 (⟨e % 128, by omega⟩ : Fin 128)) * val_main_v62 (F := Ideal) x (ix3 b t e) := by
  pointwise [val_main_v64, val_main_v63, val_main_v61, val_main_v60, val_main_v59, val_main_v58, val_main_v57, val_main_v56, val_main_v55, val_main_v54, val_main_v53, val_main_cst_7, val_main_v52, val_main_v51, val_main_cst_6, val_main_v50, val_main_v49, val_main_cst_5, val_main_v48, val_main_v47]

end Cert.Reference4Ideal.Layer

end
-- ==== Proof.RecRef.lean ====
/- The reference's value, read at an index, is the layer's. -/
module

public import proofs.«01_k».proof.Proof.RecRead
public import proofs.«01_k».proof.Proof.RecArray

@[expose] public section

set_option maxRecDepth 16384

noncomputable section

namespace Cert.Reference4Ideal.Layer

open Cert.Reference4Ideal Cert.Reference4Ideal.Gen Cert.Reference4Ideal.Read
open Cert.Kernel4Ideal.Block
open Idealize.ShloMosaic Idealize.ShloMosaic.TcCoe Idealize.SL.Sem

theorem sig_real (z : ℝ) : Ideal.div 1 (1 + Ideal.exp (-(z : EReal))) = ((sg z : ℝ) : EReal) := by
  have e : Ideal.exp (-(z : EReal)) = ((Real.exp (-z) : ℝ) : EReal) := by rw [← EReal.coe_neg]; rfl
  rw [e, ← EReal.coe_one, ← EReal.coe_add, Ideal.div_coe (by positivity), ← EReal.coe_mul]
  congr 1
  unfold sg
  rw [one_div, one_mul]

theorem range_of_le (f : ℕ → ℝ) (t : Fin 4096) : (∑ s : Fin 4096, if s ≤ t then f s else 0) = ∑ s ∈ Finset.range (t + 1), f s := by
  have e : (∑ s : Fin 4096, if s ≤ t then f s else 0) = ∑ s : Fin 4096, (fun n : ℕ => if n ≤ (t : ℕ) then f n else 0) (s : ℕ) := rfl
  rw [e, Fin.sum_univ_eq_sum_range (fun n : ℕ => if n ≤ (t : ℕ) then f n else 0) 4096, ← Finset.sum_filter]
  refine Finset.sum_congr (Finset.ext fun n => ?_) fun _ _ => rfl
  have := t.isLt
  simp only [Finset.mem_filter, Finset.mem_range]
  omega

theorem ite_coe (p : Prop) [Decidable p] (r : ℝ) : (if p then (r : EReal) else 0) = ((if p then r else 0 : ℝ) : EReal) := by
  split <;> simp

theorem row_word (t s : Fin 4096) : Scalar.select (IntOp.cmpi CmpIPredicate.sge (IntOp.addi (BitVec.ofNat 32 t) 0#32) (BitVec.ofNat 32 s)) 1#1 0#1 = BitVec.ofBool (decide (s ≤ t)) := by
  have e : IntOp.addi (BitVec.ofNat 32 t) 0#32 = BitVec.ofNat 32 t := BitVec.add_zero _
  rw [e, WordCmp.cmpi_sge_ofNat (w := 32) (lt_of_lt_of_le t.isLt (by norm_num)) (lt_of_lt_of_le s.isLt (by norm_num))]
  by_cases h : s ≤ t
  · have h' : (s : ℕ) ≤ t := h
    simp [Scalar.select, h, h']
  · have h' : ¬(s : ℕ) ≤ t := h
    simp [Scalar.select, h, h']

theorem bot_word : Ideal.ofBits .f32 4286578688#32 = (⊥ : EReal) := by simp [Ideal.ofBits, Ideal.ieee]

variable {x : S8x4096x2048.Idx → EReal} {l : S512.Idx → EReal} (g : S128.Idx → EReal) (hO : Open x l)
include hO

theorem f_real (b : Fin 8) (a : Fin 4) (s : Fin 4096) (d : Fin 128) : val_main_v19 (F := Ideal) x l (ix4 b a s d)
    = ((fg (Lr l (128 * a + d)) (zfOf x b s (128 * a + d)) : ℝ) : EReal) := by
  have e : 128 * (a : ℕ) + d = a * 128 + d := by omega
  rw [f_apply, hO.lr, hO.zf b s (⟨a * 128 + d, by omega⟩ : Fin 512), sig_real, e]
  simp only [fg, EReal.coe_add, EReal.coe_mul, EReal.coe_sub, EReal.coe_one]

theorem q_real (b : Fin 8) (a : Fin 4) (s : Fin 4096) (d : Fin 128) : val_main_v22 (F := Ideal) x (ix4 b a s d) = ((qf (zqOf x b) s (128 * a + d) : ℝ) : EReal) := by
  have e : 128 * (a : ℕ) + d = a * 128 + d := by omega
  rw [q_apply, hO.zq b s (⟨a * 128 + d, by omega⟩ : Fin 512), sig_real, e, ← EReal.coe_mul]
  rfl

theorem v_real (b : Fin 8) (a : Fin 4) (s : Fin 4096) (d : Fin 128) : val_main_v24 (F := Ideal) x (ix4 b a s d) = ((ziOf x b s (128 * a + d) : ℝ) : EReal) := by
  have e : 128 * (a : ℕ) + d = a * 128 + d := by omega
  rw [v_apply, hO.zi b s (⟨a * 128 + d, by omega⟩ : Fin 512), e]

theorem gate_real (b : Fin 8) (s : Fin 4096) (d : Fin 512) : val_main_v62 (F := Ideal) x (ix3 b s d) = ((zgOf x b s d * sg (zgOf x b s d) : ℝ) : EReal) := by
  rw [gate_apply, hO.zg b s d, sig_real, ← EReal.coe_mul]

theorem sum_real (b : Fin 8) (a : Fin 4) (t : Fin 4096) (d : Fin 128) : val_main_v26 (F := Ideal) x l (ix4 b a t d)
    = ((PS (gf (Lr l) (zfOf x b)) (t + 1) (128 * a + d) : ℝ) : EReal) := by
  rw [sum_apply]
  have h : ∀ s : Fin 4096, (if s ≤ t then val_main_v25 (F := Ideal) x l (ix4 b a s d) else 0)
      = ((if s ≤ t then gf (Lr l) (zfOf x b) s (128 * a + d) else 0 : ℝ) : EReal) := fun s => by
    rw [log_apply, f_real hO, log_real _ (fg_pos (hO.L0 _) (hO.L1 _) _), ite_coe]
    rfl
  rw [Finset.sum_congr rfl fun s _ => h s, csum, range_of_le (fun s => gf (Lr l) (zfOf x b) s (128 * a + d))]
  rfl

theorem decay_real (b : Fin 8) (a : Fin 4) (t s : Fin 4096) (d : Fin 128) : val_main_v44 (F := Ideal) x l (ix5 b a t s d)
    = ((if s ≤ t then qf (zqOf x b) t (128 * a + d) * kf (Lr l) (zfOf x b) s (128 * a + d)
        * Real.exp (PS (gf (Lr l) (zfOf x b)) (t + 1) (128 * a + d) - PS (gf (Lr l) (zfOf x b)) (s + 1) (128 * a + d)) else 0 : ℝ) : EReal) := by
  rw [decay_apply, q_real hO, f_real hO, sum_real hO, sum_real hO, row_word, bot_word, ← EReal.coe_one, ← EReal.coe_sub, ← EReal.coe_sub]
  by_cases h : s ≤ t
  · rw [if_pos h, show BitVec.ofBool (decide (s ≤ t)) = 1#1 by simp [h]]
    show ((_ : ℝ) : EReal) * ((Real.exp _ : ℝ) : EReal) * _ = _
    rw [← EReal.coe_mul, ← EReal.coe_mul]
    congr 1
    unfold kf
    ring
  · rw [if_neg h, show BitVec.ofBool (decide (s ≤ t)) = 0#1 by simp [h]]
    show ((_ : ℝ) : EReal) * Ideal.exp ⊥ * _ = _
    rw [show Ideal.exp ⊥ = (0 : EReal) from rfl, mul_zero, zero_mul]
    rfl

theorem o_real (b : Fin 8) (a : Fin 4) (t : Fin 4096) (e : Fin 128) : val_main_v46 (F := Ideal) x l (ix4 b a t e)
    = ((OS (qf (zqOf x b)) (kf (Lr l) (zfOf x b)) (gf (Lr l) (zfOf x b)) (ziOf x b) t (128 * a) e : ℝ) : EReal) := by
  rw [o_apply]
  have h : ∀ s : Fin 4096, (∑ d : Fin 128, val_main_v44 (F := Ideal) x l (ix5 b a t s d)) * val_main_v24 (F := Ideal) x (ix4 b a s e)
      = ((if s ≤ t then (∑ d : Fin 128, qf (zqOf x b) t (128 * a + d) * kf (Lr l) (zfOf x b) s (128 * a + d)
          * Real.exp (PS (gf (Lr l) (zfOf x b)) (t + 1) (128 * a + d) - PS (gf (Lr l) (zfOf x b)) (s + 1) (128 * a + d))) * ziOf x b s (128 * a + e) else 0 : ℝ) : EReal) := fun s => by
    rw [Finset.sum_congr rfl fun d _ => decay_real hO b a t s d, csum, v_real hO, ← EReal.coe_mul]
    congr 1
    by_cases h : s ≤ t
    · simp only [if_pos h]
    · simp only [if_neg h, Finset.sum_const_zero, zero_mul]
  rw [Finset.sum_congr rfl fun s _ => h s, csum,
    range_of_le (fun s => (∑ d : Fin 128, qf (zqOf x b) t (128 * a + d) * kf (Lr l) (zfOf x b) s (128 * a + d)
          * Real.exp (PS (gf (Lr l) (zfOf x b)) (t + 1) (128 * a + d) - PS (gf (Lr l) (zfOf x b)) (s + 1) (128 * a + d))) * ziOf x b s (128 * a + e))]
  rfl

theorem ref_eq : val_main_v64 (F := Ideal) x l g = layer x l g := by
  funext i
  obtain ⟨b, t, k, rfl⟩ : ∃ (b : Fin 8) (t : Fin 4096) (k : Fin 512), i = ix3 b t k := ⟨i 0, i 1, i 2, eq_ix3 i⟩
  rw [out_apply, gate_real hO]
  simp only [o_real hO]
  rfl

end Cert.Reference4Ideal.Layer

end
-- ==== Proof.lean ====
/- The proof of the certificate's claim: the frames are the generated ones, the kernel's ideal program differs from the kernel by
   nothing but the reading of its floats, and the two ideal programs end in the same array (`Block.run`, `Layer.ref_eq`),
   for the perceptron's call with and without the last norm and for the input projection. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.MlpArray
public import proofs.«01_k».proof.Proof.MlpRef
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.InArray
public import proofs.«01_k».proof.Proof.InRef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.TailArray
public import proofs.«01_k».proof.Proof.TailRef
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame.Runs
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame.Runs
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_gates_open
public import proofs.«01_k».proof.Proof.RecKFrame
public import proofs.«01_k».proof.Proof.RecFrame
public import proofs.«01_k».proof.Proof.RecArray
public import proofs.«01_k».proof.Proof.RecPre
public import proofs.«01_k».proof.Proof.RecRef
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged and no semaphore raised. -/
theorem frame_ref : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two ideal programs end in the same array. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => Cert.KernelIdeal.Block.result m c, Cert.KernelIdeal.Block.run m ρ,
    (θ_run _ _ _).mono (fun _ h c => ⟨(h c).1.trans (by
      rw [Cert.ReferenceIdeal.Read.val_main_v34_eq, Cert.ReferenceIdeal.Layer.ref_eq, (hag c).1, (hag c).2.1, (hag c).2.2.1,
        (hag c).2.2.2.1, (hag c).2.2.2.2.1, (hag c).2.2.2.2.2.1, (hag c).2.2.2.2.2.2.1, (hag c).2.2.2.2.2.2.2]), (h c).2⟩)
      (Cert.ReferenceIdeal.Value.run m' ρ')⟩

/-- The input projection's reference ends with its arguments unchanged and no semaphore raised. -/
theorem frame_ref2 : Cert.quiescent_Reference2Ideal (hReference2Ideal := Cert.Reference2Ideal.Gen.facts) := fun m ρ _ =>
  (θ_run Cert.Reference2Ideal.defs _ _).mono
    (fun r h => ⟨fun c => (h c).2.2.2.2, Idealize.ShloMosaic.sem_eq_zero_of_no_sems (by decide) r.2⟩)
    (Cert.Reference2Ideal.Value.run (F := Ideal) m ρ)

/-- The input projection's two ideal programs end in the same four arrays. -/
theorem algebraic2 : Cert.algebraic_Kernel2Ideal_Reference2Ideal (hKernel2Ideal := Cert.Kernel2Ideal.Gen.facts)
    (hReference2Ideal := Cert.Reference2Ideal.Gen.facts) := fun m ρ m' ρ' _ hag =>
  ⟨fun c => Cert.Kernel2Ideal.Block.result6 m c, fun c => Cert.Kernel2Ideal.Block.result7 m c,
    fun c => Cert.Kernel2Ideal.Block.result8 m c, fun c => Cert.Kernel2Ideal.Block.result9 m c, Cert.Kernel2Ideal.Block.run m ρ,
    (θ_run _ _ _).mono (fun _ h c =>
      ⟨(h c).1.trans (by rw [Cert.Reference2Ideal.Read.val_main_v26_eq, Cert.Reference2Ideal.Layer.queries_eq, (hag c).1, (hag c).2.1, (hag c).2.2]),
       (h c).2.1.trans (by rw [Cert.Reference2Ideal.Read.val_main_v27_eq, Cert.Reference2Ideal.Layer.keys_eq, (hag c).1, (hag c).2.1, (hag c).2.2]),
       (h c).2.2.1.trans (by rw [Cert.Reference2Ideal.Read.val_main_v29_eq, Cert.Reference2Ideal.Layer.values_eq, (hag c).1, (hag c).2.1, (hag c).2.2]),
       (h c).2.2.2.1.trans (by rw [Cert.Reference2Ideal.Read.val_main_v18_eq, Cert.Reference2Ideal.Layer.gates_eq, (hag c).1, (hag c).2.1, (hag c).2.2]),
       (h c).2.2.2.2⟩)
      (Cert.Reference2Ideal.Value.run m' ρ')⟩

/-- The reference of the call without the last norm ends with its arguments unchanged and no semaphore raised. -/
theorem frame_ref3 : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The two ideal programs of the call without the last norm end in the same array. -/
theorem algebraic3 : Cert.algebraic_Kernel3Ideal_Reference3Ideal (hKernel3Ideal := Cert.Kernel3Ideal.Gen.facts)
    (hReference3Ideal := Cert.Reference3Ideal.Gen.facts) := fun m ρ m' ρ' _ hag =>
  ⟨fun c => Cert.Kernel3Ideal.Block.result m c, Cert.Kernel3Ideal.Block.run m ρ,
    (θ_run _ _ _).mono (fun _ h c => ⟨(h c).1.trans (by
      rw [Cert.Reference3Ideal.Read.val_main_v21_eq, Cert.Reference3Ideal.Layer.ref_eq, (hag c).1, (hag c).2.1, (hag c).2.2.1,
        (hag c).2.2.2.1, (hag c).2.2.2.2.1, (hag c).2.2.2.2.2.1, (hag c).2.2.2.2.2.2.1]), (h c).2⟩)
      (Cert.Reference3Ideal.Value.run m' ρ')⟩

/-- The recurrence's reference ends with its arguments unchanged and no semaphore raised. -/
theorem frame_ref4 : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The two constants' names denote what they are declared to be. -/
theorem preserves4 : Cert.preserves_Kernel4_Kernel4Ideal :=
  ⟨IdealRules.named_const.statement Cert.Kernel4Ideal.κ "log2e" .f32 0x3FB8AA3B#32 (((Real.log 2)⁻¹ : ℝ) : EReal) rfl,
    IdealRules.named_const.statement Cert.Kernel4Ideal.κ "neg_log2e" .f32 0xBFB8AA3B#32 (((-1) * (Real.log 2)⁻¹ : ℝ) : EReal) rfl⟩

/-- Where the gates are open, the recurrence's two ideal programs end in the same array. -/
theorem algebraic4 : Cert.algebraic_Kernel4Ideal_Reference4Ideal_pre_gates_open (hKernel4Ideal := Cert.Kernel4Ideal.Gen.facts)
    (hReference4Ideal := Cert.Reference4Ideal.Gen.facts) (hPre_gates_open := Cert.Pre_gates_open.Gen.facts) := fun m ρ m' ρ' hpre hag => by
  have hO : ∀ c, Cert.Kernel4Ideal.Block.Open (Cert.Kernel4Ideal.Block.argX m c) (Cert.Kernel4Ideal.Block.argL m c) := fun c =>
    haveI := Cert.Pre_gates_open.Gen.facts
    Cert.Kernel4Ideal.Block.open_of _ _ _ (hpre c)
  exact ⟨fun c => Cert.Kernel4Ideal.Block.result m c, Cert.Kernel4Ideal.Block.run m ρ hO,
    (θ_run _ _ _).mono (fun _ h c => ⟨(h c).1.trans (by
      rw [Cert.Reference4Ideal.Read.val_main_v64_eq, (hag c).1, (hag c).2.1, (hag c).2.2]
      exact Cert.Reference4Ideal.Layer.ref_eq _ (hO c)), (h c).2⟩)
      (Cert.Reference4Ideal.Value.run m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_gates_open.Gen.facts,
    fun m ρ _ => Cert.Kernel.Gen.frame m ρ,
    fun m ρ _ => Cert.KernelIdeal.Gen.frame m ρ,
    frame_ref,
    fun m ρ _ => Cert.Kernel2.Gen.frame m ρ,
    fun m ρ _ => Cert.Kernel2Ideal.Gen.frame m ρ,
    frame_ref2,
    fun m ρ _ => Cert.Kernel3.Gen.frame m ρ,
    fun m ρ _ => Cert.Kernel3Ideal.Gen.frame m ρ,
    frame_ref3,
    fun m ρ _ => Cert.Kernel4.Gen.frame m ρ,
    fun m ρ _ => Cert.Kernel4Ideal.Gen.frame m ρ,
    fun m ρ _ => Cert.Kernel4Ideal.Gen.frame m ρ,
    frame_ref4,
    fun m ρ _ => frame_ref4 m ρ trivial,
    trivial, algebraic, trivial, algebraic2, trivial, algebraic3, preserves4, algebraic4⟩

end Cert.Proof

end
